-- ==== Defs.lean ====
def Pre_Kernel [hPre_sizes_partition_rows : Cert.Pre_sizes_partition_rows.Facts] (m : (ℓ : Loc Cert.Kernel.nD Cert.Kernel.τ Cert.Kernel.sig) → Buf (Elt Bits) ℓ) : Prop :=
  ∀ c : Dev Cert.Kernel.nD,
    (Cert.Pre_sizes_partition_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_partition_rows : Cert.Pre_sizes_partition_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_partition_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_partition_rows [hPre_sizes_partition_rows : Cert.Pre_sizes_partition_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_partition_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_partition_rows : Cert.Pre_sizes_partition_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_partition_rows [hReferenceIdeal : Cert.ReferenceIdeal.Facts] [hPre_sizes_partition_rows : Cert.Pre_sizes_partition_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_partition_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_partition_rows : Cert.Pre_sizes_partition_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_partition_rows : Cert.Pre_sizes_partition_rows.Facts),
    quiescent_Kernel (hKernel := hKernel) (hPre_sizes_partition_rows := hPre_sizes_partition_rows)
    ∧ quiescent_KernelIdeal (hKernelIdeal := hKernelIdeal) (hPre_sizes_partition_rows := hPre_sizes_partition_rows)
    ∧ quiescent_ReferenceIdeal (hReferenceIdeal := hReferenceIdeal)
    ∧ quiescent_ReferenceIdeal_pre_sizes_partition_rows (hReferenceIdeal := hReferenceIdeal) (hPre_sizes_partition_rows := hPre_sizes_partition_rows)
    ∧ preserves_Kernel_KernelIdeal
    ∧ algebraic_KernelIdeal_ReferenceIdeal (hKernelIdeal := hKernelIdeal) (hReferenceIdeal := hReferenceIdeal) (hPre_sizes_partition_rows := hPre_sizes_partition_rows)
-- ==== Pre_sizes_partition_rows.lean ====
abbrev S12288x1024 : Shape := ⟨2, ![12288, 1024]⟩
abbrev S4 : Shape := ⟨1, ![4]⟩
abbrev S4x1024x5120 : Shape := ⟨3, ![4, 1024, 5120]⟩
abbrev S4x5120 : Shape := ⟨2, ![4, 5120]⟩
abbrev S1 : Shape := ⟨1, ![1]⟩
abbrev S_ : Shape := ⟨0, ![]⟩

class Facts : Prop where
  slices_S4_S1_0 : S4.Slices ![0] S1
  slices_S4_S1_1 : S4.Slices ![1] S1
  slices_S4_S1_2 : S4.Slices ![2] S1
  slices_S4_S1_3 : S4.Slices ![3] S1
  bcast_S_S4 : S_.BroadcastsInDim S4 (![] : Fin 0 → Fin S4.rank)
  bcast_S_S1 : S_.BroadcastsInDim S1 (![] : Fin 0 → Fin S1.rank)
  bcast_S1_S4_0 : S1.BroadcastsInDim S4 (![0] : Fin 1 → Fin S4.rank)

variable [Facts]

def fn {F : FTy → Type} [FloatOps F] (main_arg0 : FVec F S12288x1024 .bf16) (main_arg1 : IVec S4 32) (main_arg2 : FVec F S4 .f32) (main_arg3 : FVec F S4x1024x5120 .fp8e4m3) (main_arg4 : FVec F S4x5120 .f32) : IVec S4 1 :=
  let main_v0 : IVec S1 32 := (extractStridedSlice S1 ![0] · slices_S4_S1_0) main_arg1
  let main_v1 : IVec S1 32 := (extractStridedSlice S1 ![1] · slices_S4_S1_1) main_arg1
  let main_v2 : IVec S1 32 := addi main_v0 main_v1
  let main_v3 : IVec S1 32 := (extractStridedSlice S1 ![2] · slices_S4_S1_2) main_arg1
  let main_v4 : IVec S1 32 := addi main_v2 main_v3
  let main_v5 : IVec S1 32 := (extractStridedSlice S1 ![3] · slices_S4_S1_3) main_arg1
  let main_v6 : IVec S1 32 := addi main_v4 main_v5
  let main_c : IVec S_ 32 := constantI S_ 32 0#32
  let main_v7 : IVec S4 32 := broadcastInDim S4 ![] bcast_S_S4 main_c
  let main_v8 : IVec S4 1 := cmpi .sge main_arg1 main_v7
  let main_c_0 : IVec S_ 32 := constantI S_ 32 12288#32
  let main_v9 : IVec S4 32 := broadcastInDim S4 ![] bcast_S_S4 main_c_0
  let main_v10 : IVec S4 1 := cmpi .sle main_arg1 main_v9
  let main_v11 : IVec S4 1 := andi main_v8 main_v10
  let main_c_1 : IVec S_ 32 := constantI S_ 32 12288#32
  let main_v12 : IVec S1 32 := broadcastInDim S1 ![] bcast_S_S1 main_c_1
  let main_v13 : IVec S1 1 := cmpi .eq main_v6 main_v12
  let main_v14 : IVec S4 1 := broadcastInDim S4 ![0] bcast_S1_S4_0 main_v13
  let main_v15 : IVec S4 1 := andi main_v11 main_v14
  main_v15
-- ==== Kernel.lean ====
abbrev S12288x1024 : Shape := ⟨2, ![12288, 1024]⟩
abbrev S4 : Shape := ⟨1, ![4]⟩
abbrev S4x1024x5120 : Shape := ⟨3, ![4, 1024, 5120]⟩
abbrev S4x5120 : Shape := ⟨2, ![4, 5120]⟩
abbrev S12288x5120 : Shape := ⟨2, ![12288, 5120]⟩
abbrev S512x1024 : Shape := ⟨2, ![512, 1024]⟩
abbrev S512x5120 : Shape := ⟨2, ![512, 5120]⟩
abbrev S1 : Shape := ⟨1, ![1]⟩
abbrev S_ : Shape := ⟨0, ![]⟩
abbrev S1x1024x5120 : Shape := ⟨3, ![1, 1024, 5120]⟩
abbrev S1024x5120 : Shape := ⟨2, ![1024, 5120]⟩
abbrev S1x1024x512 : Shape := ⟨3, ![1, 1024, 512]⟩
abbrev S1024x512 : Shape := ⟨2, ![1024, 512]⟩
abbrev S512x512 : Shape := ⟨2, ![512, 512]⟩
abbrev S1x512 : Shape := ⟨2, ![1, 512]⟩
abbrev S512x1 : Shape := ⟨2, ![512, 1]⟩

abbrev nBuf : Space → Nat
  | .hbm => 6
  | .vmem => 6
  | .smem => 2
  | _ => 0

abbrev bufTy : (tb : Table) → Fin (tcTables nBuf tb) → BufTy
  | .hbm, ⟨0, _⟩ => ⟨S12288x1024, .bf16⟩
  | .hbm, ⟨1, _⟩ => ⟨S4, .i32⟩
  | .hbm, ⟨2, _⟩ => ⟨S4, .f32⟩
  | .hbm, ⟨3, _⟩ => ⟨S4x1024x5120, .fp8e4m3⟩
  | .hbm, ⟨4, _⟩ => ⟨S4x5120, .f32⟩
  | .hbm, ⟨5, _⟩ => ⟨S12288x5120, .bf16⟩
  | .local _ .vmem, ⟨0, _⟩ => ⟨S512x1024, .bf16⟩
  | .local _ .vmem, ⟨1, _⟩ => ⟨S512x1024, .bf16⟩
  | .local _ .vmem, ⟨2, _⟩ => ⟨S4x5120, .f32⟩
  | .local _ .vmem, ⟨3, _⟩ => ⟨S512x5120, .bf16⟩
  | .local _ .vmem, ⟨4, _⟩ => ⟨S512x5120, .bf16⟩
  | .local _ .vmem, ⟨5, _⟩ => ⟨S4x1024x5120, .fp8e4m3⟩
  | .local _ .smem, ⟨0, _⟩ => ⟨S4, .i32⟩
  | .local _ .smem, ⟨1, _⟩ => ⟨S4, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![24], ![false]⟩

def k0_off1 (i : grid0.Coords) (v1 : BitVec 32) (v3 : BitVec 32) (v5 : BitVec 32) (v7 : BitVec 32) : Fin 1 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v86 : Index := Scalar.indexCast v74
  ![v86.toNat]
def k0_cond10 (i : grid0.Coords) (v1 : BitVec 32) (v3 : BitVec 32) (v5 : BitVec 32) (v7 : BitVec 32) : BitVec 1 :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c0_i32_22 : BitVec 32 := 0#32
  let c512_i32_21 : BitVec 32 := 512#32
  let v51 : BitVec 32 := Scalar.addi v0 c512_i32_21
  let c1_i32 : BitVec 32 := 1#32
  let v52 : BitVec 32 := Scalar.subi v51 c1_i32
  let v53 : BitVec 1 := Scalar.cmpi .sle v2 v52
  let v54 : BitVec 32 := Scalar.extui v53
  let v55 : BitVec 32 := Scalar.addi c0_i32_22 v54
  let c512_i32_23 : BitVec 32 := 512#32
  let v59 : BitVec 32 := Scalar.addi v0 c512_i32_23
  let c1_i32_24 : BitVec 32 := 1#32
  let v60 : BitVec 32 := Scalar.subi v59 c1_i32_24
  let v61 : BitVec 1 := Scalar.cmpi .sle v4 v60
  let v62 : BitVec 32 := Scalar.extui v61
  let v63 : BitVec 32 := Scalar.addi v55 v62
  let c512_i32_25 : BitVec 32 := 512#32
  let v67 : BitVec 32 := Scalar.addi v0 c512_i32_25
  let c1_i32_26 : BitVec 32 := 1#32
  let v68 : BitVec 32 := Scalar.subi v67 c1_i32_26
  let v69 : BitVec 1 := Scalar.cmpi .sle v6 v68
  let v70 : BitVec 32 := Scalar.extui v69
  let v71 : BitVec 32 := Scalar.addi v63 v70
  let c512_i32_27 : BitVec 32 := 512#32
  let v75 : BitVec 32 := Scalar.addi v0 c512_i32_27
  let c1_i32_28 : BitVec 32 := 1#32
  let v76 : BitVec 32 := Scalar.subi v75 c1_i32_28
  let v77 : BitVec 1 := Scalar.cmpi .sle v8 v76
  let v78 : BitVec 32 := Scalar.extui v77
  let v79 : BitVec 32 := Scalar.addi v71 v78
  let v80 : BitVec 1 := Scalar.cmpi .eq v74 v79
  let v81 : BitVec 32 := Scalar.extui v80
  let c0_i32_29 : BitVec 32 := 0#32
  let v82 : BitVec 1 := Scalar.cmpi .ne v81 c0_i32_29
  v82

def k0_off2 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v97 : Index := Scalar.indexCast v74
  let c0_34 : Index := 0#32
  let c0_35 : Index := 0#32
  ![v97.toNat, 0, 0]
def k0_off3 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v101 : Index := Scalar.indexCast v74
  let c0_37 : Index := 0#32
  ![v101.toNat, 0]
def k0_off4 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v109 : Index := Scalar.indexCast v74
  let c0_40 : Index := 0#32
  let c512 : Index := 512#32
  ![v109.toNat, 0, 512]
def k0_off5 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v113 : Index := Scalar.indexCast v74
  let c512_42 : Index := 512#32
  ![v113.toNat, 512]
def k0_off6 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v121 : Index := Scalar.indexCast v74
  let c0_45 : Index := 0#32
  let c1024 : Index := 1024#32
  ![v121.toNat, 0, 1024]
def k0_off7 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v125 : Index := Scalar.indexCast v74
  let c1024_47 : Index := 1024#32
  ![v125.toNat, 1024]
def k0_off8 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v133 : Index := Scalar.indexCast v74
  let c0_50 : Index := 0#32
  let c1536 : Index := 1536#32
  ![v133.toNat, 0, 1536]
def k0_off9 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v137 : Index := Scalar.indexCast v74
  let c1536_52 : Index := 1536#32
  ![v137.toNat, 1536]
def k0_off10 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v145 : Index := Scalar.indexCast v74
  let c0_55 : Index := 0#32
  let c2048 : Index := 2048#32
  ![v145.toNat, 0, 2048]
def k0_off11 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v149 : Index := Scalar.indexCast v74
  let c2048_57 : Index := 2048#32
  ![v149.toNat, 2048]
def k0_off12 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v157 : Index := Scalar.indexCast v74
  let c0_60 : Index := 0#32
  let c2560 : Index := 2560#32
  ![v157.toNat, 0, 2560]
def k0_off13 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v161 : Index := Scalar.indexCast v74
  let c2560_62 : Index := 2560#32
  ![v161.toNat, 2560]
def k0_off14 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v169 : Index := Scalar.indexCast v74
  let c0_65 : Index := 0#32
  let c3072 : Index := 3072#32
  ![v169.toNat, 0, 3072]
def k0_off15 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v173 : Index := Scalar.indexCast v74
  let c3072_67 : Index := 3072#32
  ![v173.toNat, 3072]
def k0_off16 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v181 : Index := Scalar.indexCast v74
  let c0_70 : Index := 0#32
  let c3584 : Index := 3584#32
  ![v181.toNat, 0, 3584]
def k0_off17 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v185 : Index := Scalar.indexCast v74
  let c3584_72 : Index := 3584#32
  ![v185.toNat, 3584]
def k0_off18 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v193 : Index := Scalar.indexCast v74
  let c0_75 : Index := 0#32
  let c4096 : Index := 4096#32
  ![v193.toNat, 0, 4096]
def k0_off19 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v197 : Index := Scalar.indexCast v74
  let c4096_77 : Index := 4096#32
  ![v197.toNat, 4096]
def k0_off20 (i : grid0.Coords) (v1 : BitVec 32) (v3 : BitVec 32) (v5 : BitVec 32) (v7 : BitVec 32) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v205 : Index := Scalar.indexCast v74
  let c0_80 : Index := 0#32
  let c4608 : Index := 4608#32
  ![v205.toNat, 0, 4608]
def k0_off21 (i : grid0.Coords) (v1 : BitVec 32) (v3 : BitVec 32) (v5 : BitVec 32) (v7 : BitVec 32) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let v209 : Index := Scalar.indexCast v74
  let c4608_82 : Index := 4608#32
  ![v209.toNat, 4608]
@[reducible] def k0_t1_loop (i : grid0.Coords) (v1 : BitVec 32) (v3 : BitVec 32) (v5 : BitVec 32) (v7 : BitVec 32) : Scf.Loop 32 :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c0_i32_22 : BitVec 32 := 0#32
  let c512_i32_21 : BitVec 32 := 512#32
  let v51 : BitVec 32 := Scalar.addi v0 c512_i32_21
  let c1_i32 : BitVec 32 := 1#32
  let v52 : BitVec 32 := Scalar.subi v51 c1_i32
  let v53 : BitVec 1 := Scalar.cmpi .sle v2 v52
  let v54 : BitVec 32 := Scalar.extui v53
  let v55 : BitVec 32 := Scalar.addi c0_i32_22 v54
  let c512_i32_23 : BitVec 32 := 512#32
  let v59 : BitVec 32 := Scalar.addi v0 c512_i32_23
  let c1_i32_24 : BitVec 32 := 1#32
  let v60 : BitVec 32 := Scalar.subi v59 c1_i32_24
  let v61 : BitVec 1 := Scalar.cmpi .sle v4 v60
  let v62 : BitVec 32 := Scalar.extui v61
  let v63 : BitVec 32 := Scalar.addi v55 v62
  let c512_i32_25 : BitVec 32 := 512#32
  let v67 : BitVec 32 := Scalar.addi v0 c512_i32_25
  let c1_i32_26 : BitVec 32 := 1#32
  let v68 : BitVec 32 := Scalar.subi v67 c1_i32_26
  let v69 : BitVec 1 := Scalar.cmpi .sle v6 v68
  let v70 : BitVec 32 := Scalar.extui v69
  let v71 : BitVec 32 := Scalar.addi v63 v70
  let c512_i32_27 : BitVec 32 := 512#32
  let v75 : BitVec 32 := Scalar.addi v0 c512_i32_27
  let c1_i32_28 : BitVec 32 := 1#32
  let v76 : BitVec 32 := Scalar.subi v75 c1_i32_28
  let v77 : BitVec 1 := Scalar.cmpi .sle v8 v76
  let v78 : BitVec 32 := Scalar.extui v77
  let v79 : BitVec 32 := Scalar.addi v71 v78
  let c1_i32_31 : BitVec 32 := 1#32
  let v89 : BitVec 32 := Scalar.addi v79 c1_i32_31
  let v90 : BitVec 32 := Scalar.subi v89 v74
  let c1_i32_33 : BitVec 32 := 1#32
  let v92 : BitVec 32 := Scalar.divsi v90 c1_i32_33
  let v93 : BitVec 32 := Scalar.muli v92 c1_i32_33
  let v94 : BitVec 32 := Scalar.addi v74 v93
  let c1_i32_34 : BitVec 32 := 1#32
  ⟨v74, v94, c1_i32_34⟩
def k0_cond11 (i : grid0.Coords) (v1 : BitVec 32) (v3 : BitVec 32) (v5 : BitVec 32) (v7 : BitVec 32) : BitVec 1 :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c0_i32_22 : BitVec 32 := 0#32
  let c512_i32_21 : BitVec 32 := 512#32
  let v51 : BitVec 32 := Scalar.addi v0 c512_i32_21
  let c1_i32 : BitVec 32 := 1#32
  let v52 : BitVec 32 := Scalar.subi v51 c1_i32
  let v53 : BitVec 1 := Scalar.cmpi .sle v2 v52
  let v54 : BitVec 32 := Scalar.extui v53
  let v55 : BitVec 32 := Scalar.addi c0_i32_22 v54
  let c512_i32_23 : BitVec 32 := 512#32
  let v59 : BitVec 32 := Scalar.addi v0 c512_i32_23
  let c1_i32_24 : BitVec 32 := 1#32
  let v60 : BitVec 32 := Scalar.subi v59 c1_i32_24
  let v61 : BitVec 1 := Scalar.cmpi .sle v4 v60
  let v62 : BitVec 32 := Scalar.extui v61
  let v63 : BitVec 32 := Scalar.addi v55 v62
  let c512_i32_25 : BitVec 32 := 512#32
  let v67 : BitVec 32 := Scalar.addi v0 c512_i32_25
  let c1_i32_26 : BitVec 32 := 1#32
  let v68 : BitVec 32 := Scalar.subi v67 c1_i32_26
  let v69 : BitVec 1 := Scalar.cmpi .sle v6 v68
  let v70 : BitVec 32 := Scalar.extui v69
  let v71 : BitVec 32 := Scalar.addi v63 v70
  let c512_i32_27 : BitVec 32 := 512#32
  let v75 : BitVec 32 := Scalar.addi v0 c512_i32_27
  let c1_i32_28 : BitVec 32 := 1#32
  let v76 : BitVec 32 := Scalar.subi v75 c1_i32_28
  let v77 : BitVec 1 := Scalar.cmpi .sle v8 v76
  let v78 : BitVec 32 := Scalar.extui v77
  let v79 : BitVec 32 := Scalar.addi v71 v78
  let v83 : BitVec 1 := Scalar.cmpi .ne v74 v79
  let v84 : BitVec 32 := Scalar.extui v83
  let c0_i32_30 : BitVec 32 := 0#32
  let v85 : BitVec 1 := Scalar.cmpi .ne v84 c0_i32_30
  v85

def k0_off22 (i : grid0.Coords) (v1 : BitVec 32) (v3 : BitVec 32) (v5 : BitVec 32) (v7 : BitVec 32) (k0_t1 : Fin (k0_t1_loop i v1 v3 v5 v7).trips) : Fin 1 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c1_i32_34 : BitVec 32 := 1#32
  let arg9 : BitVec 32 := Scf.iv v74 c1_i32_34 k0_t1
  let v107 : Index := Scalar.indexCast arg9
  ![v107.toNat]
@[reducible] def k0_t2_loop : Scf.Loop 32 :=
  let c0_i32_48 : BitVec 32 := 0#32
  let c10_i32 : BitVec 32 := 10#32
  let v126 : BitVec 32 := Scalar.addi c0_i32_48 c10_i32
  let c1_i32_49 : BitVec 32 := 1#32
  ⟨c0_i32_48, v126, c1_i32_49⟩
def k0_mult1 (k0_t2 : Fin k0_t2_loop.trips) : BitVec 32 :=
  let c0_i32_48 : BitVec 32 := 0#32
  let c1_i32_49 : BitVec 32 := 1#32
  let arg10 : BitVec 32 := Scf.iv c0_i32_48 c1_i32_49 k0_t2
  let c512_i32_51 : BitVec 32 := 512#32
  let v127 : BitVec 32 := Scalar.muli arg10 c512_i32_51
  v127
def k0_off23 (i : grid0.Coords) (v1 : BitVec 32) (v3 : BitVec 32) (v5 : BitVec 32) (v7 : BitVec 32) (k0_t1 : Fin (k0_t1_loop i v1 v3 v5 v7).trips) (k0_t2 : Fin k0_t2_loop.trips) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c1_i32_34 : BitVec 32 := 1#32
  let arg9 : BitVec 32 := Scf.iv v74 c1_i32_34 k0_t1
  let v129 : Index := Scalar.indexCast arg9
  let c0_52 : Index := 0#32
  let c0_i32_48 : BitVec 32 := 0#32
  let c1_i32_49 : BitVec 32 := 1#32
  let arg10 : BitVec 32 := Scf.iv c0_i32_48 c1_i32_49 k0_t2
  let c512_i32_51 : BitVec 32 := 512#32
  let v127 : BitVec 32 := Scalar.muli arg10 c512_i32_51
  let v128 : BitVec 32 := v127
  let v130 : Index := Scalar.indexCast v128
  ![v129.toNat, 0, v130.toNat]
def k0_off24 (i : grid0.Coords) (v1 : BitVec 32) (v3 : BitVec 32) (v5 : BitVec 32) (v7 : BitVec 32) (k0_t1 : Fin (k0_t1_loop i v1 v3 v5 v7).trips) (k0_t2 : Fin k0_t2_loop.trips) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c1_i32_34 : BitVec 32 := 1#32
  let arg9 : BitVec 32 := Scf.iv v74 c1_i32_34 k0_t1
  let v134 : Index := Scalar.indexCast arg9
  let c0_i32_48 : BitVec 32 := 0#32
  let c1_i32_49 : BitVec 32 := 1#32
  let arg10 : BitVec 32 := Scf.iv c0_i32_48 c1_i32_49 k0_t2
  let c512_i32_51 : BitVec 32 := 512#32
  let v127 : BitVec 32 := Scalar.muli arg10 c512_i32_51
  let v128 : BitVec 32 := v127
  let v135 : Index := Scalar.indexCast v128
  ![v134.toNat, v135.toNat]
def k0_off25 (k0_t2 : Fin k0_t2_loop.trips) : Fin 2 → Nat :=
  let c0_54 : Index := 0#32
  let c0_i32_48 : BitVec 32 := 0#32
  let c1_i32_49 : BitVec 32 := 1#32
  let arg10 : BitVec 32 := Scf.iv c0_i32_48 c1_i32_49 k0_t2
  let c512_i32_51 : BitVec 32 := 512#32
  let v127 : BitVec 32 := Scalar.muli arg10 c512_i32_51
  let v128 : BitVec 32 := v127
  let v141 : Index := Scalar.indexCast v128
  ![0, v141.toNat]
@[reducible] def k0_t3_loop (i : grid0.Coords) (v1 : BitVec 32) (v3 : BitVec 32) (v5 : BitVec 32) (v7 : BitVec 32) : Scf.Loop 32 :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c0_i32_22 : BitVec 32 := 0#32
  let c512_i32_21 : BitVec 32 := 512#32
  let v51 : BitVec 32 := Scalar.addi v0 c512_i32_21
  let c1_i32 : BitVec 32 := 1#32
  let v52 : BitVec 32 := Scalar.subi v51 c1_i32
  let v53 : BitVec 1 := Scalar.cmpi .sle v2 v52
  let v54 : BitVec 32 := Scalar.extui v53
  let v55 : BitVec 32 := Scalar.addi c0_i32_22 v54
  let c512_i32_23 : BitVec 32 := 512#32
  let v59 : BitVec 32 := Scalar.addi v0 c512_i32_23
  let c1_i32_24 : BitVec 32 := 1#32
  let v60 : BitVec 32 := Scalar.subi v59 c1_i32_24
  let v61 : BitVec 1 := Scalar.cmpi .sle v4 v60
  let v62 : BitVec 32 := Scalar.extui v61
  let v63 : BitVec 32 := Scalar.addi v55 v62
  let c512_i32_25 : BitVec 32 := 512#32
  let v67 : BitVec 32 := Scalar.addi v0 c512_i32_25
  let c1_i32_26 : BitVec 32 := 1#32
  let v68 : BitVec 32 := Scalar.subi v67 c1_i32_26
  let v69 : BitVec 1 := Scalar.cmpi .sle v6 v68
  let v70 : BitVec 32 := Scalar.extui v69
  let v71 : BitVec 32 := Scalar.addi v63 v70
  let c512_i32_27 : BitVec 32 := 512#32
  let v75 : BitVec 32 := Scalar.addi v0 c512_i32_27
  let c1_i32_28 : BitVec 32 := 1#32
  let v76 : BitVec 32 := Scalar.subi v75 c1_i32_28
  let v77 : BitVec 1 := Scalar.cmpi .sle v8 v76
  let v78 : BitVec 32 := Scalar.extui v77
  let v79 : BitVec 32 := Scalar.addi v71 v78
  let c1_i32_31 : BitVec 32 := 1#32
  let v89 : BitVec 32 := Scalar.addi v79 c1_i32_31
  let v90 : BitVec 32 := Scalar.subi v89 v74
  let c1_i32_33 : BitVec 32 := 1#32
  let v92 : BitVec 32 := Scalar.divsi v90 c1_i32_33
  let v93 : BitVec 32 := Scalar.muli v92 c1_i32_33
  let v94 : BitVec 32 := Scalar.addi v74 v93
  let v91 : BitVec 32 := Scalar.addi v74 v90
  let c1_i32_35 : BitVec 32 := 1#32
  ⟨v94, v91, c1_i32_35⟩
def k0_off26 (i : grid0.Coords) (v1 : BitVec 32) (v3 : BitVec 32) (v5 : BitVec 32) (v7 : BitVec 32) (k0_t3 : Fin (k0_t3_loop i v1 v3 v5 v7).trips) : Fin 1 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c0_i32_22 : BitVec 32 := 0#32
  let c512_i32_21 : BitVec 32 := 512#32
  let v51 : BitVec 32 := Scalar.addi v0 c512_i32_21
  let c1_i32 : BitVec 32 := 1#32
  let v52 : BitVec 32 := Scalar.subi v51 c1_i32
  let v53 : BitVec 1 := Scalar.cmpi .sle v2 v52
  let v54 : BitVec 32 := Scalar.extui v53
  let v55 : BitVec 32 := Scalar.addi c0_i32_22 v54
  let c512_i32_23 : BitVec 32 := 512#32
  let v59 : BitVec 32 := Scalar.addi v0 c512_i32_23
  let c1_i32_24 : BitVec 32 := 1#32
  let v60 : BitVec 32 := Scalar.subi v59 c1_i32_24
  let v61 : BitVec 1 := Scalar.cmpi .sle v4 v60
  let v62 : BitVec 32 := Scalar.extui v61
  let v63 : BitVec 32 := Scalar.addi v55 v62
  let c512_i32_25 : BitVec 32 := 512#32
  let v67 : BitVec 32 := Scalar.addi v0 c512_i32_25
  let c1_i32_26 : BitVec 32 := 1#32
  let v68 : BitVec 32 := Scalar.subi v67 c1_i32_26
  let v69 : BitVec 1 := Scalar.cmpi .sle v6 v68
  let v70 : BitVec 32 := Scalar.extui v69
  let v71 : BitVec 32 := Scalar.addi v63 v70
  let c512_i32_27 : BitVec 32 := 512#32
  let v75 : BitVec 32 := Scalar.addi v0 c512_i32_27
  let c1_i32_28 : BitVec 32 := 1#32
  let v76 : BitVec 32 := Scalar.subi v75 c1_i32_28
  let v77 : BitVec 1 := Scalar.cmpi .sle v8 v76
  let v78 : BitVec 32 := Scalar.extui v77
  let v79 : BitVec 32 := Scalar.addi v71 v78
  let c1_i32_31 : BitVec 32 := 1#32
  let v89 : BitVec 32 := Scalar.addi v79 c1_i32_31
  let v90 : BitVec 32 := Scalar.subi v89 v74
  let c1_i32_33 : BitVec 32 := 1#32
  let v92 : BitVec 32 := Scalar.divsi v90 c1_i32_33
  let v93 : BitVec 32 := Scalar.muli v92 c1_i32_33
  let v94 : BitVec 32 := Scalar.addi v74 v93
  let c1_i32_35 : BitVec 32 := 1#32
  let arg9 : BitVec 32 := Scf.iv v94 c1_i32_35 k0_t3
  let v107 : Index := Scalar.indexCast arg9
  ![v107.toNat]
@[reducible] def k0_t4_loop : Scf.Loop 32 :=
  let c0_i32_48 : BitVec 32 := 0#32
  let c10_i32 : BitVec 32 := 10#32
  let v126 : BitVec 32 := Scalar.addi c0_i32_48 c10_i32
  let c1_i32_49 : BitVec 32 := 1#32
  ⟨c0_i32_48, v126, c1_i32_49⟩
def k0_mult2 (k0_t4 : Fin k0_t4_loop.trips) : BitVec 32 :=
  let c0_i32_48 : BitVec 32 := 0#32
  let c1_i32_49 : BitVec 32 := 1#32
  let arg10 : BitVec 32 := Scf.iv c0_i32_48 c1_i32_49 k0_t4
  let c512_i32_51 : BitVec 32 := 512#32
  let v127 : BitVec 32 := Scalar.muli arg10 c512_i32_51
  v127
def k0_off27 (i : grid0.Coords) (v1 : BitVec 32) (v3 : BitVec 32) (v5 : BitVec 32) (v7 : BitVec 32) (k0_t3 : Fin (k0_t3_loop i v1 v3 v5 v7).trips) (k0_t4 : Fin k0_t4_loop.trips) : Fin 3 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c0_i32_22 : BitVec 32 := 0#32
  let c512_i32_21 : BitVec 32 := 512#32
  let v51 : BitVec 32 := Scalar.addi v0 c512_i32_21
  let c1_i32 : BitVec 32 := 1#32
  let v52 : BitVec 32 := Scalar.subi v51 c1_i32
  let v53 : BitVec 1 := Scalar.cmpi .sle v2 v52
  let v54 : BitVec 32 := Scalar.extui v53
  let v55 : BitVec 32 := Scalar.addi c0_i32_22 v54
  let c512_i32_23 : BitVec 32 := 512#32
  let v59 : BitVec 32 := Scalar.addi v0 c512_i32_23
  let c1_i32_24 : BitVec 32 := 1#32
  let v60 : BitVec 32 := Scalar.subi v59 c1_i32_24
  let v61 : BitVec 1 := Scalar.cmpi .sle v4 v60
  let v62 : BitVec 32 := Scalar.extui v61
  let v63 : BitVec 32 := Scalar.addi v55 v62
  let c512_i32_25 : BitVec 32 := 512#32
  let v67 : BitVec 32 := Scalar.addi v0 c512_i32_25
  let c1_i32_26 : BitVec 32 := 1#32
  let v68 : BitVec 32 := Scalar.subi v67 c1_i32_26
  let v69 : BitVec 1 := Scalar.cmpi .sle v6 v68
  let v70 : BitVec 32 := Scalar.extui v69
  let v71 : BitVec 32 := Scalar.addi v63 v70
  let c512_i32_27 : BitVec 32 := 512#32
  let v75 : BitVec 32 := Scalar.addi v0 c512_i32_27
  let c1_i32_28 : BitVec 32 := 1#32
  let v76 : BitVec 32 := Scalar.subi v75 c1_i32_28
  let v77 : BitVec 1 := Scalar.cmpi .sle v8 v76
  let v78 : BitVec 32 := Scalar.extui v77
  let v79 : BitVec 32 := Scalar.addi v71 v78
  let c1_i32_31 : BitVec 32 := 1#32
  let v89 : BitVec 32 := Scalar.addi v79 c1_i32_31
  let v90 : BitVec 32 := Scalar.subi v89 v74
  let c1_i32_33 : BitVec 32 := 1#32
  let v92 : BitVec 32 := Scalar.divsi v90 c1_i32_33
  let v93 : BitVec 32 := Scalar.muli v92 c1_i32_33
  let v94 : BitVec 32 := Scalar.addi v74 v93
  let c1_i32_35 : BitVec 32 := 1#32
  let arg9 : BitVec 32 := Scf.iv v94 c1_i32_35 k0_t3
  let v129 : Index := Scalar.indexCast arg9
  let c0_52 : Index := 0#32
  let c0_i32_48 : BitVec 32 := 0#32
  let c1_i32_49 : BitVec 32 := 1#32
  let arg10 : BitVec 32 := Scf.iv c0_i32_48 c1_i32_49 k0_t4
  let c512_i32_51 : BitVec 32 := 512#32
  let v127 : BitVec 32 := Scalar.muli arg10 c512_i32_51
  let v128 : BitVec 32 := v127
  let v130 : Index := Scalar.indexCast v128
  ![v129.toNat, 0, v130.toNat]
def k0_off28 (i : grid0.Coords) (v1 : BitVec 32) (v3 : BitVec 32) (v5 : BitVec 32) (v7 : BitVec 32) (k0_t3 : Fin (k0_t3_loop i v1 v3 v5 v7).trips) (k0_t4 : Fin k0_t4_loop.trips) : Fin 2 → Nat :=
  let c0_i32_20 : BitVec 32 := 0#32
  let c0_i32 : BitVec 32 := 0#32
  let v2 : BitVec 32 := Scalar.addi c0_i32 v1
  let arg0 : BitVec 32 := BitVec.ofNat 32 (i 0).val
  let c512_i32 : BitVec 32 := 512#32
  let v0 : BitVec 32 := Scalar.muli arg0 c512_i32
  let v48 : BitVec 1 := Scalar.cmpi .sle v2 v0
  let v49 : BitVec 32 := Scalar.extui v48
  let v50 : BitVec 32 := Scalar.addi c0_i32_20 v49
  let v4 : BitVec 32 := Scalar.addi v2 v3
  let v56 : BitVec 1 := Scalar.cmpi .sle v4 v0
  let v57 : BitVec 32 := Scalar.extui v56
  let v58 : BitVec 32 := Scalar.addi v50 v57
  let v6 : BitVec 32 := Scalar.addi v4 v5
  let v64 : BitVec 1 := Scalar.cmpi .sle v6 v0
  let v65 : BitVec 32 := Scalar.extui v64
  let v66 : BitVec 32 := Scalar.addi v58 v65
  let v8 : BitVec 32 := Scalar.addi v6 v7
  let v72 : BitVec 1 := Scalar.cmpi .sle v8 v0
  let v73 : BitVec 32 := Scalar.extui v72
  let v74 : BitVec 32 := Scalar.addi v66 v73
  let c0_i32_22 : BitVec 32 := 0#32
  let c512_i32_21 : BitVec 32 := 512#32
  let v51 : BitVec 32 := Scalar.addi v0 c512_i32_21
  let c1_i32 : BitVec 32 := 1#32
  let v52 : BitVec 32 := Scalar.subi v51 c1_i32
  let v53 : BitVec 1 := Scalar.cmpi .sle v2 v52
  let v54 : BitVec 32 := Scalar.extui v53
  let v55 : BitVec 32 := Scalar.addi c0_i32_22 v54
  let c512_i32_23 : BitVec 32 := 512#32
  let v59 : BitVec 32 := Scalar.addi v0 c512_i32_23
  let c1_i32_24 : BitVec 32 := 1#32
  let v60 : BitVec 32 := Scalar.subi v59 c1_i32_24
  let v61 : BitVec 1 := Scalar.cmpi .sle v4 v60
  let v62 : BitVec 32 := Scalar.extui v61
  let v63 : BitVec 32 := Scalar.addi v55 v62
  let c512_i32_25 : BitVec 32 := 512#32
  let v67 : BitVec 32 := Scalar.addi v0 c512_i32_25
  let c1_i32_26 : BitVec 32 := 1#32
  let v68 : BitVec 32 := Scalar.subi v67 c1_i32_26
  let v69 : BitVec 1 := Scalar.cmpi .sle v6 v68
  let v70 : BitVec 32 := Scalar.extui v69
  let v71 : BitVec 32 := Scalar.addi v63 v70
  let c512_i32_27 : BitVec 32 := 512#32
  let v75 : BitVec 32 := Scalar.addi v0 c512_i32_27
  let c1_i32_28 : BitVec 32 := 1#32
  let v76 : BitVec 32 := Scalar.subi v75 c1_i32_28
  let v77 : BitVec 1 := Scalar.cmpi .sle v8 v76
  let v78 : BitVec 32 := Scalar.extui v77
  let v79 : BitVec 32 := Scalar.addi v71 v78
  let c1_i32_31 : BitVec 32 := 1#32
  let v89 : BitVec 32 := Scalar.addi v79 c1_i32_31
  let v90 : BitVec 32 := Scalar.subi v89 v74
  let c1_i32_33 : BitVec 32 := 1#32
  let v92 : BitVec 32 := Scalar.divsi v90 c1_i32_33
  let v93 : BitVec 32 := Scalar.muli v92 c1_i32_33
  let v94 : BitVec 32 := Scalar.addi v74 v93
  let c1_i32_35 : BitVec 32 := 1#32
  let arg9 : BitVec 32 := Scf.iv v94 c1_i32_35 k0_t3
  let v134 : Index := Scalar.indexCast arg9
  let c0_i32_48 : BitVec 32 := 0#32
  let c1_i32_49 : BitVec 32 := 1#32
  let arg10 : BitVec 32 := Scf.iv c0_i32_48 c1_i32_49 k0_t4
  let c512_i32_51 : BitVec 32 := 512#32
  let v127 : BitVec 32 := Scalar.muli arg10 c512_i32_51
  let v128 : BitVec 32 := v127
  let v135 : Index := Scalar.indexCast v128
  ![v134.toNat, v135.toNat]

def k0_chk1 (i : grid0.Coords) (v1 : BitVec 32) (v3 : BitVec 32) (v5 : BitVec 32) (v7 : BitVec 32) : Prop :=
  (∀ (k0_h10 : k0_cond10 i v1 v3 v5 v7 = 1#1), ∀ a, (k0_off1 i v1 v3 v5 v7) a + S1.size a ≤ S4.size a) ∧
  (∀ (k0_h10 : k0_cond10 i v1 v3 v5 v7 = 1#1), ∀ a, (k0_off2 i v1 v3 v5 v7) a + S1x1024x512.size a ≤ S4x1024x5120.size a) ∧
  (∀ (k0_h10 : k0_cond10 i v1 v3 v5 v7 = 1#1), ∀ a, (k0_off3 i v1 v3 v5 v7) a + S1x512.size a ≤ S4x5120.size a) ∧
  (∀ (k0_h10 : k0_cond10 i v1 v3 v5 v7 = 1#1), ∀ a, (k0_off4 i v1 v3 v5 v7) a + S1x1024x512.size a ≤ S4x1024x5120.size a) ∧
  (∀ (k0_h10 : k0_cond10 i v1 v3 v5 v7 = 1#1), ∀ a, (k0_off5 i v1 v3 v5 v7) a + S1x512.size a ≤ S4x5120.size a) ∧
  (∀ (k0_h10 : k0_cond10 i v1 v3 v5 v7 = 1#1), ∀ a, (k0_off6 i v1 v3 v5 v7) a + S1x1024x512.size a ≤ S4x1024x5120.size a) ∧
  (∀ (k0_h10 : k0_cond10 i v1 v3 v5 v7 = 1#1), ∀ a, (k0_off7 i v1 v3 v5 v7) a + S1x512.size a ≤ S4x5120.size a) ∧
  (∀ (k0_h10 : k0_cond10 i v1 v3 v5 v7 = 1#1), ∀ a, (k0_off8 i v1 v3 v5 v7) a + S1x1024x512.size a ≤ S4x1024x5120.size a) ∧
  (∀ (k0_h10 : k0_cond10 i v1 v3 v5 v7 = 1#1), ∀ a, (k0_off9 i v1 v3 v5 v7) a + S1x512.size a ≤ S4x5120.size a) ∧
  (∀ (k0_h10 : k0_cond10 i v1 v3 v5 v7 = 1#1), ∀ a, (k0_off10 i v1 v3 v5 v7) a + S1x1024x512.size a ≤ S4x1024x5120.size a) ∧
  (∀ (k0_h10 : k0_cond10 i v1 v3 v5 v7 = 1#1), ∀ a, (k0_off11 i v1 v3 v5 v7) a + S1x512.size a ≤ S4x5120.size a) ∧
  (∀ (k0_h10 : k0_cond10 i v1 v3 v5 v7 = 1#1), ∀ a, (k0_off12 i v1 v3 v5 v7) a + S1x1024x512.size a ≤ S4x1024x5120.size a) ∧
  (∀ (k0_h10 : k0_cond10 i v1 v3 v5 v7 = 1#1), ∀ a, (k0_off13 i v1 v3 v5 v7) a + S1x512.size a ≤ S4x5120.size a) ∧
  (∀ (k0_h10 : k0_cond10 i v1 v3 v5 v7 = 1#1), ∀ a, (k0_off14 i v1 v3 v5 v7) a + S1x1024x512.size a ≤ S4x1024x5120.size a) ∧
  (∀ (k0_h10 : k0_cond10 i v1 v3 v5 v7 = 1#1), ∀ a, (k0_off15 i v1 v3 v5 v7) a + S1x512.size a ≤ S4x5120.size a) ∧
  (∀ (k0_h10 : k0_cond10 i v1 v3 v5 v7 = 1#1), ∀ a, (k0_off16 i v1 v3 v5 v7) a + S1x1024x512.size a ≤ S4x1024x5120.size a) ∧
  (∀ (k0_h10 : k0_cond10 i v1 v3 v5 v7 = 1#1), ∀ a, (k0_off17 i v1 v3 v5 v7) a + S1x512.size a ≤ S4x5120.size a) ∧
  (∀ (k0_h10 : k0_cond10 i v1 v3 v5 v7 = 1#1), ∀ a, (k0_off18 i v1 v3 v5 v7) a + S1x1024x512.size a ≤ S4x1024x5120.size a) ∧
  (∀ (k0_h10 : k0_cond10 i v1 v3 v5 v7 = 1#1), ∀ a, (k0_off19 i v1 v3 v5 v7) a + S1x512.size a ≤ S4x5120.size a) ∧
  (∀ (k0_h10 : k0_cond10 i v1 v3 v5 v7 = 1#1), ∀ a, (k0_off20 i v1 v3 v5 v7) a + S1x1024x512.size a ≤ S4x1024x5120.size a) ∧
  (∀ (k0_h10 : k0_cond10 i v1 v3 v5 v7 = 1#1), ∀ a, (k0_off21 i v1 v3 v5 v7) a + S1x512.size a ≤ S4x5120.size a) ∧
  (∀ (k0_h11 : k0_cond11 i v1 v3 v5 v7 = 1#1), (k0_t1_loop i v1 v3 v5 v7).OK) ∧
  (∀ k0_t1 : Fin (k0_t1_loop i v1 v3 v5 v7).trips, ∀ (k0_h11 : k0_cond11 i v1 v3 v5 v7 = 1#1), ∀ a, (k0_off22 i v1 v3 v5 v7 k0_t1) a + S1.size a ≤ S4.size a) ∧
  (∀ (k0_t1 : Fin (k0_t1_loop i v1 v3 v5 v7).trips) (k0_t2 : Fin k0_t2_loop.trips), ∀ (k0_h11 : k0_cond11 i v1 v3 v5 v7 = 1#1), ∀ a, (k0_off23 i v1 v3 v5 v7 k0_t1 k0_t2) a + S1x1024x512.size a ≤ S4x1024x5120.size a) ∧
  (∀ (k0_t1 : Fin (k0_t1_loop i v1 v3 v5 v7).trips) (k0_t2 : Fin k0_t2_loop.trips), ∀ (k0_h11 : k0_cond11 i v1 v3 v5 v7 = 1#1), ∀ a, (k0_off24 i v1 v3 v5 v7 k0_t1 k0_t2) a + S1x512.size a ≤ S4x5120.size a) ∧
  (∀ (k0_h11 : k0_cond11 i v1 v3 v5 v7 = 1#1), (k0_t3_loop i v1 v3 v5 v7).OK) ∧
  (∀ k0_t3 : Fin (k0_t3_loop i v1 v3 v5 v7).trips, ∀ (k0_h11 : k0_cond11 i v1 v3 v5 v7 = 1#1), ∀ a, (k0_off26 i v1 v3 v5 v7 k0_t3) a + S1.size a ≤ S4.size a) ∧
  (∀ (k0_t3 : Fin (k0_t3_loop i v1 v3 v5 v7).trips) (k0_t4 : Fin k0_t4_loop.trips), ∀ (k0_h11 : k0_cond11 i v1 v3 v5 v7 = 1#1), ∀ a, (k0_off27 i v1 v3 v5 v7 k0_t3 k0_t4) a + S1x1024x512.size a ≤ S4x1024x5120.size a) ∧
  (∀ (k0_t3 : Fin (k0_t3_loop i v1 v3 v5 v7).trips) (k0_t4 : Fin k0_t4_loop.trips), ∀ (k0_h11 : k0_cond11 i v1 v3 v5 v7 = 1#1), ∀ a, (k0_off28 i v1 v3 v5 v7 k0_t3 k0_t4) a + S1x512.size a ≤ S4x5120.size a)
theorem k0_off1_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off1 i v1 v3 v5 v7) a + S1.size a ≤ S4.size a := fun i v1 v3 v5 v7 k0_hw1 k0_h10 => k0_hw1.1 k0_h10
theorem k0_off2_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off2 i v1 v3 v5 v7) a + S1x1024x512.size a ≤ S4x1024x5120.size a := fun i v1 v3 v5 v7 k0_hw1 k0_h10 => k0_hw1.2.1 k0_h10
theorem k0_off3_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off3 i v1 v3 v5 v7) a + S1x512.size a ≤ S4x5120.size a := fun i v1 v3 v5 v7 k0_hw1 k0_h10 => k0_hw1.2.2.1 k0_h10
theorem k0_off4_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off4 i v1 v3 v5 v7) a + S1x1024x512.size a ≤ S4x1024x5120.size a := fun i v1 v3 v5 v7 k0_hw1 k0_h10 => k0_hw1.2.2.2.1 k0_h10
theorem k0_off5_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off5 i v1 v3 v5 v7) a + S1x512.size a ≤ S4x5120.size a := fun i v1 v3 v5 v7 k0_hw1 k0_h10 => k0_hw1.2.2.2.2.1 k0_h10
theorem k0_off6_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off6 i v1 v3 v5 v7) a + S1x1024x512.size a ≤ S4x1024x5120.size a := fun i v1 v3 v5 v7 k0_hw1 k0_h10 => k0_hw1.2.2.2.2.2.1 k0_h10
theorem k0_off7_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off7 i v1 v3 v5 v7) a + S1x512.size a ≤ S4x5120.size a := fun i v1 v3 v5 v7 k0_hw1 k0_h10 => k0_hw1.2.2.2.2.2.2.1 k0_h10
theorem k0_off8_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off8 i v1 v3 v5 v7) a + S1x1024x512.size a ≤ S4x1024x5120.size a := fun i v1 v3 v5 v7 k0_hw1 k0_h10 => k0_hw1.2.2.2.2.2.2.2.1 k0_h10
theorem k0_off9_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off9 i v1 v3 v5 v7) a + S1x512.size a ≤ S4x5120.size a := fun i v1 v3 v5 v7 k0_hw1 k0_h10 => k0_hw1.2.2.2.2.2.2.2.2.1 k0_h10
theorem k0_off10_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off10 i v1 v3 v5 v7) a + S1x1024x512.size a ≤ S4x1024x5120.size a := fun i v1 v3 v5 v7 k0_hw1 k0_h10 => k0_hw1.2.2.2.2.2.2.2.2.2.1 k0_h10
theorem k0_off11_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off11 i v1 v3 v5 v7) a + S1x512.size a ≤ S4x5120.size a := fun i v1 v3 v5 v7 k0_hw1 k0_h10 => k0_hw1.2.2.2.2.2.2.2.2.2.2.1 k0_h10
theorem k0_off12_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off12 i v1 v3 v5 v7) a + S1x1024x512.size a ≤ S4x1024x5120.size a := fun i v1 v3 v5 v7 k0_hw1 k0_h10 => k0_hw1.2.2.2.2.2.2.2.2.2.2.2.1 k0_h10
theorem k0_off13_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off13 i v1 v3 v5 v7) a + S1x512.size a ≤ S4x5120.size a := fun i v1 v3 v5 v7 k0_hw1 k0_h10 => k0_hw1.2.2.2.2.2.2.2.2.2.2.2.2.1 k0_h10
theorem k0_off14_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off14 i v1 v3 v5 v7) a + S1x1024x512.size a ≤ S4x1024x5120.size a := fun i v1 v3 v5 v7 k0_hw1 k0_h10 => k0_hw1.2.2.2.2.2.2.2.2.2.2.2.2.2.1 k0_h10
theorem k0_off15_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off15 i v1 v3 v5 v7) a + S1x512.size a ≤ S4x5120.size a := fun i v1 v3 v5 v7 k0_hw1 k0_h10 => k0_hw1.2.2.2.2.2.2.2.2.2.2.2.2.2.2.1 k0_h10
theorem k0_off16_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off16 i v1 v3 v5 v7) a + S1x1024x512.size a ≤ S4x1024x5120.size a := fun i v1 v3 v5 v7 k0_hw1 k0_h10 => k0_hw1.2.2.2.2.2.2.2.2.2.2.2.2.2.2.2.1 k0_h10
theorem k0_off17_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off17 i v1 v3 v5 v7) a + S1x512.size a ≤ S4x5120.size a := fun i v1 v3 v5 v7 k0_hw1 k0_h10 => k0_hw1.2.2.2.2.2.2.2.2.2.2.2.2.2.2.2.2.1 k0_h10
theorem k0_off18_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off18 i v1 v3 v5 v7) a + S1x1024x512.size a ≤ S4x1024x5120.size a := fun i v1 v3 v5 v7 k0_hw1 k0_h10 => k0_hw1.2.2.2.2.2.2.2.2.2.2.2.2.2.2.2.2.2.1 k0_h10
theorem k0_off19_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off19 i v1 v3 v5 v7) a + S1x512.size a ≤ S4x5120.size a := fun i v1 v3 v5 v7 k0_hw1 k0_h10 => k0_hw1.2.2.2.2.2.2.2.2.2.2.2.2.2.2.2.2.2.2.1 k0_h10
theorem k0_off20_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off20 i v1 v3 v5 v7) a + S1x1024x512.size a ≤ S4x1024x5120.size a := fun i v1 v3 v5 v7 k0_hw1 k0_h10 => k0_hw1.2.2.2.2.2.2.2.2.2.2.2.2.2.2.2.2.2.2.2.1 k0_h10
theorem k0_off21_inb : ∀ (i : grid0.Coords) (v1 : BitVec 32) (v3 : BitVec 32) (v5 : BitVec 32) (v7 : BitVec 32) (k0_hw1 : k0_chk1 i v1 v3 v5 v7), ∀ (k0_h10 : k0_cond10 i v1 v3 v5 v7 = 1#1), ∀ a, (k0_off21 i v1 v3 v5 v7) a + S1x512.size a ≤ S4x5120.size a := fun i v1 v3 v5 v7 k0_hw1 k0_h10 => k0_hw1.2.2.2.2.2.2.2.2.2.2.2.2.2.2.2.2.2.2.2.2.1 k0_h10
theorem k0_t1_ok : ∀ (i : grid0.Coords) (v1 : BitVec 32) (v3 : BitVec 32) (v5 : BitVec 32) (v7 : BitVec 32) (k0_hw1 : k0_chk1 i v1 v3 v5 v7), ∀ (k0_h11 : k0_cond11 i v1 v3 v5 v7 = 1#1), (k0_t1_loop i v1 v3 v5 v7).OK := fun i v1 v3 v5 v7 k0_hw1 k0_h11 => k0_hw1.2.2.2.2.2.2.2.2.2.2.2.2.2.2.2.2.2.2.2.2.2.1 k0_h11
theorem k0_off22_inb : ∀ (i : grid0.Coords) (v1 : BitVec 32) (v3 : BitVec 32) (v5 : BitVec 32) (v7 : BitVec 32) (k0_hw1 : k0_chk1 i v1 v3 v5 v7) (k0_t1 : Fin (k0_t1_loop i v1 v3 v5 v7).trips), ∀ (k0_h11 : k0_cond11 i v1 v3 v5 v7 = 1#1), ∀ a, (k0_off22 i v1 v3 v5 v7 k0_t1) a + S1.size a ≤ S4.size a := fun i v1 v3 v5 v7 k0_hw1 k0_t1 k0_h11 => k0_hw1.2.2.2.2.2.2.2.2.2.2.2.2.2.2.2.2.2.2.2.2.2.2.1 k0_t1 k0_h11
theorem k0_off23_inb : ∀ (i : grid0.Coords) (v1 : BitVec 32) (v3 : BitVec 32) (v5 : BitVec 32) (v7 : BitVec 32) (k0_hw1 : k0_chk1 i v1 v3 v5 v7) (k0_t1 : Fin (k0_t1_loop i v1 v3 v5 v7).trips) (k0_t2 : Fin k0_t2_loop.trips), ∀ (k0_h11 : k0_cond11 i v1 v3 v5 v7 = 1#1), ∀ a, (k0_off23 i v1 v3 v5 v7 k0_t1 k0_t2) a + S1x1024x512.size a ≤ S4x1024x5120.size a := fun i v1 v3 v5 v7 k0_hw1 k0_t1 k0_t2 k0_h11 => k0_hw1.2.2.2.2.2.2.2.2.2.2.2.2.2.2.2.2.2.2.2.2.2.2.2.1 k0_t1 k0_t2 k0_h11
theorem k0_off24_inb : ∀ (i : grid0.Coords) (v1 : BitVec 32) (v3 : BitVec 32) (v5 : BitVec 32) (v7 : BitVec 32) (k0_hw1 : k0_chk1 i v1 v3 v5 v7) (k0_t1 : Fin (k0_t1_loop i v1 v3 v5 v7).trips) (k0_t2 : Fin k0_t2_loop.trips), ∀ (k0_h11 : k0_cond11 i v1 v3 v5 v7 = 1#1), ∀ a, (k0_off24 i v1 v3 v5 v7 k0_t1 k0_t2) a + S1x512.size a ≤ S4x5120.size a := fun i v1 v3 v5 v7 k0_hw1 k0_t1 k0_t2 k0_h11 => k0_hw1.2.2.2.2.2.2.2.2.2.2.2.2.2.2.2.2.2.2.2.2.2.2.2.2.1 k0_t1 k0_t2 k0_h11
theorem k0_t3_ok : ∀ (i : grid0.Coords) (v1 : BitVec 32) (v3 : BitVec 32) (v5 : BitVec 32) (v7 : BitVec 32) (k0_hw1 : k0_chk1 i v1 v3 v5 v7), ∀ (k0_h11 : k0_cond11 i v1 v3 v5 v7 = 1#1), (k0_t3_loop i v1 v3 v5 v7).OK := fun i v1 v3 v5 v7 k0_hw1 k0_h11 => k0_hw1.2.2.2.2.2.2.2.2.2.2.2.2.2.2.2.2.2.2.2.2.2.2.2.2.2.1 k0_h11
theorem k0_off26_inb : ∀ (i : grid0.Coords) (v1 : BitVec 32) (v3 : BitVec 32) (v5 : BitVec 32) (v7 : BitVec 32) (k0_hw1 : k0_chk1 i v1 v3 v5 v7) (k0_t3 : Fin (k0_t3_loop i v1 v3 v5 v7).trips), ∀ (k0_h11 : k0_cond11 i v1 v3 v5 v7 = 1#1), ∀ a, (k0_off26 i v1 v3 v5 v7 k0_t3) a + S1.size a ≤ S4.size a := fun i v1 v3 v5 v7 k0_hw1 k0_t3 k0_h11 => k0_hw1.2.2.2.2.2.2.2.2.2.2.2.2.2.2.2.2.2.2.2.2.2.2.2.2.2.2.1 k0_t3 k0_h11
theorem k0_off27_inb : ∀ (i : grid0.Coords) (v1 : BitVec 32) (v3 : BitVec 32) (v5 : BitVec 32) (v7 : BitVec 32) (k0_hw1 : k0_chk1 i v1 v3 v5 v7) (k0_t3 : Fin (k0_t3_loop i v1 v3 v5 v7).trips) (k0_t4 : Fin k0_t4_loop.trips), ∀ (k0_h11 : k0_cond11 i v1 v3 v5 v7 = 1#1), ∀ a, (k0_off27 i v1 v3 v5 v7 k0_t3 k0_t4) a + S1x1024x512.size a ≤ S4x1024x5120.size a := fun i v1 v3 v5 v7 k0_hw1 k0_t3 k0_t4 k0_h11 => k0_hw1.2.2.2.2.2.2.2.2.2.2.2.2.2.2.2.2.2.2.2.2.2.2.2.2.2.2.2.1 k0_t3 k0_t4 k0_h11
theorem k0_off28_inb : ∀ (i : grid0.Coords) (v1 : BitVec 32) (v3 : BitVec 32) (v5 : BitVec 32) (v7 : BitVec 32) (k0_hw1 : k0_chk1 i v1 v3 v5 v7) (k0_t3 : Fin (k0_t3_loop i v1 v3 v5 v7).trips) (k0_t4 : Fin k0_t4_loop.trips), ∀ (k0_h11 : k0_cond11 i v1 v3 v5 v7 = 1#1), ∀ a, (k0_off28 i v1 v3 v5 v7 k0_t3 k0_t4) a + S1x512.size a ≤ S4x5120.size a := fun i v1 v3 v5 v7 k0_hw1 k0_t3 k0_t4 k0_h11 => k0_hw1.2.2.2.2.2.2.2.2.2.2.2.2.2.2.2.2.2.2.2.2.2.2.2.2.2.2.2.2 k0_t3 k0_t4 k0_h11

def k0_off29 (k0_t4 : Fin k0_t4_loop.trips) : Fin 2 → Nat :=
  let c0_54 : Index := 0#32
  let c0_i32_48 : BitVec 32 := 0#32
  let c1_i32_49 : BitVec 32 := 1#32
  let arg10 : BitVec 32 := Scf.iv c0_i32_48 c1_i32_49 k0_t4
  let c512_i32_51 : BitVec 32 := 512#32
  let v127 : BitVec 32 := Scalar.muli arg10 c512_i32_51
  let v128 : BitVec 32 := v127
  let v141 : Index := Scalar.indexCast v128
  ![0, v141.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S12288x1024 : Shape := ⟨2, ![12288, 1024]⟩
abbrev S4 : Shape := ⟨1, ![4]⟩
abbrev S4x1024x5120 : Shape := ⟨3, ![4, 1024, 5120]⟩
abbrev S4x5120 : Shape := ⟨2, ![4, 5120]⟩
abbrev S12288x5120 : Shape := ⟨2, ![12288, 5120]⟩
abbrev S12288x1 : Shape := ⟨2, ![12288, 1]⟩
abbrev S1 : Shape := ⟨1, ![1]⟩
abbrev S1x1024x5120 : Shape := ⟨3, ![1, 1024, 5120]⟩
abbrev S1024x5120 : Shape := ⟨2, ![1024, 5120]⟩
abbrev S1x5120 : Shape := ⟨2, ![1, 5120]⟩

abbrev nBuf : Space → Nat
  | .hbm => 6
  | .vmem => 4
  | .smem => 2
  | _ => 0

abbrev bufTy : (tb : Table) → Fin (tcTables nBuf tb) → BufTy
  | .hbm, ⟨0, _⟩ => ⟨S12288x1024, .bf16⟩
  | .hbm, ⟨1, _⟩ => ⟨S4, .i32⟩
  | .hbm, ⟨2, _⟩ => ⟨S4, .f32⟩
  | .hbm, ⟨3, _⟩ => ⟨S4x1024x5120, .fp8e4m3⟩
  | .hbm, ⟨4, _⟩ => ⟨S4x5120, .f32⟩
  | .hbm, ⟨5, _⟩ => ⟨S12288x5120, .bf16⟩
  | .local _ .vmem, ⟨0, _⟩ => ⟨S12288x1024, .bf16⟩
  | .local _ .vmem, ⟨1, _⟩ => ⟨S4x1024x5120, .fp8e4m3⟩
  | .local _ .vmem, ⟨2, _⟩ => ⟨S4x5120, .f32⟩
  | .local _ .vmem, ⟨3, _⟩ => ⟨S12288x5120, .bf16⟩
  | .local _ .smem, ⟨0, _⟩ => ⟨S4, .i32⟩
  | .local _ .smem, ⟨1, _⟩ => ⟨S4, .f32⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12288x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Words.lean ====
/- The grouped matmul's scalar words: the group sizes and their running ends, which group's rows a tile of 512
   rows begins and ends in, and which copies the kernel starts and waits for, each as a natural number. -/
module

public import Idealize.ShloMosaic.Lib.Tactic
public import Idealize.ShloMosaic.Lib.Affine
public import Idealize.ShloMosaic.Lib.WordCmp
public import Idealize.ShloMosaic.Lib.LoopRemainder

@[expose] public section

noncomputable section

namespace Cert.Words

open Idealize.ShloMosaic Idealize.ShloMosaic.WordCmp

/-- The four groups. -/
theorem four : ∀ e : Fin 4, e = 0 ∨ e = 1 ∨ e = 2 ∨ e = 3 := by decide

/-- What the precondition says of the four group sizes: together they are the 12288 rows. -/
structure Parts (g : Fin 4 → BitVec 32) : Prop where
  le : ∀ e, (g e).toNat ≤ 12288
  sum : (g 0).toNat + (g 1).toNat + (g 2).toNat + (g 3).toNat = 12288

/-- The first row of group `e`. -/
def start (g : Fin 4 → BitVec 32) (e : Fin 4) : Nat :=
  if e.val = 0 then 0 else if e.val = 1 then (g 0).toNat else if e.val = 2 then (g 0).toNat + (g 1).toNat
  else (g 0).toNat + (g 1).toNat + (g 2).toNat

/-- One past the last row of group `e`. -/
def fin (g : Fin 4 → BitVec 32) (e : Fin 4) : Nat := start g e + (g e).toNat

/-- How many groups end at or before row `r`. -/
def before (g : Fin 4 → BitVec 32) (r : Nat) : Nat :=
  (if fin g 0 ≤ r then 1 else 0) + (if fin g 1 ≤ r then 1 else 0) + (if fin g 2 ≤ r then 1 else 0) + (if fin g 3 ≤ r then 1 else 0)

theorem fin_0 (g : Fin 4 → BitVec 32) : fin g 0 = (g 0).toNat := by simp [fin, start]
theorem fin_1 (g : Fin 4 → BitVec 32) : fin g 1 = (g 0).toNat + (g 1).toNat := by simp [fin, start]
theorem fin_2 (g : Fin 4 → BitVec 32) : fin g 2 = (g 0).toNat + (g 1).toNat + (g 2).toNat := by simp [fin, start]
theorem fin_3 (g : Fin 4 → BitVec 32) : fin g 3 = (g 0).toNat + (g 1).toNat + (g 2).toNat + (g 3).toNat := by simp [fin, start]
theorem start_0 (g : Fin 4 → BitVec 32) : start g 0 = 0 := by simp [start]
theorem start_1 (g : Fin 4 → BitVec 32) : start g 1 = (g 0).toNat := by simp [start]
theorem start_2 (g : Fin 4 → BitVec 32) : start g 2 = (g 0).toNat + (g 1).toNat := by simp [start]
theorem start_3 (g : Fin 4 → BitVec 32) : start g 3 = (g 0).toNat + (g 1).toNat + (g 2).toNat := by simp [start]

/-- Row `r` lies in exactly the group `before g r`: fewer than four groups end by it. -/
theorem before_le {g : Fin 4 → BitVec 32} (h : Parts g) {r : Nat} (hr : r < 12288) : before g r ≤ 3 := by
  have := h.sum
  have h3 : ¬ fin g 3 ≤ r := by rw [fin_3]; omega
  unfold before; rw [if_neg h3]
  split <;> split <;> split <;> omega

theorem before_mono (g : Fin 4 → BitVec 32) {r s : Nat} (h : r ≤ s) : before g r ≤ before g s := by
  unfold before
  have k : ∀ e : Nat, (if e ≤ r then 1 else 0) ≤ (if e ≤ s then 1 else 0) := fun e => by split <;> split <;> omega
  have := k (fin g 0); have := k (fin g 1); have := k (fin g 2); have := k (fin g 3); omega

/-- Group `e` holds row `r` exactly when `e` of the groups end at or before it. -/
theorem before_eq_iff {g : Fin 4 → BitVec 32} (h : Parts g) {r : Nat} (hr : r < 12288) (e : Fin 4) :
    before g r = e.val ↔ start g e ≤ r ∧ r < fin g e := by
  have hs := h.sum
  have e0 := fin_0 g; have e1 := fin_1 g; have e2 := fin_2 g; have e3 := fin_3 g
  have s0 := start_0 g; have s1 := start_1 g; have s2 := start_2 g; have s3 := start_3 g
  have hc : e = 0 ∨ e = 1 ∨ e = 2 ∨ e = 3 := four e
  unfold before
  rcases hc with rfl | rfl | rfl | rfl <;> (split <;> split <;> split <;> split <;> simp <;> omega)

/-- A group between the first and the last of a tile that is not empty starts before the tile's end. -/
theorem start_lt_of_le_before {g : Fin 4 → BitVec 32} (e : Fin 4) {r : Nat}
    (he : e.val ≤ before g r) : start g e ≤ r := by
  have e0 := fin_0 g; have e1 := fin_1 g; have e2 := fin_2 g; have e3 := fin_3 g
  have s0 := start_0 g; have s1 := start_1 g; have s2 := start_2 g; have s3 := start_3 g
  have hc : e = 0 ∨ e = 1 ∨ e = 2 ∨ e = 3 := four e
  unfold before at he
  rcases hc with rfl | rfl | rfl | rfl <;> (revert he; split <;> split <;> split <;> split <;> simp <;> omega)

/-- A nonempty group starts before row 12288. -/
theorem start_lt {g : Fin 4 → BitVec 32} (h : Parts g) (e : Fin 4) (he : 0 < (g e).toNat) : start g e < 12288 := by
  have hs := h.sum
  have s0 := start_0 g; have s1 := start_1 g; have s2 := start_2 g; have s3 := start_3 g
  have hc : e = 0 ∨ e = 1 ∨ e = 2 ∨ e = 3 := four e
  rcases hc with rfl | rfl | rfl | rfl <;> omega

/-! ### The words -/

theorem sle_eq {x y : BitVec 32} (hx : x.toNat < 2 ^ 31) (hy : y.toNat < 2 ^ 31) :
    Scalar.cmpi .sle x y = BitVec.ofBool (decide (x.toNat ≤ y.toNat)) := cmpi_sle_of_lt hx hy
theorem slt_eq {x y : BitVec 32} (hx : x.toNat < 2 ^ 31) (hy : y.toNat < 2 ^ 31) :
    Scalar.cmpi .slt x y = BitVec.ofBool (decide (x.toNat < y.toNat)) := cmpi_slt_of_lt hx hy
theorem sgt_eq {x y : BitVec 32} (hx : x.toNat < 2 ^ 31) (hy : y.toNat < 2 ^ 31) :
    Scalar.cmpi .sgt x y = BitVec.ofBool (decide (y.toNat < x.toNat)) := cmpi_sgt_of_lt hx hy
theorem sge_eq {x y : BitVec 32} (hx : x.toNat < 2 ^ 31) (hy : y.toNat < 2 ^ 31) :
    Scalar.cmpi .sge x y = BitVec.ofBool (decide (y.toNat ≤ x.toNat)) := cmpi_sge_of_lt hx hy

theorem extui_ofBool (b : Bool) : Scalar.extui (BitVec.ofBool b) = (if b then 1#32 else 0#32 : BitVec 32) := by
  cases b <;> decide

/-- A comparison widened to a word and compared with zero again is the comparison. -/
theorem ne_zero_extui (b : BitVec 1) : Scalar.cmpi .ne (Scalar.extui b : BitVec 32) 0#32 = b := by
  revert b; decide

theorem toNat_addi {x y : BitVec 32} (h : x.toNat + y.toNat < 2 ^ 32) : (Scalar.addi x y).toNat = x.toNat + y.toNat := by
  show (x + y).toNat = _
  rw [BitVec.toNat_add, Nat.mod_eq_of_lt h]

/-- A tile's first row, as the kernel computes it. -/
abbrev row0 (t : Nat) : BitVec 32 := Scalar.muli (BitVec.ofNat 32 t) 512#32

theorem toNat_row0 {t : Nat} (ht : t < 24) : (row0 t).toNat = 512 * t := by
  show (BitVec.ofNat 32 t * 512#32).toNat = _
  rw [BitVec.toNat_mul, BitVec.toNat_ofNat, show (512#32).toNat = 512 from rfl]; omega

/-- The running ends, as the kernel computes them. -/
abbrev end0 (g : Fin 4 → BitVec 32) : BitVec 32 := Scalar.addi 0#32 (g 0)
abbrev end1 (g : Fin 4 → BitVec 32) : BitVec 32 := Scalar.addi (end0 g) (g 1)
abbrev end2 (g : Fin 4 → BitVec 32) : BitVec 32 := Scalar.addi (end1 g) (g 2)
abbrev end3 (g : Fin 4 → BitVec 32) : BitVec 32 := Scalar.addi (end2 g) (g 3)

section
variable {g : Fin 4 → BitVec 32} (h : Parts g)
include h

theorem toNat_end0 : (end0 g).toNat = fin g 0 := by
  have := h.sum
  rw [fin_0]; rw [toNat_addi] <;> simp; omega
theorem toNat_end1 : (end1 g).toNat = fin g 1 := by
  have := h.sum; have e := toNat_end0 h; rw [fin_0] at e
  rw [fin_1]; rw [toNat_addi] <;> rw [e]; omega
theorem toNat_end2 : (end2 g).toNat = fin g 2 := by
  have := h.sum; have e := toNat_end1 h; rw [fin_1] at e
  rw [fin_2]; rw [toNat_addi] <;> rw [e]; omega
theorem toNat_end3 : (end3 g).toNat = fin g 3 := by
  have := h.sum; have e := toNat_end2 h; rw [fin_2] at e
  rw [fin_3]; rw [toNat_addi] <;> rw [e]; omega

theorem fin_le (e : Fin 4) : fin g e ≤ 12288 := by
  have hs := h.sum
  have e0 := fin_0 g; have e1 := fin_1 g; have e2 := fin_2 g; have e3 := fin_3 g
  have hc : e = 0 ∨ e = 1 ∨ e = 2 ∨ e = 3 := four e
  rcases hc with rfl | rfl | rfl | rfl <;> omega
end

/-- The count of ends at or before the word `r`, as the kernel computes it. -/
abbrev cnt (g : Fin 4 → BitVec 32) (r : BitVec 32) : BitVec 32 :=
  Scalar.addi (Scalar.addi (Scalar.addi (Scalar.addi 0#32 (Scalar.extui (Scalar.cmpi .sle (end0 g) r)))
    (Scalar.extui (Scalar.cmpi .sle (end1 g) r))) (Scalar.extui (Scalar.cmpi .sle (end2 g) r))) (Scalar.extui (Scalar.cmpi .sle (end3 g) r))

theorem cnt_eq {g : Fin 4 → BitVec 32} (h : Parts g) {r : BitVec 32} (hr : r.toNat < 2 ^ 31) :
    cnt g r = BitVec.ofNat 32 (before g r.toNat) := by
  have f0 := fin_le h 0; have f1 := fin_le h 1; have f2 := fin_le h 2; have f3 := fin_le h 3
  have e0 := toNat_end0 h; have e1 := toNat_end1 h; have e2 := toNat_end2 h; have e3 := toNat_end3 h
  unfold cnt
  rw [sle_eq (by omega) hr, sle_eq (by omega) hr, sle_eq (by omega) hr, sle_eq (by omega) hr, e0, e1, e2, e3]
  simp only [extui_ofBool, decide_eq_true_eq, before]
  split <;> split <;> split <;> split <;> rfl

/-- A tile's last row, as the kernel computes it. -/
abbrev rowl (t : Nat) : BitVec 32 := Scalar.subi (Scalar.addi (row0 t) 512#32) 1#32
theorem toNat_rowl {t : Nat} (ht : t < 24) : (rowl t).toNat = 512 * t + 511 := by
  have := toNat_row0 ht
  show (row0 t + 512#32 - 1#32).toNat = _
  rw [BitVec.toNat_sub, BitVec.toNat_add, this]; simp; omega

/-- The first and the last group of tile `t`. -/
abbrev fst (g : Fin 4 → BitVec 32) (t : Nat) : Nat := before g (512 * t)
abbrev lst (g : Fin 4 → BitVec 32) (t : Nat) : Nat := before g (512 * t + 511)

section
variable {g : Fin 4 → BitVec 32} (h : Parts g) {t : Nat} (ht : t < 24)
include h ht

theorem fst_le : fst g t ≤ 3 := before_le h (by omega)
theorem lst_le : lst g t ≤ 3 := before_le h (by omega)
omit h ht in
theorem fst_le_lst : fst g t ≤ lst g t := before_mono g (by omega)

/-- The first group's number, as the kernel computes it. -/
theorem first_eq : cnt g (row0 t) = BitVec.ofNat 32 (fst g t) := by
  have e := toNat_row0 ht
  rw [cnt_eq h (by omega), e]
/-- The last group's number, as the kernel computes it. -/
theorem last_eq : cnt g (rowl t) = BitVec.ofNat 32 (lst g t) := by
  have e := toNat_rowl ht
  rw [cnt_eq h (by omega), e]

theorem first_toNat : (cnt g (row0 t)).toNat = fst g t := by
  have := fst_le h ht
  rw [first_eq h ht, BitVec.toNat_ofNat]; omega

/-- The tile lies in one group exactly when its first and last groups are the same. -/
theorem pure_iff : Scalar.cmpi .ne (Scalar.extui (Scalar.cmpi .eq (cnt g (row0 t)) (cnt g (rowl t))) : BitVec 32) 0#32 = 1#1 ↔ fst g t = lst g t := by
  have := fst_le h ht; have := lst_le h ht
  rw [ne_zero_extui, first_eq h ht, last_eq h ht]
  show IntOp.cmpi .eq _ _ = 1#1 ↔ _
  rw [cmpi_eq_ofNat (by omega) (by omega), ofBool_decide_eq_one_iff]
/-- The tile's groups differ. -/
theorem mixed_iff : Scalar.cmpi .ne (Scalar.extui (Scalar.cmpi .ne (cnt g (row0 t)) (cnt g (rowl t))) : BitVec 32) 0#32 = 1#1 ↔ fst g t ≠ lst g t := by
  have := fst_le h ht; have := lst_le h ht
  rw [ne_zero_extui, first_eq h ht, last_eq h ht]
  show IntOp.cmpi .ne _ _ = 1#1 ↔ _
  rw [cmpi_ne_ofNat (by omega) (by omega), ofBool_decide_eq_one_iff]

/-- The loop over the tile's groups: its bound, and the step count before it is divided by the step. -/
abbrev span (g : Fin 4 → BitVec 32) (t : Nat) : BitVec 32 := Scalar.subi (Scalar.addi (cnt g (rowl t)) 1#32) (cnt g (row0 t))
abbrev upper (g : Fin 4 → BitVec 32) (t : Nat) : BitVec 32 :=
  Scalar.addi (cnt g (row0 t)) (Scalar.muli (Scalar.divsi (span g t) 1#32) 1#32)

theorem upper_eq : upper g t = BitVec.ofNat 32 (lst g t + 1) := by
  have h1 := fst_le h ht; have h2 := lst_le h ht
  unfold upper
  rw [Scalar.muli_divsi_one]; unfold span
  rw [first_eq h ht, last_eq h ht]
  generalize fst g t = a at *
  generalize lst g t = b at *
  have ha : a = 0 ∨ a = 1 ∨ a = 2 ∨ a = 3 := by omega
  have hb : b = 0 ∨ b = 1 ∨ b = 2 ∨ b = 3 := by omega
  rcases ha with rfl | rfl | rfl | rfl <;> rcases hb with rfl | rfl | rfl | rfl <;> rfl

theorem trips_eq : Scf.trips (cnt g (row0 t)) (upper g t) 1#32 = lst g t + 1 - fst g t := by
  have h1 := fst_le h ht; have h2 := lst_le h ht
  rw [upper_eq h ht, first_eq h ht]
  generalize fst g t = a at *
  generalize lst g t = b at *
  have ha : a = 0 ∨ a = 1 ∨ a = 2 ∨ a = 3 := by omega
  have hb : b = 0 ∨ b = 1 ∨ b = 2 ∨ b = 3 := by omega
  rcases ha with rfl | rfl | rfl | rfl <;> rcases hb with rfl | rfl | rfl | rfl <;> decide

theorem loop_ok : Scf.OK (cnt g (row0 t)) (upper g t) 1#32 := by
  have h1 := fst_le h ht; have h2 := lst_le h ht
  rw [upper_eq h ht, first_eq h ht]
  generalize fst g t = a at *
  generalize lst g t = b at *
  have ha : a = 0 ∨ a = 1 ∨ a = 2 ∨ a = 3 := by omega
  have hb : b = 0 ∨ b = 1 ∨ b = 2 ∨ b = 3 := by omega
  rcases ha with rfl | rfl | rfl | rfl <;> rcases hb with rfl | rfl | rfl | rfl <;> decide

/-- Trip `k` of the loop over groups is group `fst + k`. -/
theorem iv_eq (k : Nat) (hk : k < lst g t + 1 - fst g t) : Scf.iv (cnt g (row0 t)) 1#32 k = BitVec.ofNat 32 (fst g t + k) := by
  have h1 := fst_le h ht; have h2 := lst_le h ht
  rw [first_eq h ht]
  generalize fst g t = a at *
  generalize lst g t = b at *
  have ha : a = 0 ∨ a = 1 ∨ a = 2 ∨ a = 3 := by omega
  have hb : k = 0 ∨ k = 1 ∨ k = 2 ∨ k = 3 := by omega
  rcases ha with rfl | rfl | rfl | rfl <;> rcases hb with rfl | rfl | rfl | rfl <;> rfl
end

/-- The kernel's word for the start of group `e`. -/
def startW (g : Fin 4 → BitVec 32) (e : Fin 4) : BitVec 32 :=
  if e.val = 0 then 0#32 else if e.val = 1 then end0 g else if e.val = 2 then end1 g else end2 g

theorem toNat_startW {g : Fin 4 → BitVec 32} (h : Parts g) (e : Fin 4) : (startW g e).toNat = start g e := by
  have e0 := toNat_end0 h; have e1 := toNat_end1 h; have e2 := toNat_end2 h
  rw [fin_0] at e0; rw [fin_1] at e1; rw [fin_2] at e2
  unfold startW start
  split; · rfl
  split; · exact e0
  split; · exact e1
  · exact e2

/-- The kernel's test before it starts a group's copy. -/
abbrev goW (x : BitVec 32) : BitVec 1 := Scalar.cmpi .ne (Scalar.extui (Scalar.cmpi .sgt x 0#32) : BitVec 32) 0#32
/-- The kernel's test before it waits for a group's copy. -/
abbrev dueW (x s r : BitVec 32) : BitVec 1 :=
  Scalar.cmpi .ne (Scalar.extui (Scalar.andi (Scalar.cmpi .sgt x 0#32) (Scalar.andi (Scalar.cmpi .sge s r) (Scalar.cmpi .slt s (Scalar.addi r 512#32)))) : BitVec 32) 0#32

section
variable {g : Fin 4 → BitVec 32} (h : Parts g) (e : Fin 4)
include h

theorem go_iff : goW (g e) = 1#1 ↔ 0 < (g e).toNat := by
  have := h.le e
  rw [goW, ne_zero_extui, sgt_eq (by omega) (by decide), ofBool_decide_eq_one_iff]; rfl

theorem due_iff {t : Nat} (ht : t < 24) :
    dueW (g e) (startW g e) (row0 t) = 1#1 ↔ 0 < (g e).toNat ∧ 512 * t ≤ start g e ∧ start g e < 512 * t + 512 := by
  have := h.le e; have hr := toNat_row0 ht; have hs := toNat_startW h e
  have hl : start g e ≤ 12288 := by have := fin_le h e; unfold fin at this; omega
  have ha : (Scalar.addi (row0 t) 512#32).toNat = 512 * t + 512 := by
    rw [toNat_addi] <;> rw [hr]; · rfl
    · simp; omega
  rw [dueW, ne_zero_extui, sgt_eq (by omega) (by decide), sge_eq (by omega) (by omega), slt_eq (by omega) (by omega), hr, hs, ha]
  show IntOp.andi _ (IntOp.andi _ _) = 1#1 ↔ _
  rw [andi_ofBool, andi_ofBool, ofBool_eq_one_iff]
  simp
end

end Cert.Words
end
-- ==== Proof.Sizes.lean ====
/- What the precondition says of the four group sizes, as natural numbers. -/
module

public import proofs.«01_k».proof.Pre_sizes_partition_rows
public import proofs.«01_k».proof.Proof.Words

@[expose] public section

noncomputable section

namespace Cert.Sizes

open Idealize.ShloMosaic Cert.Pre_sizes_partition_rows

variable {F : FTy → Type} [FloatOps F]

/-- Place `e` of the four sizes. -/
def at4 (e : Fin 4) : S4.Idx := fun a => match a with | ⟨0, _⟩ => e

/-- Four words between 0 and 12288 that sum to 12288 as words do so as natural numbers. -/
theorem parts_of_words (g : Fin 4 → BitVec 32)
    (h : ∀ e, IntOp.andi (IntOp.andi (IntOp.cmpi .sge (g e) 0#32) (IntOp.cmpi .sle (g e) 12288#32))
      (IntOp.cmpi .eq (IntOp.addi (IntOp.addi (IntOp.addi (g 0) (g 1)) (g 2)) (g 3)) 12288#32) = 1#1) : Words.Parts g := by
  have key : ∀ e, (g e).toNat ≤ 12288 ∧ g 0 + g 1 + g 2 + g 3 = 12288#32 := fun e => by
    have he := h e
    simp only [IntOp.andi, IntOp.cmpi, IntOp.addi] at he
    generalize g e = x at *
    generalize g 0 + g 1 + g 2 + g 3 = s at *
    have hb : ∀ a b c : Bool, BitVec.ofBool a &&& BitVec.ofBool b &&& BitVec.ofBool c = 1#1 → a = true ∧ b = true ∧ c = true := by decide
    obtain ⟨h1, h2, h3⟩ := hb _ _ _ he
    refine ⟨?_, eq_of_beq h3⟩
    simp only [BitVec.sle, BitVec.toInt_eq_toNat_cond, decide_eq_true_eq] at h1 h2
    simp at h1 h2
    split at h1 <;> split at h2 <;> omega
  have h0 := (key 0).1; have h1 := (key 1).1; have h2 := (key 2).1; have h3 := (key 3).1
  have hs := congrArg BitVec.toNat (key 0).2
  simp only [BitVec.toNat_add, BitVec.toNat_ofNat] at hs
  exact ⟨fun e => (key e).1, by omega⟩

/-- The precondition at the size array `Y`: its four words split the 12288 rows. -/
theorem parts_of_pre [Facts] (x : FVec F S12288x1024 .bf16) (Y : IVec S4 32) (xs : FVec F S4 .f32)
    (w : FVec F S4x1024x5120 .fp8e4m3) (ws : FVec F S4x5120 .f32) (h : fn (F := F) x Y xs w ws = fun _ => 1#1) :
    Words.Parts fun e => Y (at4 e) :=
  parts_of_words _ fun e => by
    have he : fn (F := F) x Y xs w ws (at4 e) = 1#1 := by rw [h]
    have hi : ∀ (k : Fin 4) (i : S4.Idx), (i 0).val = k.val → i = at4 k := fun k i hk => funext fun a => by
      match a with | ⟨0, _⟩ => exact Fin.ext hk
    refine Eq.trans ?_ he
    unfold fn
    refine congrArg₂ IntOp.andi rfl (congrArg₂ (IntOp.cmpi .eq) (congrArg₂ IntOp.addi (congrArg₂ IntOp.addi (congrArg₂ IntOp.addi
      (congrArg Y (hi 0 _ ?_).symm) (congrArg Y (hi 1 _ ?_).symm)) (congrArg Y (hi 2 _ ?_).symm)) (congrArg Y (hi 3 _ ?_).symm)) rfl) <;> rfl

end Cert.Sizes

end
-- ==== Proof.Flights.lean ====
/- The weights' four transfers: the names of the windows and cells they use, what a group's weights are between two
   grid points (not asked for, on their way, or arrived), and the two steps that change it: starting a copy under
   its condition and waiting for it under its condition. -/
module

public import proofs.«01_k».proof.Proof.Words
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Affine
public import Idealize.ShloMosaic.Lib.Tactic
public import Idealize.ShloMosaic.Lib.LoopRemainder

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ
abbrev 𝒱₀ : Variants := Variants.none

/-- The weights in HBM, and the buffer they are copied to. -/
abbrev wM : Memref sig .tc .hbm S4x1024x5120 .fp8e4m3 := Memref.whole main_arg3
abbrev bM : Memref sig .tc .vmem S4x1024x5120 .fp8e4m3 := Memref.whole cc0_scratch0

abbrev slabOff (e : Fin 4) : Fin 3 → Nat := ![e.val, 0, 0]
abbrev semOff (e : Fin 4) : Fin 1 → Nat := ![e.val]
theorem slabOff_inb : ∀ (e : Fin 4) a, slabOff e a + S1x1024x5120.size a ≤ S4x1024x5120.size a := by decide
theorem semOff_inb : ∀ (e : Fin 4) a, semOff e a + S1.size a ≤ S4.size a := by decide

/-- Group `e`'s weights in HBM, its slab of the buffer, and its cell. -/
def grp (e : Fin 4) : Memref sig .tc .hbm S1024x5120 .fp8e4m3 :=
  (wM.slice (Rect.unit (s := S4x1024x5120) (slabOff e) S1x1024x5120.size (slabOff_inb e)) (fun _ => rfl)).squeeze S1024x5120 squeezes_S1x1024x5120_S1024x5120
def slab (e : Fin 4) : Memref sig .tc .vmem S1024x5120 .fp8e4m3 :=
  (bM.slice (Rect.unit (s := S4x1024x5120) (slabOff e) S1x1024x5120.size (slabOff_inb e)) (fun _ => rfl)).squeeze S1024x5120 squeezes_S1x1024x5120_S1024x5120
def csm (e : Fin 4) : DmaSems sig S_ := (cc0_scratch1.slice (Rect.unit (s := S4) (semOff e) S1.size (semOff_inb e))).squeeze S_ squeezes_S1_S_

/-- Two contents a view reads alike agree on its elements. -/
theorem eqOn_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨y, -, rfl⟩ := Finset.mem_map.mp hi
  have hc : ∀ {α β : Type} (p : α = β) (a b : α), cast p a = cast p b → a = b := by
    intro _ _ p; subst p; exact fun _ _ h => h
  exact hc _ _ _ (congrFun h y)

section Pieces
variable (c : Dev nD) (XA : Buf (Elt F) (wM.view.loc (c : Thread nD τ)))

/-- Group `e`'s cell at zero. -/
abbrev cellP (e : Fin 4) : sProp 𝕄 := semVal ((c : Thread nD τ), SemLoc.dma (csm e).sem) 0
/-- Group `e`'s slab of the buffer, held at contents `f`. -/
abbrev slabP (e : Fin 4) (f : Buf (Elt F) (bM.view.loc (c : Thread nD τ))) : sProp 𝕄 :=
  (slab e).view.loc (c : Thread nD τ) ↦[(slab e).view.set]{fullShare} f
/-- Group `e`'s weights in HBM, held at the argument's contents. -/
abbrev homeP (e : Fin 4) : sProp 𝕄 := (grp e).view.loc (c : Thread nD τ) ↦[(grp e).view.set]{fullShare} XA
/-- What group `e`'s transfer leaves in its slab. -/
abbrev landed (e : Fin 4) (f : Buf (Elt F) (bM.view.loc (c : Thread nD τ))) : Buf (Elt F) (bM.view.loc (c : Thread nD τ)) :=
  (slab e).view.writes (Elt F) f [⟨Rect.whole S1024x5120, ReadAs.same.apply ((grp e).view.read (Elt F) XA)⟩]
/-- The argument's contents, as contents of the buffer they are copied to. -/
abbrev asBuf : Buf (Elt F) (bM.view.loc (c : Thread nD τ)) := XA

theorem slab_emb (e : Fin 4) (y : S1024x5120.Idx) : (slab e).view.emb y = (grp e).view.emb y := rfl

/-- A landed slab holds the argument's own words. -/
theorem landed_eq (e : Fin 4) (f : Buf (Elt F) (bM.view.loc (c : Thread nD τ))) :
    slabP c e (landed c XA e f) = slabP c e (asBuf c XA) := by
  refine pointsTo_congr (eqOn_of_read (slab e).view _ _ ?_)
  exact ((slab e).view.read_writes_whole (Val := Elt F) f (ReadAs.same.apply ((grp e).view.read (Elt F) XA))).trans rfl

/-- Group `e`'s weights on their way. -/
abbrev flightP (e : Fin 4) (f : Buf (Elt F) (bM.view.loc (c : Thread nD τ))) : sProp 𝕄 :=
  Transfers.Flight countersEmb (c : Thread nD τ) (SemLoc.dma (csm e).sem) () 163840 iprop(slabP c e (landed c XA e f) ∗ homeP c XA e)

/-! ### A group's weights between two grid points -/

/-- Not asked for: the cell at zero, the slab at whatever it holds, the weights at home. -/
abbrev idleP (e : Fin 4) : sProp 𝕄 := iprop(cellP c e ∗ (∃ f, slabP c e f) ∗ homeP c XA e)
/-- Arrived: the slab holds the weights. -/
abbrev hereP (e : Fin 4) : sProp 𝕄 := iprop(cellP c e ∗ slabP c e (asBuf c XA) ∗ homeP c XA e)
/-- On their way. -/
abbrev flyP (e : Fin 4) : sProp 𝕄 := iprop(∃ f, flightP c XA e f)

variable (g : Fin 4 → BitVec 32)

/-- Group `e`'s weights once the copies are started, the waits of the points before `k` done. -/
def midP (k : Nat) (e : Fin 4) : sProp 𝕄 :=
  if 0 < (g e).toNat then (if 512 * k ≤ Words.start g e then flyP c XA e else hereP c XA e) else idleP c XA e
/-- Group `e`'s weights before point `k`. -/
def stateP (k : Nat) (e : Fin 4) : sProp 𝕄 := if k = 0 then idleP c XA e else midP c XA g k e

theorem stateP_zero (e : Fin 4) : stateP c XA g 0 e = idleP c XA e := if_pos rfl
theorem stateP_succ (k : Nat) (e : Fin 4) : stateP c XA g (k + 1) e = midP c XA g (k + 1) e := if_neg (Nat.succ_ne_zero k)

variable (hg : Words.Parts g)
include hg

/-- The start under the kernel's condition, at the first point, whatever runs after it. -/
theorem start_step {α : Type} (e : Fin 4) (h1 : (grp e).view.WordExact) (h2 : (slab e).view.WordExact)
    (K : Prog (TpuEff nD τ sig (Elt F) Λ₀ .tc) α) (Q : α → sProp 𝕄) :
    iprop((∃ W, owes (c : Thread nD τ) 0 W) ∗ stateP c XA g 0 e
        ∗ (((∃ W, owes (c : Thread nD τ) 0 W) ∗ midP c XA g 0 e)
            -∗ wp frame (wpE (defs₀ (F := F)) 𝒱₀ (c : Thread nD τ) none) Set.univ K Q))
      ⊢ wp frame (wpE (defs₀ (F := F)) 𝒱₀ (c : Thread nD τ) none) Set.univ
        (if Words.goW (g e) = 1#1 then do
          Prog.lift (.enqueueDma (grp e) (.here (slab e)) (.dma (csm e).sem) h1 h2 ⟨Or.inl rfl, trivial⟩)
          K
        else K) Q := by
  rw [stateP_zero]
  iintro ⟨⟨%W, HW⟩, ⟨Hc, ⟨%f, Hs⟩, Hh⟩, HK⟩
  unfold midP
  by_cases hb : Words.goW (g e) = 1#1
  · rw [if_pos hb, if_pos ((Words.go_iff hg e).mp hb), if_pos (by omega)]
    sl_exec
    iapply HK
    isplitl [HW]; · iexists _; iexact HW
    iexists f; iexact Hc
  · rw [if_neg hb, if_neg (fun h => hb ((Words.go_iff hg e).mpr h))]
    iapply HK
    isplitl [HW]; · iexists _; iexact HW
    isplitl [Hc]; · iexact Hc
    isplitl [Hs]; · iexists f; iexact Hs
    iexact Hh

/-- The wait under the kernel's condition, at point `t`, whatever runs after it. -/
theorem wait_step {α : Type} (e : Fin 4) {t : Nat} (ht : t < 24) (h1 : (grp e).view.WordExact) (h2 : (slab e).view.WordExact)
    (K : Prog (TpuEff nD τ sig (Elt F) Λ₀ .tc) α) (Q : α → sProp 𝕄) :
    iprop((∃ W, owes (c : Thread nD τ) 0 W) ∗ midP c XA g t e
        ∗ (((∃ W, owes (c : Thread nD τ) 0 W) ∗ midP c XA g (t + 1) e)
            -∗ wp frame (wpE (defs₀ (F := F)) 𝒱₀ (c : Thread nD τ) none) Set.univ K Q))
      ⊢ wp frame (wpE (defs₀ (F := F)) 𝒱₀ (c : Thread nD τ) none) Set.univ
        (if Words.dueW (g e) (Words.startW g e) (Words.row0 t) = 1#1 then do
          Prog.lift (.waitDma2 (csm e).sem (grp e) (slab e) h1 h2)
          K
        else K) Q := by
  by_cases hb : Words.dueW (g e) (Words.startW g e) (Words.row0 t) = 1#1
  · obtain ⟨h0, hs, hl⟩ := (Words.due_iff hg e ht).mp hb
    unfold midP
    rw [if_pos hb, if_pos h0, if_pos hs, if_pos h0, if_neg (by omega)]
    iintro ⟨⟨%W, HW⟩, ⟨%f, HF⟩, HK⟩
    sl_exec
    iapply HK
    isplitl [HW]; · iexists _; iexact HW
    isplitl [HF]; · iexact HF
    isplitl [HF_dst]
    · irw [← landed_eq c XA e f]
      iexact HF_dst
    iexact HF_src
  · have e2 : midP c XA g (t + 1) e = midP c XA g t e := by
      have hn := fun h => hb ((Words.due_iff hg e ht).mpr h)
      unfold midP
      by_cases h0 : 0 < (g e).toNat
      · rw [if_pos h0, if_pos h0]
        by_cases hs : 512 * t ≤ Words.start g e
        · rw [if_pos hs, if_pos]; by_contra hl; exact hn ⟨h0, hs, by omega⟩
        · rw [if_neg hs, if_neg (by omega)]
      · rw [if_neg h0, if_neg h0]
    rw [e2, if_neg hb]
    iintro ⟨HW, H, HK⟩
    iapply HK
    isplitl [HW]; · iexact HW
    iexact H
end Pieces

theorem grp_exact (e : Fin 4) : (grp e).view.WordExact := by
  have h := Memref.isWhole_whole (sig := sig) main_arg3
  match e with
  | 0 => exact (h.wordExact_slice rfl _ wordsfp8e4m3_S4x1024x5120_S1x1024x5120_0_0_0).reshape _ _
  | 1 => exact (h.wordExact_slice rfl _ wordsfp8e4m3_S4x1024x5120_S1x1024x5120_1_0_0).reshape _ _
  | 2 => exact (h.wordExact_slice rfl _ wordsfp8e4m3_S4x1024x5120_S1x1024x5120_2_0_0).reshape _ _
  | 3 => exact (h.wordExact_slice rfl _ wordsfp8e4m3_S4x1024x5120_S1x1024x5120_3_0_0).reshape _ _

theorem slab_exact (e : Fin 4) : (slab e).view.WordExact := by
  have h := Memref.isWhole_whole (sig := sig) cc0_scratch0
  match e with
  | 0 => exact (h.wordExact_slice rfl _ wordsfp8e4m3_S4x1024x5120_S1x1024x5120_0_0_0).reshape _ _
  | 1 => exact (h.wordExact_slice rfl _ wordsfp8e4m3_S4x1024x5120_S1x1024x5120_1_0_0).reshape _ _
  | 2 => exact (h.wordExact_slice rfl _ wordsfp8e4m3_S4x1024x5120_S1x1024x5120_2_0_0).reshape _ _
  | 3 => exact (h.wordExact_slice rfl _ wordsfp8e4m3_S4x1024x5120_S1x1024x5120_3_0_0).reshape _ _

/-! ### The first two parts of the body, as four starts and four waits -/

section Progs
variable (arg1 : Memref sig .tc .smem S4 .i32)

/-- Read group `e`'s size. -/
abbrev rd (e : Fin 4) : Prog (TpuEff nD τ sig (Elt F) Λ₀ .tc) (Elt F .i32) :=
  smemLoad arg1 (Rect.unit (s := S4) (semOff e) S1.size (semOff_inb e)) numel1_S1 rfl

/-- Start group `e`'s copy if the group has rows, then `K`. -/
def startIf {α : Type} (e : Fin 4) (K : Prog (TpuEff nD τ sig (Elt F) Λ₀ .tc) α) : Prog (TpuEff nD τ sig (Elt F) Λ₀ .tc) α := do
  let v : Elt F .i32 ← rd arg1 e
  if Words.goW v = 1#1 then do
    Prog.lift (.enqueueDma (grp e) (.here (slab e)) (.dma (csm e).sem) (grp_exact e) (slab_exact e) ⟨Or.inl rfl, trivial⟩)
    K
  else K

/-- Wait for group `e`'s copy if its condition says so, then `K`. -/
def waitOn {α : Type} (e : Fin 4) (b : BitVec 1) (K : Prog (TpuEff nD τ sig (Elt F) Λ₀ .tc) α) : Prog (TpuEff nD τ sig (Elt F) Λ₀ .tc) α :=
  if b = 1#1 then do
    Prog.lift (.waitDma2 (csm e).sem (grp e) (slab e) (grp_exact e) (slab_exact e))
    K
  else K

def waitIf {α : Type} (e : Fin 4) (s r : BitVec 32) (K : Prog (TpuEff nD τ sig (Elt F) Λ₀ .tc) α) : Prog (TpuEff nD τ sig (Elt F) Λ₀ .tc) α := do
  let v : Elt F .i32 ← rd arg1 e
  waitOn e (Words.dueW v s r) K

/-- All starts under the first point's condition, then `K`. -/
def startAll {α : Type} (z : BitVec 32) (K : Prog (TpuEff nD τ sig (Elt F) Λ₀ .tc) α) : Prog (TpuEff nD τ sig (Elt F) Λ₀ .tc) α :=
  if Scalar.cmpi .ne (Scalar.extui (Scalar.cmpi .eq z 0#32) : BitVec 32) 0#32 = 1#1 then
    startIf arg1 0 (startIf arg1 1 (startIf arg1 2 (startIf arg1 3 K)))
  else K
end Progs

section Parts

variable (c : Dev nD) (XA : Buf (Elt F) (wM.view.loc (c : Thread nD τ)))
  (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (fz : Buf (Elt F) (arg1.view.loc (c : Thread nD τ)))

/-- The group sizes, as the kernel reads them from its staging buffer. -/
def sizes (e : Fin 4) : BitVec 32 :=
  arg1.view.readAt (Elt F) (Rect.unit (s := S4) (semOff e) S1.size (semOff_inb e)).toLoadRect fz (Shape.Idx.first (show 0 < S1.numel by decide))

abbrev t0 : Nat := (i 0).val

set_option maxRecDepth 65536 in
set_option maxHeartbeats 1000000 in
theorem part4_eq : k0_part4_skel (F := F) i arg1 harg1 arg2 harg2 arg3 harg3 arg4 harg4 wM (Memref.isWhole_whole _) arg6 harg6 bM (Memref.isWhole_whole _) cc0_scratch1
    = (do
      let v0 : BitVec 32 := Words.row0 (t0 i)
      let v1 ← rd arg1 0
      let v2 : BitVec 32 := Scalar.addi 0#32 v1
      let v3 ← rd arg1 1
      let v4 : BitVec 32 := Scalar.addi v2 v3
      let v5 ← rd arg1 2
      let v6 : BitVec 32 := Scalar.addi v4 v5
      let v7 ← rd arg1 3
      have k0_hw1 : k0_chk1 i v1 v3 v5 v7 := (← Prog.lift (TpuEff.assume (k0_chk1 i v1 v3 v5 v7) (k0_chk1.dec i v1 v3 v5 v7))).down
      let v8 : BitVec 32 := Scalar.addi v6 v7
      startAll arg1 (BitVec.ofNat 32 (i 0).val) (waitIf arg1 0 0#32 v0 (waitIf arg1 1 v2 v0 (do
        let v34 ← rd arg1 2
        pure ⟨v0, v1, v2, v3, v4, v5, v6, v7, k0_hw1, v8, Scalar.andi (Scalar.cmpi .sge v4 v0) (Scalar.cmpi .slt v4 (Scalar.addi v0 512#32)), v34⟩)))) := rfl

set_option maxRecDepth 65536 in
set_option maxHeartbeats 1000000 in
theorem part5_eq (v0 v2 v4 v6 v8 : BitVec 32) (v34 : BitVec 32) :
    k0_part5_skel (F := F) i arg1 harg1 arg2 harg2 arg3 harg3 arg4 harg4 wM (Memref.isWhole_whole _) arg6 harg6 bM (Memref.isWhole_whole _) cc0_scratch1
      v0 v2 v4 v6 v8 (Scalar.andi (Scalar.cmpi .sge v4 v0) (Scalar.cmpi .slt v4 (Scalar.addi v0 512#32))) v34
    = (waitOn 2 (Words.dueW v34 v4 v0) (waitIf arg1 3 v6 v0 (pure ⟨
        Scalar.addi (Scalar.addi (Scalar.addi 0#32 (Scalar.extui (Scalar.cmpi .sle v2 (Scalar.subi (Scalar.addi v0 512#32) 1#32)))) (Scalar.extui (Scalar.cmpi .sle v4 (Scalar.subi (Scalar.addi v0 512#32) 1#32)))) (Scalar.extui (Scalar.cmpi .sle v6 (Scalar.subi (Scalar.addi v0 512#32) 1#32))),
        Scalar.addi (Scalar.addi (Scalar.addi (Scalar.addi 0#32 (Scalar.extui (Scalar.cmpi .sle v2 v0))) (Scalar.extui (Scalar.cmpi .sle v4 v0))) (Scalar.extui (Scalar.cmpi .sle v6 v0))) (Scalar.extui (Scalar.cmpi .sle v8 v0)),
        Scalar.subi (Scalar.addi v0 512#32) 1#32⟩))) := rfl

/-! ### Their specifications -/

abbrev szP : sProp 𝕄 := arg1.view.loc (c : Thread nD τ) ↦[arg1.view.set]{fullShare} fz
abbrev owesP : sProp 𝕄 := iprop(∃ W, owes (c : Thread nD τ) 0 W)
abbrev WP {α : Type} (K : Prog (TpuEff nD τ sig (Elt F) Λ₀ .tc) α) (Q : α → sProp 𝕄) : sProp 𝕄 :=
  wp frame (wpE (defs₀ (F := F)) 𝒱₀ (c : Thread nD τ) none) Set.univ K Q

/-- Reading a group's size. -/
theorem rd_spec {α : Type} {e : Fin 4} {K : Elt F .i32 → Prog (TpuEff nD τ sig (Elt F) Λ₀ .tc) α} {Q : α → sProp 𝕄} :
    iprop(szP c arg1 fz ∗ (szP c arg1 fz -∗ WP c (K (sizes c arg1 fz e)) Q)) ⊢ WP c (rd arg1 e >>= K) Q := by
  iintro ⟨HZ, HK⟩
  unfold WP
  sl_exec
  iapply HK
  iexact HZ

theorem assume_spec {α : Type} {p : Prop} {d : Decidable p} {K : PLift p → Prog (TpuEff nD τ sig (Elt F) Λ₀ .tc) α} {Q : α → sProp 𝕄} (h : p) :
    WP c (K ⟨h⟩) Q ⊢ WP c (Prog.lift (TpuEff.assume p d) >>= K) Q := by
  iintro HK
  unfold WP
  sl_exec (disch := exact h)
  iexact HK

variable (hg : Words.Parts (sizes c arg1 fz))
include hg

theorem startIf_spec {α : Type} {K : Prog (TpuEff nD τ sig (Elt F) Λ₀ .tc) α} {Q : α → sProp 𝕄} (e : Fin 4) :
    iprop(szP c arg1 fz ∗ owesP c ∗ stateP c XA (sizes c arg1 fz) 0 e
      ∗ (szP c arg1 fz -∗ owesP c -∗ midP c XA (sizes c arg1 fz) 0 e -∗ WP c K Q)) ⊢ WP c (startIf arg1 e K) Q := by
  iintro ⟨HZ, HW, H, HK⟩
  unfold startIf
  iapply (rd_spec c arg1 fz)
  isplitl [HZ]; · iexact HZ
  iintro HZ
  iapply (start_step c XA (sizes c arg1 fz) hg e)
  isplitl [HW]; · iexact HW
  isplitl [H]; · iexact H
  iintro ⟨HW, H⟩
  iapply HK $$ HZ HW H

theorem waitOn_spec {α : Type} {K : Prog (TpuEff nD τ sig (Elt F) Λ₀ .tc) α} {Q : α → sProp 𝕄} (e : Fin 4) {t : Nat} (ht : t < 24) {v s : BitVec 32} (hv : v = sizes c arg1 fz e) (hs : s = Words.startW (sizes c arg1 fz) e) :
    iprop(owesP c ∗ midP c XA (sizes c arg1 fz) t e
      ∗ (owesP c -∗ midP c XA (sizes c arg1 fz) (t + 1) e -∗ WP c K Q)) ⊢ WP c (waitOn e (Words.dueW v s (Words.row0 t)) K) Q := by
  subst hv hs
  iintro ⟨HW, H, HK⟩
  unfold waitOn
  iapply (wait_step c XA (sizes c arg1 fz) hg e ht)
  isplitl [HW]; · iexact HW
  isplitl [H]; · iexact H
  iintro ⟨HW, H⟩
  iapply HK $$ HW H

theorem waitIf_spec {α : Type} {K : Prog (TpuEff nD τ sig (Elt F) Λ₀ .tc) α} {Q : α → sProp 𝕄} (e : Fin 4) {t : Nat} (ht : t < 24) {s : BitVec 32} (hs : s = Words.startW (sizes c arg1 fz) e) :
    iprop(szP c arg1 fz ∗ owesP c ∗ midP c XA (sizes c arg1 fz) t e
      ∗ (szP c arg1 fz -∗ owesP c -∗ midP c XA (sizes c arg1 fz) (t + 1) e -∗ WP c K Q)) ⊢ WP c (waitIf arg1 e s (Words.row0 t) K) Q := by
  iintro ⟨HZ, HW, H, HK⟩
  unfold waitIf
  iapply (rd_spec c arg1 fz)
  isplitl [HZ]; · iexact HZ
  iintro HZ
  iapply (waitOn_spec c XA arg1 fz hg e ht rfl hs)
  isplitl [HW]; · iexact HW
  isplitl [H]; · iexact H
  iapply HK $$ HZ

theorem startAll_spec {α : Type} {K : Prog (TpuEff nD τ sig (Elt F) Λ₀ .tc) α} {Q : α → sProp 𝕄} {t : Nat} (ht : t < 24) :
    iprop(szP c arg1 fz ∗ owesP c ∗ stateP c XA (sizes c arg1 fz) t 0 ∗ stateP c XA (sizes c arg1 fz) t 1
        ∗ stateP c XA (sizes c arg1 fz) t 2 ∗ stateP c XA (sizes c arg1 fz) t 3
      ∗ (szP c arg1 fz -∗ owesP c -∗ midP c XA (sizes c arg1 fz) t 0 -∗ midP c XA (sizes c arg1 fz) t 1
        -∗ midP c XA (sizes c arg1 fz) t 2 -∗ midP c XA (sizes c arg1 fz) t 3 -∗ WP c K Q)) ⊢ WP c (startAll arg1 (BitVec.ofNat 32 t) K) Q := by
  unfold startAll
  cases t with
  | zero =>
    iintro ⟨HZ, HW, H0, H1, H2, H3, HK⟩
    rw [if_pos (show Scalar.cmpi .ne (Scalar.extui (Scalar.cmpi .eq (BitVec.ofNat 32 0) 0#32) : BitVec 32) 0#32 = 1#1 from rfl)]
    iapply (startIf_spec c XA arg1 fz hg 0)
    isplitl [HZ]; · iexact HZ
    isplitl [HW]; · iexact HW
    isplitl [H0]; · iexact H0
    iintro HZ HW H0
    iapply (startIf_spec c XA arg1 fz hg 1)
    isplitl [HZ]; · iexact HZ
    isplitl [HW]; · iexact HW
    isplitl [H1]; · iexact H1
    iintro HZ HW H1
    iapply (startIf_spec c XA arg1 fz hg 2)
    isplitl [HZ]; · iexact HZ
    isplitl [HW]; · iexact HW
    isplitl [H2]; · iexact H2
    iintro HZ HW H2
    iapply (startIf_spec c XA arg1 fz hg 3)
    isplitl [HZ]; · iexact HZ
    isplitl [HW]; · iexact HW
    isplitl [H3]; · iexact H3
    iintro HZ HW H3
    iapply HK $$ HZ HW H0 H1 H2 H3
  | succ t =>
    rw [stateP_succ, stateP_succ, stateP_succ, stateP_succ]
    iintro ⟨HZ, HW, H0, H1, H2, H3, HK⟩
    rw [if_neg (show ¬ Scalar.cmpi .ne (Scalar.extui (Scalar.cmpi .eq (BitVec.ofNat 32 (t + 1)) 0#32) : BitVec 32) 0#32 = 1#1 by
      rw [Words.ne_zero_extui]
      intro h
      have h2 := (WordCmp.cmpi_eq_ofNat_eq_one_iff (w := 32) (a := t + 1) (b := 0) (by omega) (by omega)).mp h
      omega)]
    iapply HK $$ HZ HW H0 H1 H2 H3

/-- The first part of the body: reads the sizes, starts the copies at the first point, waits for groups 0 and 1. -/
theorem part4_spec (hchk : k0_chk1 i (sizes c arg1 fz 0) (sizes c arg1 fz 1) (sizes c arg1 fz 2) (sizes c arg1 fz 3))
    (Q : _ → sProp 𝕄) :
    iprop(szP c arg1 fz ∗ owesP c ∗ stateP c XA (sizes c arg1 fz) (t0 i) 0 ∗ stateP c XA (sizes c arg1 fz) (t0 i) 1
        ∗ stateP c XA (sizes c arg1 fz) (t0 i) 2 ∗ stateP c XA (sizes c arg1 fz) (t0 i) 3
        ∗ (szP c arg1 fz -∗ owesP c -∗ midP c XA (sizes c arg1 fz) (t0 i + 1) 0 -∗ midP c XA (sizes c arg1 fz) (t0 i + 1) 1
          -∗ midP c XA (sizes c arg1 fz) (t0 i) 2 -∗ midP c XA (sizes c arg1 fz) (t0 i) 3 -∗
          Q ⟨Words.row0 (t0 i), sizes c arg1 fz 0, Words.end0 (sizes c arg1 fz), sizes c arg1 fz 1, Words.end1 (sizes c arg1 fz), sizes c arg1 fz 2, Words.end2 (sizes c arg1 fz), sizes c arg1 fz 3, hchk, Words.end3 (sizes c arg1 fz), Scalar.andi (Scalar.cmpi .sge (Words.end1 (sizes c arg1 fz)) (Words.row0 (t0 i))) (Scalar.cmpi .slt (Words.end1 (sizes c arg1 fz)) (Scalar.addi (Words.row0 (t0 i)) 512#32)), sizes c arg1 fz 2⟩))
      ⊢ WP c (k0_part4_skel (F := F) i arg1 harg1 arg2 harg2 arg3 harg3 arg4 harg4 wM (Memref.isWhole_whole _) arg6 harg6 bM (Memref.isWhole_whole _) cc0_scratch1) Q := by
  have ht : t0 i < 24 := (i 0).isLt
  rw [part4_eq]
  iintro ⟨HZ, HW, H0, H1, H2, H3, HK⟩
  iapply (rd_spec c arg1 fz); isplitl [HZ]; · iexact HZ
  iintro HZ
  iapply (rd_spec c arg1 fz); isplitl [HZ]; · iexact HZ
  iintro HZ
  iapply (rd_spec c arg1 fz); isplitl [HZ]; · iexact HZ
  iintro HZ
  iapply (rd_spec c arg1 fz); isplitl [HZ]; · iexact HZ
  iintro HZ
  iapply (assume_spec c hchk)
  iapply (startAll_spec c XA arg1 fz hg ht)
  isplitl [HZ]; · iexact HZ
  isplitl [HW]; · iexact HW
  isplitl [H0]; · iexact H0
  isplitl [H1]; · iexact H1
  isplitl [H2]; · iexact H2
  isplitl [H3]; · iexact H3
  iintro HZ HW H0 H1 H2 H3
  iapply (waitIf_spec c XA arg1 fz hg 0 ht rfl)
  isplitl [HZ]; · iexact HZ
  isplitl [HW]; · iexact HW
  isplitl [H0]; · iexact H0
  iintro HZ HW H0
  iapply (waitIf_spec c XA arg1 fz hg 1 ht rfl)
  isplitl [HZ]; · iexact HZ
  isplitl [HW]; · iexact HW
  isplitl [H1]; · iexact H1
  iintro HZ HW H1
  iapply (rd_spec c arg1 fz); isplitl [HZ]; · iexact HZ
  iintro HZ
  unfold WP
  sl_step
  iapply HK $$ HZ HW H0 H1 H2 H3

/-- The second part: waits for groups 2 and 3, and computes the tile's last group, its first group and its last row. -/
theorem part5_spec (Q : _ → sProp 𝕄) :
    iprop(szP c arg1 fz ∗ owesP c ∗ midP c XA (sizes c arg1 fz) (t0 i) 2 ∗ midP c XA (sizes c arg1 fz) (t0 i) 3
        ∗ (szP c arg1 fz -∗ owesP c -∗ midP c XA (sizes c arg1 fz) (t0 i + 1) 2 -∗ midP c XA (sizes c arg1 fz) (t0 i + 1) 3 -∗
          Q ⟨Scalar.addi (Scalar.addi (Scalar.addi 0#32 (Scalar.extui (Scalar.cmpi .sle (Words.end0 (sizes c arg1 fz)) (Words.rowl (t0 i))))) (Scalar.extui (Scalar.cmpi .sle (Words.end1 (sizes c arg1 fz)) (Words.rowl (t0 i))))) (Scalar.extui (Scalar.cmpi .sle (Words.end2 (sizes c arg1 fz)) (Words.rowl (t0 i)))),
            Words.cnt (sizes c arg1 fz) (Words.row0 (t0 i)), Words.rowl (t0 i)⟩))
      ⊢ WP c (k0_part5_skel (F := F) i arg1 harg1 arg2 harg2 arg3 harg3 arg4 harg4 wM (Memref.isWhole_whole _) arg6 harg6 bM (Memref.isWhole_whole _) cc0_scratch1
          (Words.row0 (t0 i)) (Words.end0 (sizes c arg1 fz)) (Words.end1 (sizes c arg1 fz)) (Words.end2 (sizes c arg1 fz)) (Words.end3 (sizes c arg1 fz))
          (Scalar.andi (Scalar.cmpi .sge (Words.end1 (sizes c arg1 fz)) (Words.row0 (t0 i))) (Scalar.cmpi .slt (Words.end1 (sizes c arg1 fz)) (Scalar.addi (Words.row0 (t0 i)) 512#32))) (sizes c arg1 fz 2)) Q := by
  have ht : t0 i < 24 := (i 0).isLt
  rw [part5_eq]
  iintro ⟨HZ, HW, H2, H3, HK⟩
  iapply (waitOn_spec c XA arg1 fz hg 2 ht rfl rfl)
  isplitl [HW]; · iexact HW
  isplitl [H2]; · iexact H2
  iintro HW H2
  iapply (waitIf_spec c XA arg1 fz hg 3 ht rfl)
  isplitl [HZ]; · iexact HZ
  isplitl [HW]; · iexact HW
  isplitl [H3]; · iexact H3
  iintro HZ HW H3
  unfold WP
  sl_step
  iapply HK $$ HZ HW H2 H3

end Parts

end Cert.Kernel.Hand
end
-- ==== Proof.Compute.lean ====
/- One tile's arithmetic: the loads and the store of one block of 512 columns, and the tile's two forms. -/
module

public import proofs.«01_k».proof.Proof.Flights
public import Idealize.ShloMosaic.Lib.WritesUnit

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

section Loads

variable (c : Dev nD) (XA : Buf (Elt F) (wM.view.loc (c : Thread nD τ)))
  (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (f2 : Buf (Elt F) (arg2.view.loc (c : Thread nD τ))) (f3 : Buf (Elt F) (arg3.view.loc (c : Thread nD τ)))
  (f4 : Buf (Elt F) (arg4.view.loc (c : Thread nD τ)))

abbrev wOff (e : Fin 4) (n : Fin 10) : Fin 3 → Nat := ![e.val, 0, 512 * n.val]
abbrev sOff (e : Fin 4) (n : Fin 10) : Fin 2 → Nat := ![e.val, 512 * n.val]
abbrev oOff (n : Fin 10) : Fin 2 → Nat := ![0, 512 * n.val]
theorem wOff_inb : ∀ (e : Fin 4) (n : Fin 10) a, wOff e n a + S1x1024x512.size a ≤ S4x1024x5120.size a := by decide
theorem sOff_inb : ∀ (e : Fin 4) (n : Fin 10) a, sOff e n a + S1x512.size a ≤ S4x5120.size a := by decide
theorem oOff_inb : ∀ (n : Fin 10) a, oOff n a + S512x512.size a ≤ S512x5120.size a := by decide

/-- Group `e`'s weights, columns `512 n` on, as the kernel loads them. -/
def wch (fs : Buf (Elt F) (bM.view.loc (c : Thread nD τ))) (e : Fin 4) (n : Fin 10) : Vec F S1x1024x512 .fp8e4m3 :=
  bM.view.readAt (Elt F) (Rect.unit (s := S4x1024x5120) (wOff e n) S1x1024x512.size (wOff_inb e n)).toLoadRect fs
/-- Their scales. -/
def sch (e : Fin 4) (n : Fin 10) : Vec F S1x512 .f32 :=
  arg4.view.readAt (Elt F) (Rect.unit (s := S4x5120) (sOff e n) S1x512.size (sOff_inb e n)).toLoadRect f4
/-- Group `e`'s activation scale. -/
def xsc (e : Fin 4) : Elt F .f32 :=
  arg2.view.readAt (Elt F) (Rect.unit (s := S4) (semOff e) S1.size (semOff_inb e)).toLoadRect f2 (Shape.Idx.first (show 0 < S1.numel by decide))
/-- The tile's rows. -/
def xbl : Vec F S512x1024 .bf16 :=
  arg3.view.readAt (Elt F) (Rect.unit (s := S512x1024) ![0, 0] S512x1024.size inb_S512x1024_S512x1024_0_0).toLoadRect f3
/-- What the output's block holds at columns `512 n` on. -/
def och (n : Fin 10) (f : Buf (Elt F) (arg6.view.loc (c : Thread nD τ))) : Vec F S512x512 .bf16 :=
  arg6.view.readAt (Elt F) (Rect.unit (s := S512x5120) (oOff n) S512x512.size (oOff_inb n)).toLoadRect f

/-- Group `e`'s slab is the buffer's elements at leading index `e`. -/
theorem slab_set (e : Fin 4) : (slab e).view.set = (Rect.unit (s := S4x1024x5120) (slabOff e) S1x1024x5120.size (slabOff_inb e)).set := by
  show (((View.whole cc0_scratch0).slice _).reshape S1024x5120 _).set = _
  rw [View.set_reshape, View.set_slice_whole]

theorem ldw_sub (e : Fin 4) (n : Fin 10) (h) : bM.view.setOn (Rect.unit (s := S4x1024x5120) (wOff e n) S1x1024x512.size h).set ⊆ (slab e).view.set := by
  intro y hy
  rw [slab_set, Rect.mem_set_unit]
  obtain ⟨z, hz, rfl⟩ := Finset.mem_map.mp hy
  rw [Rect.mem_set_unit] at hz
  have h0 := hz 0
  intro a
  match a with
  | 0 => exact h0
  | 1 => exact ⟨Nat.zero_le _, Nat.lt_of_lt_of_le (z 1).isLt (Nat.le_add_left _ _)⟩
  | 2 => exact ⟨Nat.zero_le _, Nat.lt_of_lt_of_le (z 2).isLt (Nat.le_add_left _ _)⟩

set_option maxHeartbeats 1000000 in
theorem ldw {α : Type} (e : Fin 4) (n : Fin 10) {o : Fin 3 → Nat} (ho : o = wOff e n) {h : ∀ a, o a + S1x1024x512.size a ≤ S4x1024x5120.size a} {hl} {fs}
    {K : Vec F S1x1024x512 .fp8e4m3 → Prog (TpuEff nD τ sig (Elt F) Λ₀ .tc) α} {Q : α → sProp 𝕄} :
    iprop(slabP c e fs ∗ (slabP c e fs -∗ WP c (K (wch c fs e n)) Q))
      ⊢ WP c (Prog.lift (.load bM (Rect.unit (s := S4x1024x5120) o S1x1024x512.size h).toLoadRect hl) >>= K) Q := by
  subst ho
  have hsub := ldw_sub e n h
  iintro ⟨H, HK⟩
  unfold WP
  sl_exec
  iapply HK
  iexact H

theorem lds {α : Type} (e : Fin 4) (n : Fin 10) {o : Fin 2 → Nat} (ho : o = sOff e n) {h : ∀ a, o a + S1x512.size a ≤ S4x5120.size a} {hl}
    {K : Vec F S1x512 .f32 → Prog (TpuEff nD τ sig (Elt F) Λ₀ .tc) α} {Q : α → sProp 𝕄} :
    iprop((arg4.view.loc (c : Thread nD τ) ↦[arg4.view.set]{fullShare} f4) ∗ ((arg4.view.loc (c : Thread nD τ) ↦[arg4.view.set]{fullShare} f4) -∗ WP c (K (sch c arg4 f4 e n)) Q))
      ⊢ WP c (Prog.lift (.load arg4 (Rect.unit (s := S4x5120) o S1x512.size h).toLoadRect hl) >>= K) Q := by
  subst ho
  iintro ⟨H, HK⟩
  unfold WP
  sl_exec
  iapply HK
  iexact H

theorem ldx {α : Type} {hl}
    {K : Vec F S512x1024 .bf16 → Prog (TpuEff nD τ sig (Elt F) Λ₀ .tc) α} {Q : α → sProp 𝕄} :
    iprop((arg3.view.loc (c : Thread nD τ) ↦[arg3.view.set]{fullShare} f3) ∗ ((arg3.view.loc (c : Thread nD τ) ↦[arg3.view.set]{fullShare} f3) -∗ WP c (K (xbl c arg3 f3)) Q))
      ⊢ WP c (Prog.lift (.load arg3 (Rect.unit (s := S512x1024) ![0, 0] S512x1024.size inb_S512x1024_S512x1024_0_0).toLoadRect hl) >>= K) Q := by
  iintro ⟨H, HK⟩
  unfold WP
  sl_exec
  iapply HK
  iexact H

theorem ldxs {α : Type} (e : Fin 4) {o : Fin 1 → Nat} (ho : o = semOff e) {h : ∀ a, o a + S1.size a ≤ S4.size a} {h1 h2}
    {K : Elt F .f32 → Prog (TpuEff nD τ sig (Elt F) Λ₀ .tc) α} {Q : α → sProp 𝕄} :
    iprop((arg2.view.loc (c : Thread nD τ) ↦[arg2.view.set]{fullShare} f2) ∗ ((arg2.view.loc (c : Thread nD τ) ↦[arg2.view.set]{fullShare} f2) -∗ WP c (K (xsc c arg2 f2 e)) Q))
      ⊢ WP c (smemLoad arg2 (Rect.unit (s := S4) o S1.size h) h1 h2 >>= K) Q := by
  subst ho
  iintro ⟨H, HK⟩
  unfold WP
  sl_exec
  iapply HK
  iexact H

abbrev outP (f : Buf (Elt F) (arg6.view.loc (c : Thread nD τ))) : sProp 𝕄 := arg6.view.loc (c : Thread nD τ) ↦[arg6.view.set]{fullShare} f

/-- Reading the output's block. -/
theorem ldo {α : Type} (n : Fin 10) {o : Fin 2 → Nat} (ho : o = oOff n) {h : ∀ a, o a + S512x512.size a ≤ S512x5120.size a} {hl} {f}
    {K : Vec F S512x512 .bf16 → Prog (TpuEff nD τ sig (Elt F) Λ₀ .tc) α} {Q : α → sProp 𝕄} :
    iprop(outP c arg6 f ∗ (outP c arg6 f -∗ WP c (K (och c arg6 n f)) Q))
      ⊢ WP c (Prog.lift (.load arg6 (Rect.unit (s := S512x5120) o S512x512.size h).toLoadRect hl) >>= K) Q := by
  subst ho
  iintro ⟨H, HK⟩
  unfold WP
  sl_exec
  iapply HK
  iexact H

/-- Storing one block's columns changes those columns and no others. -/
theorem och_store (n : Fin 10) (f) (V : Vec F S512x512 .bf16) (h) :
    och c arg6 n (arg6.view.writes (Elt F) f [⟨Rect.unit (s := S512x5120) (oOff n) S512x512.size h, V⟩]) = V
    ∧ ∀ m, m ≠ n → och c arg6 m (arg6.view.writes (Elt F) f [⟨Rect.unit (s := S512x5120) (oOff n) S512x512.size h, V⟩]) = och c arg6 m f := by
  constructor
  · funext y
    exact View.read_writes_cons_unit_of_mem arg6.view f h V [] _ y rfl (fun a => by
      show oOff n a + 1 * (y a).val = _; omega)
  · intro m hm
    have hm' : m.val ≠ n.val := fun e => hm (Fin.ext e)
    funext y
    refine (View.read_writes_cons_unit_of_not_mem arg6.view f h V [] _ rfl 1 ?_).trans rfl
    have : (y 1).val < 512 := (y 1).isLt
    show 512 * m.val + 1 * (y 1).val < 512 * n.val ∨ 512 * n.val + 512 ≤ 512 * m.val + 1 * (y 1).val
    omega

theorem sto {α : Type} (n : Fin 10) {o : Fin 2 → Nat} (ho : o = oOff n) {h : ∀ a, o a + S512x512.size a ≤ S512x5120.size a} {h1 h2} {f}
    {V : Vec F S512x512 .bf16}
    {K : PUnit → Prog (TpuEff nD τ sig (Elt F) Λ₀ .tc) α} {Q : α → sProp 𝕄} :
    iprop(outP c arg6 f ∗ (∀ f', ⌜och c arg6 n f' = V ∧ ∀ m, m ≠ n → och c arg6 m f' = och c arg6 m f⌝ -∗ outP c arg6 f' -∗ WP c (K ⟨⟩) Q))
      ⊢ WP c (Prog.lift (.store arg6 (Rect.unit (s := S512x5120) o S512x512.size h) V Finset.univ h1 h2) >>= K) Q := by
  subst ho
  iintro ⟨H, HK⟩
  unfold WP
  sl_exec
  ispecialize HK $$ %(arg6.view.writes (Elt F) f [⟨Rect.unit (s := S512x5120) (oOff n) S512x512.size h, V⟩])
  iapply HK
  · ipureintro
    exact och_store c arg6 n f V h
  iexact H

/-! ### A tile of one group -/

theorem trips2 : k0_t2_loop.trips = 10 := by decide
abbrev toT (n : Fin 10) : Fin k0_t2_loop.trips := ⟨n.val, n.isLt⟩
theorem off25_eq : ∀ n : Fin 10, k0_off25 (toT n) = oOff n := by decide

/-- Loads one block's weights and scales, and stores its product; then `K`. -/
def chunk {α : Type} (n : Fin 10) (o7 : Fin 3 → Nat) (h7 : ∀ a, o7 a + S1x1024x512.size a ≤ S4x1024x5120.size a)
    (o4 : Fin 2 → Nat) (h4 : ∀ a, o4 a + S1x512.size a ≤ S4x5120.size a) (x : Elt F .f32) (xb : Vec F S512x1024 .bf16)
    (K : Prog (TpuEff nD τ sig (Elt F) Λ₀ .tc) α) : Prog (TpuEff nD τ sig (Elt F) Λ₀ .tc) α := do
  let w : Vec F S1x1024x512 .fp8e4m3 ← Prog.lift (.load bM (Rect.unit (s := S4x1024x5120) o7 S1x1024x512.size h7).toLoadRect (View.loadsAt_vmem h_S1x1024x512))
  let s : Vec F S1x512 .f32 ← Prog.lift (.load arg4 (Rect.unit (s := S4x5120) o4 S1x512.size h4).toLoadRect (View.loadsAt_vmem h_S1x512))
  let _o : Vec F S512x512 .bf16 ← Prog.lift (.load arg6 (Rect.unit (s := S512x5120) (k0_off25 (toT n)) S512x512.size (k0_off25_inb (toT n))).toLoadRect (View.loadsAt_vmem h_S512x512))
  Prog.lift (.store arg6 (Rect.unit (s := S512x5120) (k0_off25 (toT n)) S512x512.size (k0_off25_inb (toT n))) (k0_pay7 x xb w s) Finset.univ (View.stores_vmem h_S512x512 (harg6.storeExact_slice rfl _ (k0_off25_packedbf16 (toT n))) (fun _ => rfl)) (.inl rfl))
  K

abbrev wsP : sProp 𝕄 := arg4.view.loc (c : Thread nD τ) ↦[arg4.view.set]{fullShare} f4
abbrev xP : sProp 𝕄 := arg3.view.loc (c : Thread nD τ) ↦[arg3.view.set]{fullShare} f3
abbrev xsP : sProp 𝕄 := arg2.view.loc (c : Thread nD τ) ↦[arg2.view.set]{fullShare} f2

/-- The first `n` blocks hold their products. -/
def outI (fs : Buf (Elt F) (bM.view.loc (c : Thread nD τ))) (e : Fin 4) (x : Elt F .f32) (xb : Vec F S512x1024 .bf16) (n : Nat) : sProp 𝕄 :=
  iprop(∃ f, ⌜∀ m : Fin 10, m.val < n → och c arg6 m f = k0_pay7 x xb (wch c fs e m) (sch c arg4 f4 e m)⌝ ∗ outP c arg6 f)

theorem chunk_spec {α : Type} (e : Fin 4) (n : Fin 10) {o7 : Fin 3 → Nat} (ho7 : o7 = wOff e n) {h7} {o4 : Fin 2 → Nat} (ho4 : o4 = sOff e n) {h4}
    {fs x xb} {K : Prog (TpuEff nD τ sig (Elt F) Λ₀ .tc) α} {Q : α → sProp 𝕄} :
    iprop(slabP c e fs ∗ wsP c arg4 f4 ∗ outI c arg4 arg6 f4 fs e x xb n.val
        ∗ (slabP c e fs -∗ wsP c arg4 f4 -∗ outI c arg4 arg6 f4 fs e x xb (n.val + 1) -∗ WP c K Q))
      ⊢ WP c (chunk arg4 arg6 harg6 n o7 h7 o4 h4 x xb K) Q := by
  unfold chunk outI
  iintro ⟨HS, HW, ⟨%f, %hf, HO⟩, HK⟩
  iapply (ldw c e n ho7); isplitl [HS]; · iexact HS
  iintro HS
  iapply (lds c arg4 f4 e n ho4); isplitl [HW]; · iexact HW
  iintro HW
  iapply (ldo c arg6 n (off25_eq n)); isplitl [HO]; · iexact HO
  iintro HO
  iapply (sto c arg6 n (off25_eq n)); isplitl [HO]; · iexact HO
  iintro %f' %hf' HO
  iapply HK $$ HS HW
  iexists f'
  isplitr [HO]
  · ipureintro
    intro m hm
    by_cases hmn : m = n
    · subst hmn; exact hf'.1
    · rw [hf'.2 m hmn]; exact hf m (by have := fun h => hmn (Fin.ext h); omega)
  iexact HO

end Loads

end Cert.Kernel.Hand
end
-- ==== Proof.Tile.lean ====
/- The body of one grid point as a program over starts, waits, blocks and one loop: the two forms of a tile. -/
module

public import proofs.«01_k».proof.Proof.Compute

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

section Progs
variable (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (v1 v3 v5 v7 : BitVec 32)

/-- A tile of one group: its ten blocks in order, then `K`. -/
def pureTile {α : Type} (hw : k0_chk1 i v1 v3 v5 v7) (h10 : k0_cond10 i v1 v3 v5 v7 = 1#1)
    (K : Prog (TpuEff nD τ sig (Elt F) Λ₀ .tc) α) : Prog (TpuEff nD τ sig (Elt F) Λ₀ .tc) α := do
  let x : Elt F .f32 ← smemLoad arg2 (Rect.unit (s := S4) (k0_off1 i v1 v3 v5 v7) S1.size (k0_off1_inb i v1 v3 v5 v7 hw h10)) numel1_S1 rfl
  let xb : Vec F S512x1024 .bf16 ← Prog.lift (.load arg3 (Rect.unit (s := S512x1024) ![0, 0] S512x1024.size inb_S512x1024_S512x1024_0_0).toLoadRect (View.loadsAt_vmem h_S512x1024))
  chunk arg4 arg6 harg6 0 (k0_off2 i v1 v3 v5 v7) (k0_off2_inb i v1 v3 v5 v7 hw h10) (k0_off3 i v1 v3 v5 v7) (k0_off3_inb i v1 v3 v5 v7 hw h10) x xb
    (chunk arg4 arg6 harg6 1 (k0_off4 i v1 v3 v5 v7) (k0_off4_inb i v1 v3 v5 v7 hw h10) (k0_off5 i v1 v3 v5 v7) (k0_off5_inb i v1 v3 v5 v7 hw h10) x xb
    (chunk arg4 arg6 harg6 2 (k0_off6 i v1 v3 v5 v7) (k0_off6_inb i v1 v3 v5 v7 hw h10) (k0_off7 i v1 v3 v5 v7) (k0_off7_inb i v1 v3 v5 v7 hw h10) x xb
    (chunk arg4 arg6 harg6 3 (k0_off8 i v1 v3 v5 v7) (k0_off8_inb i v1 v3 v5 v7 hw h10) (k0_off9 i v1 v3 v5 v7) (k0_off9_inb i v1 v3 v5 v7 hw h10) x xb
    (chunk arg4 arg6 harg6 4 (k0_off10 i v1 v3 v5 v7) (k0_off10_inb i v1 v3 v5 v7 hw h10) (k0_off11 i v1 v3 v5 v7) (k0_off11_inb i v1 v3 v5 v7 hw h10) x xb
    (chunk arg4 arg6 harg6 5 (k0_off12 i v1 v3 v5 v7) (k0_off12_inb i v1 v3 v5 v7 hw h10) (k0_off13 i v1 v3 v5 v7) (k0_off13_inb i v1 v3 v5 v7 hw h10) x xb
    (chunk arg4 arg6 harg6 6 (k0_off14 i v1 v3 v5 v7) (k0_off14_inb i v1 v3 v5 v7 hw h10) (k0_off15 i v1 v3 v5 v7) (k0_off15_inb i v1 v3 v5 v7 hw h10) x xb
    (chunk arg4 arg6 harg6 7 (k0_off16 i v1 v3 v5 v7) (k0_off16_inb i v1 v3 v5 v7 hw h10) (k0_off17 i v1 v3 v5 v7) (k0_off17_inb i v1 v3 v5 v7 hw h10) x xb
    (chunk arg4 arg6 harg6 8 (k0_off18 i v1 v3 v5 v7) (k0_off18_inb i v1 v3 v5 v7 hw h10) (k0_off19 i v1 v3 v5 v7) (k0_off19_inb i v1 v3 v5 v7 hw h10) x xb
    (chunk arg4 arg6 harg6 9 (k0_off20 i v1 v3 v5 v7) (k0_off20_inb i v1 v3 v5 v7 hw h10) (k0_off21 i v1 v3 v5 v7) (k0_off21_inb i v1 v3 v5 v7 hw h10) x xb
    K)))))))))

/-- A tile of several groups: the loop over them, the loop's remainder, then `K`. -/
def mixedTile (hw : k0_chk1 i v1 v3 v5 v7) (v0 v8 v71 v74 v76 : BitVec 32) (h11 : k0_cond11 i v1 v3 v5 v7 = 1#1) : Prog (TpuEff nD τ sig (Elt F) Λ₀ .tc) PUnit := do
  Scf.Loop.for (k0_t1_loop i v1 v3 v5 v7) (k0_t1_ok i v1 v3 v5 v7 hw h11) ⟨⟩ (k0_t1_body i arg1 harg1 arg2 harg2 arg3 harg3 arg4 harg4 wM (Memref.isWhole_whole _) arg6 harg6 bM (Memref.isWhole_whole _) cc0_scratch1 v0 v1 v3 v5 v7 hw v74 h11)
  Scf.Loop.for (k0_t3_loop i v1 v3 v5 v7) (k0_t3_ok i v1 v3 v5 v7 hw h11) ⟨⟩ (k0_t3_body i arg1 harg1 arg2 harg2 arg3 harg3 arg4 harg4 wM (Memref.isWhole_whole _) arg6 harg6 bM (Memref.isWhole_whole _) cc0_scratch1 v0 v1 v3 v5 v7 hw v8 v71 v74 v76 h11)
  pure ⟨⟩

def mixedIf (hw : k0_chk1 i v1 v3 v5 v7) (v0 v8 v71 v74 v76 : BitVec 32) : Prog (TpuEff nD τ sig (Elt F) Λ₀ .tc) PUnit :=
  if h11 : k0_cond11 i v1 v3 v5 v7 = 1#1 then mixedTile i arg1 harg1 arg2 harg2 arg3 harg3 arg4 harg4 arg6 harg6 v1 v3 v5 v7 hw v0 v8 v71 v74 v76 h11 else pure ⟨⟩

def pureIf (hw : k0_chk1 i v1 v3 v5 v7) (K : Prog (TpuEff nD τ sig (Elt F) Λ₀ .tc) PUnit) : Prog (TpuEff nD τ sig (Elt F) Λ₀ .tc) PUnit :=
  if h10 : k0_cond10 i v1 v3 v5 v7 = 1#1 then pureTile i arg2 arg3 arg4 arg6 harg6 v1 v3 v5 v7 hw h10 K else K

set_option maxRecDepth 65536 in
set_option maxHeartbeats 4000000 in
/-- The kernel's body is: the starts and waits, the tile of one group under its condition, the tile of several under its own. -/
theorem body_eq : cc0__body_skel (F := F) i arg1 harg1 arg2 harg2 arg3 harg3 arg4 harg4 wM (Memref.isWhole_whole _) arg6 harg6 bM (Memref.isWhole_whole _) cc0_scratch1
    = (do
      let r ← k0_part4_skel (F := F) i arg1 harg1 arg2 harg2 arg3 harg3 arg4 harg4 wM (Memref.isWhole_whole _) arg6 harg6 bM (Memref.isWhole_whole _) cc0_scratch1
      match r with
      | ⟨v0, v1, v2, v3, v4, v5, v6, v7, hw, v8, v33, v34⟩ => do
        let q ← k0_part5_skel (F := F) i arg1 harg1 arg2 harg2 arg3 harg3 arg4 harg4 wM (Memref.isWhole_whole _) arg6 harg6 bM (Memref.isWhole_whole _) cc0_scratch1 v0 v2 v4 v6 v8 v33 v34
        match q with
        | ⟨v71, v74, v76⟩ =>
          pureIf i arg2 arg3 arg4 arg6 harg6 v1 v3 v5 v7 hw (mixedIf i arg1 harg1 arg2 harg2 arg3 harg3 arg4 harg4 arg6 harg6 v1 v3 v5 v7 hw v0 v8 v71 v74 v76)) := by
  unfold cc0__body_skel
  simp only [k0_part1_eq_skeleton, k0_part2_eq_skeleton, k0_part3_eq_skeleton, k0_part4_eq_skeleton, k0_part5_eq_skeleton]
  rfl

end Progs

/-- Reading a group's size at any offset that names it. -/
theorem rd_at {α : Type} (c : Dev nD) (arg1 : Memref sig .tc .smem S4 .i32) (fz : Buf (Elt F) (arg1.view.loc (c : Thread nD τ))) (e : Fin 4) {o : Fin 1 → Nat} (ho : o = semOff e) {h : ∀ a, o a + S1.size a ≤ S4.size a} {h1 h2}
    {K : Elt F .i32 → Prog (TpuEff nD τ sig (Elt F) Λ₀ .tc) α} {Q : α → sProp 𝕄} :
    iprop(szP c arg1 fz ∗ (szP c arg1 fz -∗ WP c (K (sizes c arg1 fz e)) Q))
      ⊢ WP c (smemLoad arg1 (Rect.unit (s := S4) o S1.size h) h1 h2 >>= K) Q := by
  subst ho
  iintro ⟨H, HK⟩
  unfold WP
  sl_exec
  iapply HK
  iexact H

section Specs
variable (c : Dev nD) (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (fz : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (fs : Buf (Elt F) (bM.view.loc (c : Thread nD τ)))
  (e : Fin 4)

set_option maxHeartbeats 2000000 in
/-- A tile of one group leaves that group's products. -/
theorem pure_spec {α : Type} (g : Fin 4 → BitVec 32) (he : (Words.cnt g (Words.row0 (t0 i))).toNat = e.val) {hw h10}
    {K : Prog (TpuEff nD τ sig (Elt F) Λ₀ .tc) α} {Q : α → sProp 𝕄} :
    iprop(slabP c e fs ∗ wsP c arg4 f4 ∗ xP c arg3 f3 ∗ xsP c arg2 f2 ∗ (∃ f, outP c arg6 f)
        ∗ (slabP c e fs -∗ wsP c arg4 f4 -∗ xP c arg3 f3 -∗ xsP c arg2 f2 -∗ outI c arg4 arg6 f4 fs e (xsc c arg2 f2 e) (xbl c arg3 f3) 10 -∗ WP c K Q))
      ⊢ WP c (pureTile i arg2 arg3 arg4 arg6 harg6 (g 0) (g 1) (g 2) (g 3) hw h10 K) Q := by
  unfold pureTile
  iintro ⟨HS, HW, HX, HZ, ⟨%f, HO⟩, HK⟩
  iapply (ldxs c arg2 f2 e (by exact congrArg (fun k => ![k]) he)); isplitl [HZ]; · iexact HZ
  iintro HZ
  iapply (ldx c arg3 f3); isplitl [HX]; · iexact HX
  iintro HX
  ihave HO : outI c arg4 arg6 f4 fs e (xsc c arg2 f2 e) (xbl c arg3 f3) ((0 : Fin 10).val) $$ [HO]
  · unfold outI
    iexists f
    isplitr [HO]
    · ipureintro
      intro m hm
      exact absurd hm (Nat.not_lt_zero _)
    iexact HO
  iapply (chunk_spec c arg4 arg6 harg6 f4 e 0 (by exact congrArg (fun k => ![k, 0, 0]) he) (by exact congrArg (fun k => ![k, 0]) he))
  isplitl [HS]; · iexact HS
  isplitl [HW]; · iexact HW
  isplitl [HO]; · iexact HO
  iintro HS HW HO
  iapply (chunk_spec c arg4 arg6 harg6 f4 e 1 (by exact congrArg (fun k => ![k, 0, 512]) he) (by exact congrArg (fun k => ![k, 512]) he))
  isplitl [HS]; · iexact HS
  isplitl [HW]; · iexact HW
  isplitl [HO]; · iexact HO
  iintro HS HW HO
  iapply (chunk_spec c arg4 arg6 harg6 f4 e 2 (by exact congrArg (fun k => ![k, 0, 1024]) he) (by exact congrArg (fun k => ![k, 1024]) he))
  isplitl [HS]; · iexact HS
  isplitl [HW]; · iexact HW
  isplitl [HO]; · iexact HO
  iintro HS HW HO
  iapply (chunk_spec c arg4 arg6 harg6 f4 e 3 (by exact congrArg (fun k => ![k, 0, 1536]) he) (by exact congrArg (fun k => ![k, 1536]) he))
  isplitl [HS]; · iexact HS
  isplitl [HW]; · iexact HW
  isplitl [HO]; · iexact HO
  iintro HS HW HO
  iapply (chunk_spec c arg4 arg6 harg6 f4 e 4 (by exact congrArg (fun k => ![k, 0, 2048]) he) (by exact congrArg (fun k => ![k, 2048]) he))
  isplitl [HS]; · iexact HS
  isplitl [HW]; · iexact HW
  isplitl [HO]; · iexact HO
  iintro HS HW HO
  iapply (chunk_spec c arg4 arg6 harg6 f4 e 5 (by exact congrArg (fun k => ![k, 0, 2560]) he) (by exact congrArg (fun k => ![k, 2560]) he))
  isplitl [HS]; · iexact HS
  isplitl [HW]; · iexact HW
  isplitl [HO]; · iexact HO
  iintro HS HW HO
  iapply (chunk_spec c arg4 arg6 harg6 f4 e 6 (by exact congrArg (fun k => ![k, 0, 3072]) he) (by exact congrArg (fun k => ![k, 3072]) he))
  isplitl [HS]; · iexact HS
  isplitl [HW]; · iexact HW
  isplitl [HO]; · iexact HO
  iintro HS HW HO
  iapply (chunk_spec c arg4 arg6 harg6 f4 e 7 (by exact congrArg (fun k => ![k, 0, 3584]) he) (by exact congrArg (fun k => ![k, 3584]) he))
  isplitl [HS]; · iexact HS
  isplitl [HW]; · iexact HW
  isplitl [HO]; · iexact HO
  iintro HS HW HO
  iapply (chunk_spec c arg4 arg6 harg6 f4 e 8 (by exact congrArg (fun k => ![k, 0, 4096]) he) (by exact congrArg (fun k => ![k, 4096]) he))
  isplitl [HS]; · iexact HS
  isplitl [HW]; · iexact HW
  isplitl [HO]; · iexact HO
  iintro HS HW HO
  iapply (chunk_spec c arg4 arg6 harg6 f4 e 9 (by exact congrArg (fun k => ![k, 0, 4608]) he) (by exact congrArg (fun k => ![k, 4608]) he))
  isplitl [HS]; · iexact HS
  isplitl [HW]; · iexact HW
  isplitl [HO]; · iexact HO
  iintro HS HW HO
  ihave HO : outI c arg4 arg6 f4 fs e (xsc c arg2 f2 e) (xbl c arg3 f3) 10 $$ [HO]
  · iexact HO
  iapply HK $$ HS HW HX HZ HO

/-- The first `n` blocks are `V` of what they held, the others as they were. -/
def midI (f0 : Buf (Elt F) (arg6.view.loc (c : Thread nD τ))) (V : Fin 10 → Vec F S512x512 .bf16 → Vec F S512x512 .bf16) (n : Nat) : sProp 𝕄 :=
  iprop(∃ f, ⌜∀ m : Fin 10, och c arg6 m f = if m.val < n then V m (och c arg6 m f0) else och c arg6 m f0⌝ ∗ outP c arg6 f)

set_option maxHeartbeats 2000000 in
/-- One block of a tile of several groups. -/
theorem trip2_spec (g : Fin 4 → BitVec 32) {hw h11} {k1} (he : (Scf.iv (Words.cnt g (Words.row0 (t0 i))) 1#32 k1.val).toNat = e.val)
    (v96 v100 v104 v108 : BitVec 32) (x : Elt F .f32) (xb : Vec F S512x1024 .bf16) (f0) (k2 : Fin k0_t2_loop.trips) :
    iprop(slabP c e fs ∗ wsP c arg4 f4 ∗ midI c arg6 f0 (fun m o => k0_pay4 i (Words.row0 (t0 i)) (g 0) (g 1) (g 2) (g 3) (Words.cnt g (Words.row0 (t0 i))) k1 v96 v100 v104 v108 x xb (wch c fs e m) (sch c arg4 f4 e m) o) k2.val)
      ⊢ WP c (k0_t2_body (F := F) i arg1 harg1 arg2 harg2 arg3 harg3 arg4 harg4 wM (Memref.isWhole_whole _) arg6 harg6 bM (Memref.isWhole_whole _) cc0_scratch1 (Words.row0 (t0 i)) (g 0) (g 1) (g 2) (g 3) hw (Words.cnt g (Words.row0 (t0 i))) h11 k1 v96 v100 v104 v108 x xb k2 ⟨⟩)
        (fun _ => iprop(slabP c e fs ∗ wsP c arg4 f4 ∗ midI c arg6 f0 (fun m o => k0_pay4 i (Words.row0 (t0 i)) (g 0) (g 1) (g 2) (g 3) (Words.cnt g (Words.row0 (t0 i))) k1 v96 v100 v104 v108 x xb (wch c fs e m) (sch c arg4 f4 e m) o) (k2.val + 1))) := by
  obtain ⟨n, rfl⟩ : ∃ n : Fin 10, k2 = toT n := ⟨⟨k2.val, k2.isLt⟩, rfl⟩
  have hn : (Scalar.muli (Scf.iv 0#32 1#32 n.val) 512#32).toNat = 512 * n.val := by revert n; decide
  unfold k0_t2_body midI
  iintro ⟨HS, HW, ⟨%f, %hf, HO⟩⟩
  iapply (ldw c e n (by exact congrArg₂ (fun k l => ![k, 0, l]) he hn)); isplitl [HS]; · iexact HS
  iintro HS
  iapply (lds c arg4 f4 e n (by exact congrArg₂ (fun k l => ![k, l]) he hn)); isplitl [HW]; · iexact HW
  iintro HW
  iapply (ldo c arg6 n (off25_eq n)); isplitl [HO]; · iexact HO
  iintro HO
  iapply (ldo c arg6 n (off25_eq n)); isplitl [HO]; · iexact HO
  iintro HO
  iapply (sto c arg6 n (off25_eq n)); isplitl [HO]; · iexact HO
  iintro %f' %hf' HO
  unfold WP
  sl_step
  isplitl [HS]; · iexact HS
  isplitl [HW]; · iexact HW
  iexists f'
  isplitr [HO]
  · ipureintro
    intro m
    by_cases hmn : m = n
    · subst hmn
      rw [hf'.1, hf m, if_neg (Nat.lt_irrefl _), if_pos (Nat.lt_succ_self _)]
    · have hv : m.val ≠ n.val := fun h => hmn (Fin.ext h)
      rw [hf'.2 m hmn, hf m]
      show (if m.val < n.val then _ else _) = if m.val < n.val + 1 then _ else _
      by_cases h : m.val < n.val
      · rw [if_pos h, if_pos (by omega)]
      · rw [if_neg h, if_neg (by omega)]
  iexact HO

end Specs

end Cert.Kernel.Hand
end
-- ==== Proof.Mixed.lean ====
/- A tile of several groups: the loop over its groups, and what it leaves. -/
module

public import proofs.«01_k».proof.Proof.Tile

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

/-! ### One element of a block of several groups -/

section Elem
variable (i : grid0.Coords) (g : Fin 4 → BitVec 32) (hg : Words.Parts g) (e : Fin 4)

/-- The word the loop computes for its group's first row. -/
theorem start_word (a : BitVec 32) (ha : a = BitVec.ofNat 32 e.val) :
    Scalar.addi (Scalar.addi (Scalar.addi 0#32 (Scalar.select (Scalar.cmpi .sgt a 0#32) (g 0) 0#32)) (Scalar.select (Scalar.cmpi .sgt a 1#32) (g 1) 0#32)) (Scalar.select (Scalar.cmpi .sgt a 2#32) (g 2) 0#32)
      = Words.startW g e := by
  subst ha
  rcases Words.four e with rfl | rfl | rfl | rfl
  · rfl
  · show Scalar.addi (Scalar.addi (Words.end0 g) 0#32) 0#32 = Words.end0 g
    unfold Scalar.addi IntOp.addi; simp
  · show Scalar.addi (Words.end1 g) 0#32 = Words.end1 g
    unfold Scalar.addi IntOp.addi; simp
  · rfl

/-- Whether row `512 t + r` lies in group `e`, as the kernel's mask says it. -/
theorem mask_word (hg : Words.Parts g) {t : Nat} (ht : t < 24) {r : Nat} (hr : r < 512) :
    Scalar.andi (Scalar.cmpi .sge (Scalar.addi (Words.row0 t) (BitVec.ofNat 32 r)) (Words.startW g e))
        (Scalar.cmpi .slt (Scalar.addi (Words.row0 t) (BitVec.ofNat 32 r)) (Scalar.addi (Words.startW g e) (g e))) = 1#1
      ↔ Words.before g (512 * t + r) = e.val := by
  have h1 := Words.toNat_row0 ht; have h2 := Words.toNat_startW hg e; have h3 := Words.fin_le hg e; have h4 := hg.le e
  unfold Words.fin at h3
  have hw : (Scalar.addi (Words.row0 t) (BitVec.ofNat 32 r)).toNat = 512 * t + r := by
    have : (BitVec.ofNat 32 r).toNat = r := by rw [BitVec.toNat_ofNat]; omega
    rw [Words.toNat_addi] <;> rw [h1, this]; omega
  have hf : (Scalar.addi (Words.startW g e) (g e)).toNat = Words.start g e + (g e).toNat := by
    rw [Words.toNat_addi] <;> rw [h2]; omega
  rw [Words.sge_eq (by omega) (by omega), Words.slt_eq (by omega) (by omega), hw, h2, hf, Words.before_eq_iff hg (by omega) e]
  show IntOp.andi _ _ = 1#1 ↔ _
  rw [WordCmp.andi_ofBool, WordCmp.ofBool_eq_one_iff]
  simp [Words.fin]

set_option maxHeartbeats 1000000 in
/-- One element of a group's block: the group's product on the group's rows, what was there on the others. -/
theorem pay4_apply (hg : Words.Parts g) (k1) (hk : Scf.iv (Words.cnt g (Words.row0 (t0 i))) 1#32 k1.val = BitVec.ofNat 32 e.val)
    (x : Elt F .f32) (xb : Vec F S512x1024 .bf16) (w s) (o : Vec F S512x512 .bf16) (y : S512x512.Idx) :
    k0_pay4 i (Words.row0 (t0 i)) (g 0) (g 1) (g 2) (g 3) (Words.cnt g (Words.row0 (t0 i))) k1 (g 0) (g 1) (g 2) (g e) x xb w s o y
      = if Words.before g (512 * t0 i + (y 0).val) = e.val then k0_pay7 x xb w s y
        else FloatOps.truncf .bf16 bitsLt_bf16_f32 (FloatOps.extf .f32 bitsLt_bf16_f32 (o y)) := by
  have ht : t0 i < 24 := (i 0).isLt
  have hm := mask_word g e hg ht (y 0).isLt
  rw [← start_word g e _ hk] at hm
  have ho : shapeCast S512x512 o shapeCasts_S512x512_S512x512 y = o y := congrArg o (Shape.reshapeEquiv_self _ _)
  have hM : broadcastTo S512x512 (shapeCast S512x1 (andi (cmpi .sge (k0_pay3 (Words.row0 (t0 i))) (broadcast S512x1 (Scalar.addi (Scalar.addi (Scalar.addi 0#32 (Scalar.select (Scalar.cmpi .sgt (Scf.iv (Words.cnt g (Words.row0 (t0 i))) 1#32 k1.val) 0#32) (g 0) 0#32)) (Scalar.select (Scalar.cmpi .sgt (Scf.iv (Words.cnt g (Words.row0 (t0 i))) 1#32 k1.val) 1#32) (g 1) 0#32)) (Scalar.select (Scalar.cmpi .sgt (Scf.iv (Words.cnt g (Words.row0 (t0 i))) 1#32 k1.val) 2#32) (g 2) 0#32))))
      (cmpi .slt (k0_pay3 (Words.row0 (t0 i))) (broadcast S512x1 (Scalar.addi (Scalar.addi (Scalar.addi (Scalar.addi 0#32 (Scalar.select (Scalar.cmpi .sgt (Scf.iv (Words.cnt g (Words.row0 (t0 i))) 1#32 k1.val) 0#32) (g 0) 0#32)) (Scalar.select (Scalar.cmpi .sgt (Scf.iv (Words.cnt g (Words.row0 (t0 i))) 1#32 k1.val) 1#32) (g 1) 0#32)) (Scalar.select (Scalar.cmpi .sgt (Scf.iv (Words.cnt g (Words.row0 (t0 i))) 1#32 k1.val) 2#32) (g 2) 0#32)) (g e))))) shapeCasts_S512x1_S512x1) broadcasts_S512x1_S512x512 y = 1#1
      ↔ Words.before g (512 * t0 i + (y 0).val) = e.val := by
    rw [← hm]
    unfold broadcastTo shapeCast
    rw [Shape.reshapeEquiv_self]
    have hi : [(0 : Fin 2)].foldl (fun n a => n * S512x1.size a + (if a = 0 then (y 0).val else 0)) 0 = (y 0).val := by
      show 0 * 512 + (y 0).val = _; omega
    show IntOp.andi (IntOp.cmpi .sge (IntOp.addi (Words.row0 (t0 i)) (BitVec.ofNat 32 (0 * 512 + (y 0).val))) _) (IntOp.cmpi .slt (IntOp.addi (Words.row0 (t0 i)) (BitVec.ofNat 32 (0 * 512 + (y 0).val))) _) = 1#1 ↔ _
    rw [Nat.zero_mul, Nat.zero_add]
    exact Iff.rfl
  by_cases hb : Words.before g (512 * t0 i + (y 0).val) = e.val
  · rw [if_pos hb]
    exact congrArg (FloatOps.truncf .bf16 bitsLt_bf16_f32) (if_pos (hM.mpr hb))
  · rw [if_neg hb]
    refine congrArg (FloatOps.truncf .bf16 bitsLt_bf16_f32) (Eq.trans ?_ (congrArg (FloatOps.extf .f32 bitsLt_bf16_f32) ho))
    exact if_neg (fun h => hb (hM.mp h))

end Elem

section Specs
variable (c : Dev nD) (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (fz : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (fs : Buf (Elt F) (bM.view.loc (c : Thread nD τ)))
  (e : Fin 4)

set_option maxHeartbeats 2000000 in
/-- One group of a tile of several. -/
theorem trip1_spec (k1) (he : (Scf.iv (Words.cnt (sizes c arg1 fz) (Words.row0 (t0 i))) 1#32 k1.val).toNat = e.val) {hw h11} {f0} {Q : PUnit → sProp 𝕄} :
    iprop(szP c arg1 fz ∗ slabP c e fs ∗ wsP c arg4 f4 ∗ xP c arg3 f3 ∗ xsP c arg2 f2 ∗ outP c arg6 f0
        ∗ (szP c arg1 fz -∗ slabP c e fs -∗ wsP c arg4 f4 -∗ xP c arg3 f3 -∗ xsP c arg2 f2
          -∗ midI c arg6 f0 (fun m o => k0_pay4 i (Words.row0 (t0 i)) (sizes c arg1 fz 0) (sizes c arg1 fz 1) (sizes c arg1 fz 2) (sizes c arg1 fz 3) (Words.cnt (sizes c arg1 fz) (Words.row0 (t0 i))) k1
              (sizes c arg1 fz 0) (sizes c arg1 fz 1) (sizes c arg1 fz 2) (sizes c arg1 fz e) (xsc c arg2 f2 e) (xbl c arg3 f3) (wch c fs e m) (sch c arg4 f4 e m) o) 10 -∗ Q ⟨⟩))
      ⊢ WP c (k0_t1_body (F := F) i arg1 harg1 arg2 harg2 arg3 harg3 arg4 harg4 wM (Memref.isWhole_whole _) arg6 harg6 bM (Memref.isWhole_whole _) cc0_scratch1 (Words.row0 (t0 i)) (sizes c arg1 fz 0) (sizes c arg1 fz 1) (sizes c arg1 fz 2) (sizes c arg1 fz 3) hw (Words.cnt (sizes c arg1 fz) (Words.row0 (t0 i))) h11 k1 ⟨⟩) Q := by
  unfold k0_t1_body
  iintro ⟨HZ, HS, HW, HX, HXS, HO, HK⟩
  iapply (rd_at c arg1 fz 0 rfl); isplitl [HZ]; · iexact HZ
  iintro HZ
  iapply (rd_at c arg1 fz 1 rfl); isplitl [HZ]; · iexact HZ
  iintro HZ
  iapply (rd_at c arg1 fz 2 rfl); isplitl [HZ]; · iexact HZ
  iintro HZ
  iapply (rd_at c arg1 fz e (by exact congrArg (fun k => ![k]) he)); isplitl [HZ]; · iexact HZ
  iintro HZ
  iapply (ldxs c arg2 f2 e (by exact congrArg (fun k => ![k]) he)); isplitl [HXS]; · iexact HXS
  iintro HXS
  iapply (ldx c arg3 f3); isplitl [HX]; · iexact HX
  iintro HX
  unfold WP
  iapply (Scf.wp_for_bind frame (wpE (defs₀ (F := F)) 𝒱₀ (c : Thread nD τ) none) Set.univ k0_t2_loop.lb k0_t2_loop.ub k0_t2_loop.st k0_t2_ok PUnit.unit _
    (fun n _ => iprop(slabP c e fs ∗ wsP c arg4 f4 ∗ midI c arg6 f0 (fun m o => k0_pay4 i (Words.row0 (t0 i)) (sizes c arg1 fz 0) (sizes c arg1 fz 1) (sizes c arg1 fz 2) (sizes c arg1 fz 3) (Words.cnt (sizes c arg1 fz) (Words.row0 (t0 i))) k1 (sizes c arg1 fz 0) (sizes c arg1 fz 1) (sizes c arg1 fz 2) (sizes c arg1 fz e) (xsc c arg2 f2 e) (xbl c arg3 f3) (wch c fs e m) (sch c arg4 f4 e m) o) n))
    (fun k2 _ => trip2_spec c i arg1 harg1 arg2 harg2 arg3 harg3 arg4 harg4 arg6 harg6 f4 fs e (sizes c arg1 fz) he (sizes c arg1 fz 0) (sizes c arg1 fz 1) (sizes c arg1 fz 2) (sizes c arg1 fz e) (xsc c arg2 f2 e) (xbl c arg3 f3) f0 k2)) $$ [HS HW HO]
  · isplitl [HS]; · iexact HS
    isplitl [HW]; · iexact HW
    unfold midI
    iexists f0
    isplitr [HO]
    · ipureintro
      intro m
      rw [if_neg (Nat.not_lt_zero _)]
    iexact HO
  rw [show Scf.trips k0_t2_loop.lb k0_t2_loop.ub k0_t2_loop.st = 10 from trips2]
  iintro %acc ⟨HS, HW, HO⟩
  sl_step
  iapply HK $$ HZ HS HW HX HXS HO

end Specs

end Cert.Kernel.Hand
end
-- ==== Proof.Body.lean ====
/- One grid point's body: every row of the tile ends up with its own group's product. -/
module

public import proofs.«01_k».proof.Proof.Mixed

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

/-- Rounding a widened bf16 value back to bf16 gives the value. -/
def Law (F : FTy → Type) [FloatOps F] : Prop :=
  ∀ x : F .bf16, FloatOps.truncf .bf16 bitsLt_bf16_f32 (FloatOps.extf .f32 bitsLt_bf16_f32 x) = x

section Chk
variable (i : grid0.Coords) (g : Fin 4 → BitVec 32)

theorem inb1_of {e : Fin 4} {o : Fin 1 → Nat} (h : o = semOff e) : ∀ a, o a + S1.size a ≤ S4.size a := by subst h; exact semOff_inb e
theorem inb7_of {e : Fin 4} (n : Fin 10) {o : Fin 3 → Nat} (h : o = wOff e n) : ∀ a, o a + S1x1024x512.size a ≤ S4x1024x5120.size a := by subst h; exact wOff_inb e n
theorem inb4_of {e : Fin 4} (n : Fin 10) {o : Fin 2 → Nat} (h : o = sOff e n) : ∀ a, o a + S1x512.size a ≤ S4x5120.size a := by subst h; exact sOff_inb e n

/-- Trip `k` of the loop over groups is at a group's number. -/
theorem group_of {g : Fin 4 → BitVec 32} (hg : Words.Parts g) {t : Nat} (ht : t < 24) {k : Nat} (hk : k < Words.lst g t + 1 - Words.fst g t) :
    ∃ e : Fin 4, e.val = Words.fst g t + k ∧ Scf.iv (Words.cnt g (Words.row0 t)) 1#32 k = BitVec.ofNat 32 e.val
      ∧ (Scf.iv (Words.cnt g (Words.row0 t)) 1#32 k).toNat = e.val := by
  have h1 := Words.lst_le hg ht
  refine ⟨⟨Words.fst g t + k, by omega⟩, rfl, Words.iv_eq hg ht k hk, ?_⟩
  rw [Words.iv_eq hg ht k hk, BitVec.toNat_ofNat]
  show (Words.fst g t + k) % 2 ^ 32 = Words.fst g t + k
  omega

set_option maxRecDepth 65536 in
set_option maxHeartbeats 4000000 in
/-- Sizes that share out the rows keep every access the kernel makes by group number inside its array. -/
theorem chk_of (hg : Words.Parts g) : k0_chk1 i (g 0) (g 1) (g 2) (g 3) := by
  have ht : t0 i < 24 := (i 0).isLt
  obtain ⟨e, he⟩ : ∃ e : Fin 4, (Words.cnt g (Words.row0 (t0 i))).toNat = e.val :=
    ⟨⟨Words.fst g (t0 i), by have := Words.fst_le hg ht; omega⟩, Words.first_toNat hg ht⟩
  have trip : ∀ k1 : Fin (k0_t1_loop i (g 0) (g 1) (g 2) (g 3)).trips, ∃ e : Fin 4, (Scf.iv (Words.cnt g (Words.row0 (t0 i))) 1#32 k1.val).toNat = e.val := fun k1 => by
    obtain ⟨e, -, -, h⟩ := group_of hg ht (k := k1.val) (lt_of_lt_of_eq k1.isLt (Words.trips_eq hg ht))
    exact ⟨e, h⟩
  have col : ∀ n : Fin 10, (Scalar.muli (Scf.iv 0#32 1#32 n.val) 512#32).toNat = 512 * n.val := by decide
  have no : ∀ k : Fin (k0_t3_loop i (g 0) (g 1) (g 2) (g 3)).trips, False := fun k => Scf.rem_no_trip _ _ k
  have inb1 := inb1_of (e := e) (o := k0_off1 i (g 0) (g 1) (g 2) (g 3)) (by exact congrArg (fun k => ![k]) he)
  have w7 := fun (n : Fin 10) {o : Fin 3 → Nat} (h : o = wOff e n) => inb7_of n h
  have w4 := fun (n : Fin 10) {o : Fin 2 → Nat} (h : o = sOff e n) => inb4_of n h
  refine ⟨fun _ => inb1, fun _ => w7 0 (by exact congrArg (fun k => ![k, 0, 0]) he), fun _ => w4 0 (by exact congrArg (fun k => ![k, 0]) he),
    fun _ => w7 1 (by exact congrArg (fun k => ![k, 0, 512]) he), fun _ => w4 1 (by exact congrArg (fun k => ![k, 512]) he),
    fun _ => w7 2 (by exact congrArg (fun k => ![k, 0, 1024]) he), fun _ => w4 2 (by exact congrArg (fun k => ![k, 1024]) he),
    fun _ => w7 3 (by exact congrArg (fun k => ![k, 0, 1536]) he), fun _ => w4 3 (by exact congrArg (fun k => ![k, 1536]) he),
    fun _ => w7 4 (by exact congrArg (fun k => ![k, 0, 2048]) he), fun _ => w4 4 (by exact congrArg (fun k => ![k, 2048]) he),
    fun _ => w7 5 (by exact congrArg (fun k => ![k, 0, 2560]) he), fun _ => w4 5 (by exact congrArg (fun k => ![k, 2560]) he),
    fun _ => w7 6 (by exact congrArg (fun k => ![k, 0, 3072]) he), fun _ => w4 6 (by exact congrArg (fun k => ![k, 3072]) he),
    fun _ => w7 7 (by exact congrArg (fun k => ![k, 0, 3584]) he), fun _ => w4 7 (by exact congrArg (fun k => ![k, 3584]) he),
    fun _ => w7 8 (by exact congrArg (fun k => ![k, 0, 4096]) he), fun _ => w4 8 (by exact congrArg (fun k => ![k, 4096]) he),
    fun _ => w7 9 (by exact congrArg (fun k => ![k, 0, 4608]) he), fun _ => w4 9 (by exact congrArg (fun k => ![k, 4608]) he),
    fun _ => Words.loop_ok hg ht, fun k1 _ => ?_, fun k1 k2 _ => ?_, fun k1 k2 _ => ?_, fun _ => Scf.rem_ok _ _,
    fun k _ => (no k).elim, fun k _ _ => (no k).elim, fun k _ _ => (no k).elim⟩
  · obtain ⟨e', h⟩ := trip k1
    exact inb1_of (e := e') (by exact congrArg (fun k => ![k]) h)
  · obtain ⟨e', h⟩ := trip k1
    exact inb7_of (e := e') ⟨k2.val, k2.isLt⟩ (by exact congrArg₂ (fun k l => ![k, 0, l]) h (col ⟨k2.val, k2.isLt⟩))
  · obtain ⟨e', h⟩ := trip k1
    exact inb4_of (e := e') ⟨k2.val, k2.isLt⟩ (by exact congrArg₂ (fun k l => ![k, l]) h (col ⟨k2.val, k2.isLt⟩))
end Chk

section Slabs
variable (c : Dev nD) (XA : Buf (Elt F) (wM.view.loc (c : Thread nD τ))) (g : Fin 4 → BitVec 32)

/-- The four groups' weights once the waits before point `k` are done. -/
abbrev allP (k : Nat) : sProp 𝕄 := iprop(midP c XA g k 0 ∗ midP c XA g k 1 ∗ midP c XA g k 2 ∗ midP c XA g k 3)

/-- A group of the tile that has rows has its weights in its slab; one without has a slab of its own. -/
theorem slab_acc {e : Fin 4} {t : Nat} (he : Words.start g e ≤ 512 * t + 511) :
    midP c XA g (t + 1) e ⊢ iprop(∃ fs, ⌜0 < (g e).toNat → fs = asBuf c XA⌝ ∗ slabP c e fs ∗ (slabP c e fs -∗ midP c XA g (t + 1) e)) := by
  unfold midP
  by_cases h : 0 < (g e).toNat
  · rw [if_pos h, if_neg (by omega)]
    iintro ⟨Hc, Hs, Hh⟩
    iexists (asBuf c XA)
    isplitr [Hs Hc Hh]; · ipureintro; exact fun _ => rfl
    isplitl [Hs]; · iexact Hs
    iintro Hs
    isplitl [Hc]; · iexact Hc
    isplitl [Hs]; · iexact Hs
    iexact Hh
  · rw [if_neg h]
    iintro ⟨Hc, ⟨%f, Hs⟩, Hh⟩
    iexists f
    isplitr [Hs Hc Hh]; · ipureintro; exact fun h' => absurd h' h
    isplitl [Hs]; · iexact Hs
    iintro Hs
    isplitl [Hc]; · iexact Hc
    isplitl [Hs]; · iexists f; iexact Hs
    iexact Hh

/-- One group out of the four, and back. -/
theorem all_acc (e : Fin 4) (k : Nat) : allP c XA g k ⊢ iprop(midP c XA g k e ∗ (midP c XA g k e -∗ allP c XA g k)) := by
  rcases Words.four e with rfl | rfl | rfl | rfl <;>
  · iintro ⟨H0, H1, H2, H3⟩
    first
      | (isplitl [H0]; · iexact H0)
        iintro H0
        isplitl [H0]; · iexact H0
        isplitl [H1]; · iexact H1
        isplitl [H2]; · iexact H2
        iexact H3
      | (isplitl [H1]; · iexact H1)
        iintro H1
        isplitl [H0]; · iexact H0
        isplitl [H1]; · iexact H1
        isplitl [H2]; · iexact H2
        iexact H3
      | (isplitl [H2]; · iexact H2)
        iintro H2
        isplitl [H0]; · iexact H0
        isplitl [H1]; · iexact H1
        isplitl [H2]; · iexact H2
        iexact H3
      | (isplitl [H3]; · iexact H3)
        iintro H3
        isplitl [H0]; · iexact H0
        isplitl [H1]; · iexact H1
        isplitl [H2]; · iexact H2
        iexact H3

/-- A tile's group, its slab, and back. -/
theorem tile_acc {e : Fin 4} {t : Nat} (he : e.val ≤ Words.lst g t) :
    allP c XA g (t + 1) ⊢ iprop(∃ fs, ⌜0 < (g e).toNat → fs = asBuf c XA⌝ ∗ slabP c e fs ∗ (slabP c e fs -∗ allP c XA g (t + 1))) := by
  iintro H
  icases (all_acc c XA g e (t + 1)) $$ H with ⟨H, HB⟩
  icases (slab_acc c XA g (Words.start_lt_of_le_before e he)) $$ H with ⟨%fs, %h, HS, HB'⟩
  iexists fs
  isplitr [HS HB HB']; · ipureintro; exact h
  isplitl [HS]; · iexact HS
  iintro HS
  iapply HB
  iapply HB' $$ HS

/-- A group that holds a row has rows. -/
theorem pos_of_before (hg : Words.Parts g) {r : Nat} (hr : r < 12288) {e : Fin 4} (h : Words.before g r = e.val) : 0 < (g e).toNat := by
  have := (Words.before_eq_iff hg hr e).mp h
  unfold Words.fin at this; omega
end Slabs

section Body
variable (c : Dev nD) (XA : Buf (Elt F) (wM.view.loc (c : Thread nD τ))) (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (fz : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ)))

/-- The rows of groups below `b` hold their own group's products. -/
def Done (b : Nat) (f : Buf (Elt F) (arg6.view.loc (c : Thread nD τ))) : Prop :=
  Law F → ∀ (m : Fin 10) (y : S512x512.Idx) (e : Fin 4), Words.before (sizes c arg1 fz) (512 * t0 i + (y 0).val) = e.val → e.val < b →
    och c arg6 m f y = k0_pay7 (xsc c arg2 f2 e) (xbl c arg3 f3) (wch c (asBuf c XA) e m) (sch c arg4 f4 e m) y
abbrev doneP (b : Nat) : sProp 𝕄 := iprop(∃ f, ⌜Done c XA i arg1 arg2 arg3 arg4 arg6 fz f2 f3 f4 b f⌝ ∗ outP c arg6 f)

/-- All the body holds but the output's block. -/
abbrev restP : sProp 𝕄 := iprop(szP c arg1 fz ∗ wsP c arg4 f4 ∗ xP c arg3 f3 ∗ xsP c arg2 f2 ∗ allP c XA (sizes c arg1 fz) (t0 i + 1))

variable (hg : Words.Parts (sizes c arg1 fz))
include hg

set_option maxHeartbeats 2000000 in
/-- One trip of the loop over groups: its group's rows are done too. -/
theorem group_step {hw h11} (k1 : Fin (k0_t1_loop i ((sizes c arg1 fz) 0) ((sizes c arg1 fz) 1) ((sizes c arg1 fz) 2) ((sizes c arg1 fz) 3)).trips) :
    iprop(restP c XA i arg1 arg2 arg3 arg4 fz f2 f3 f4 ∗ doneP c XA i arg1 arg2 arg3 arg4 arg6 fz f2 f3 f4 (Words.fst (sizes c arg1 fz) (t0 i) + k1.val))
      ⊢ WP c (k0_t1_body (F := F) i arg1 harg1 arg2 harg2 arg3 harg3 arg4 harg4 wM (Memref.isWhole_whole _) arg6 harg6 bM (Memref.isWhole_whole _) cc0_scratch1 (Words.row0 (t0 i)) ((sizes c arg1 fz) 0) ((sizes c arg1 fz) 1) ((sizes c arg1 fz) 2) ((sizes c arg1 fz) 3) hw (Words.cnt (sizes c arg1 fz) (Words.row0 (t0 i))) h11 k1 ⟨⟩)
        (fun _ => iprop(restP c XA i arg1 arg2 arg3 arg4 fz f2 f3 f4 ∗ doneP c XA i arg1 arg2 arg3 arg4 arg6 fz f2 f3 f4 (Words.fst (sizes c arg1 fz) (t0 i) + (k1.val + 1)))) := by
  have ht : t0 i < 24 := (i 0).isLt
  have hk : k1.val < Words.lst (sizes c arg1 fz) (t0 i) + 1 - Words.fst (sizes c arg1 fz) (t0 i) := lt_of_lt_of_eq k1.isLt (Words.trips_eq hg ht)
  obtain ⟨e, hev, hiv, he⟩ := group_of hg ht hk
  iintro ⟨⟨HZ, HW, HX, HXS, HA⟩, ⟨%f0, %hd, HO⟩⟩
  icases (tile_acc c XA (sizes c arg1 fz) (e := e) (t := t0 i) (by omega)) $$ HA with ⟨%fs, %hfs, HS, HB⟩
  iapply (trip1_spec c i arg1 harg1 arg2 harg2 arg3 harg3 arg4 harg4 arg6 harg6 fz f2 f3 f4 fs e k1 he)
  isplitl [HZ]; · iexact HZ
  isplitl [HS]; · iexact HS
  isplitl [HW]; · iexact HW
  isplitl [HX]; · iexact HX
  isplitl [HXS]; · iexact HXS
  isplitl [HO]; · iexact HO
  unfold midI
  iintro HZ HS HW HX HXS ⟨%f, %hf, HO⟩
  isplitr [HO]
  · isplitl [HZ]; · iexact HZ
    isplitl [HW]; · iexact HW
    isplitl [HX]; · iexact HX
    isplitl [HXS]; · iexact HXS
    iapply HB $$ HS
  iexists f
  isplitr [HO]
  · ipureintro
    intro law m y e' hy hlt
    refine (congrFun ((hf m).trans (if_pos m.isLt)) y).trans ((pay4_apply i (sizes c arg1 fz) e hg k1 hiv _ _ _ _ _ _).trans ?_)
    have hrow : 512 * t0 i + (y 0).val < 12288 := by have : (y 0).val < 512 := (y 0).isLt; omega
    by_cases hb : Words.before (sizes c arg1 fz) (512 * t0 i + (y 0).val) = e.val
    · have hee : e = e' := Fin.ext (hb.symm.trans hy)
      subst hee
      rw [if_pos hb, hfs (pos_of_before (sizes c arg1 fz) hg hrow hb)]
    · rw [if_neg hb, law]
      exact hd law m y e' hy (by
        have : e'.val ≠ e.val := fun h => hb (hy.trans h)
        omega)
  iexact HO

set_option maxHeartbeats 2000000 in
/-- A tile of several groups. -/
theorem mixed_spec {hw h11 v8 v71 v76} {Q : PUnit → sProp 𝕄} :
    iprop(restP c XA i arg1 arg2 arg3 arg4 fz f2 f3 f4 ∗ (∃ f, outP c arg6 f)
        ∗ (restP c XA i arg1 arg2 arg3 arg4 fz f2 f3 f4 -∗ doneP c XA i arg1 arg2 arg3 arg4 arg6 fz f2 f3 f4 4 -∗ Q ⟨⟩))
      ⊢ WP c (mixedTile i arg1 harg1 arg2 harg2 arg3 harg3 arg4 harg4 arg6 harg6 ((sizes c arg1 fz) 0) ((sizes c arg1 fz) 1) ((sizes c arg1 fz) 2) ((sizes c arg1 fz) 3) hw (Words.row0 (t0 i)) v8 v71 (Words.cnt (sizes c arg1 fz) (Words.row0 (t0 i))) v76 h11) Q := by
  have ht : t0 i < 24 := (i 0).isLt
  have hl := Words.fst_le_lst (g := (sizes c arg1 fz)) (t := t0 i)
  unfold mixedTile
  iintro ⟨HR, ⟨%f, HO⟩, HK⟩
  unfold WP
  iapply (Scf.wp_for_bind frame (wpE (defs₀ (F := F)) 𝒱₀ (c : Thread nD τ) none) Set.univ (k0_t1_loop i ((sizes c arg1 fz) 0) ((sizes c arg1 fz) 1) ((sizes c arg1 fz) 2) ((sizes c arg1 fz) 3)).lb (k0_t1_loop i ((sizes c arg1 fz) 0) ((sizes c arg1 fz) 1) ((sizes c arg1 fz) 2) ((sizes c arg1 fz) 3)).ub (k0_t1_loop i ((sizes c arg1 fz) 0) ((sizes c arg1 fz) 1) ((sizes c arg1 fz) 2) ((sizes c arg1 fz) 3)).st (k0_t1_ok i ((sizes c arg1 fz) 0) ((sizes c arg1 fz) 1) ((sizes c arg1 fz) 2) ((sizes c arg1 fz) 3) hw h11) PUnit.unit _
    (fun n _ => iprop(restP c XA i arg1 arg2 arg3 arg4 fz f2 f3 f4 ∗ doneP c XA i arg1 arg2 arg3 arg4 arg6 fz f2 f3 f4 (Words.fst (sizes c arg1 fz) (t0 i) + n)))
    (fun k1 _ => group_step c XA i arg1 harg1 arg2 harg2 arg3 harg3 arg4 harg4 arg6 harg6 fz f2 f3 f4 hg k1)) $$ [HR HO]
  · isplitl [HR]; · iexact HR
    iexists f
    isplitr [HO]
    · ipureintro
      intro law m y e hy hlt
      have := Words.before_mono (sizes c arg1 fz) (show 512 * t0 i ≤ 512 * t0 i + (y 0).val by omega)
      unfold Words.fst at hlt
      omega
    iexact HO
  iintro %acc ⟨HR, HD⟩
  iapply (Scf.wp_for0_bind' frame (wpE (defs₀ (F := F)) 𝒱₀ (c : Thread nD τ) none) Set.univ (k0_t3_loop i ((sizes c arg1 fz) 0) ((sizes c arg1 fz) 1) ((sizes c arg1 fz) 2) ((sizes c arg1 fz) 3)).lb (k0_t3_loop i ((sizes c arg1 fz) 0) ((sizes c arg1 fz) 1) ((sizes c arg1 fz) 2) ((sizes c arg1 fz) 3)).ub (k0_t3_loop i ((sizes c arg1 fz) 0) ((sizes c arg1 fz) 1) ((sizes c arg1 fz) 2) ((sizes c arg1 fz) 3)).st (k0_t3_ok i ((sizes c arg1 fz) 0) ((sizes c arg1 fz) 1) ((sizes c arg1 fz) 2) ((sizes c arg1 fz) 3) hw h11) PUnit.unit _ (Scf.rem_trips _ _) _ _ _ (BIBase.Entails.refl))
  sl_step
  iapply HK $$ HR
  icases HD with ⟨%f', %hd, HO⟩
  iexists f'
  isplitr [HO]
  · ipureintro
    intro law m y e hy hlt
    refine hd law m y e hy ?_
    have hrow : (y 0).val < 512 := (y 0).isLt
    have h1 := Words.before_mono (sizes c arg1 fz) (show 512 * t0 i + (y 0).val ≤ 512 * t0 i + 511 by omega)
    have h2 : Scf.trips (k0_t1_loop i ((sizes c arg1 fz) 0) ((sizes c arg1 fz) 1) ((sizes c arg1 fz) 2) ((sizes c arg1 fz) 3)).lb (k0_t1_loop i ((sizes c arg1 fz) 0) ((sizes c arg1 fz) 1) ((sizes c arg1 fz) 2) ((sizes c arg1 fz) 3)).ub (k0_t1_loop i ((sizes c arg1 fz) 0) ((sizes c arg1 fz) 1) ((sizes c arg1 fz) 2) ((sizes c arg1 fz) 3)).st = Words.lst (sizes c arg1 fz) (t0 i) + 1 - Words.fst (sizes c arg1 fz) (t0 i) := Words.trips_eq hg ht
    rw [h2]
    unfold Words.lst Words.fst at *
    omega
  iexact HO

set_option maxHeartbeats 2000000 in
/-- The second form under its condition. -/
theorem mixedIf_spec {hw v8 v71 v76} {Q : PUnit → sProp 𝕄} (hne : Words.fst (sizes c arg1 fz) (t0 i) ≠ Words.lst (sizes c arg1 fz) (t0 i)) :
    iprop(restP c XA i arg1 arg2 arg3 arg4 fz f2 f3 f4 ∗ (∃ f, outP c arg6 f)
        ∗ (restP c XA i arg1 arg2 arg3 arg4 fz f2 f3 f4 -∗ doneP c XA i arg1 arg2 arg3 arg4 arg6 fz f2 f3 f4 4 -∗ Q ⟨⟩))
      ⊢ WP c (mixedIf i arg1 harg1 arg2 harg2 arg3 harg3 arg4 harg4 arg6 harg6 ((sizes c arg1 fz) 0) ((sizes c arg1 fz) 1) ((sizes c arg1 fz) 2) ((sizes c arg1 fz) 3) hw (Words.row0 (t0 i)) v8 v71 (Words.cnt (sizes c arg1 fz) (Words.row0 (t0 i))) v76) Q := by
  have ht : t0 i < 24 := (i 0).isLt
  have h11 : k0_cond11 i ((sizes c arg1 fz) 0) ((sizes c arg1 fz) 1) ((sizes c arg1 fz) 2) ((sizes c arg1 fz) 3) = 1#1 := (Words.mixed_iff hg ht).mpr hne
  unfold mixedIf
  rw [dif_pos h11]
  exact mixed_spec c XA i arg1 harg1 arg2 harg2 arg3 harg3 arg4 harg4 arg6 harg6 fz f2 f3 f4 hg

set_option maxHeartbeats 2000000 in
/-- Both forms under their conditions. -/
theorem tile_spec {hw v8 v71 v76} {Q : PUnit → sProp 𝕄} :
    iprop(restP c XA i arg1 arg2 arg3 arg4 fz f2 f3 f4 ∗ (∃ f, outP c arg6 f)
        ∗ (restP c XA i arg1 arg2 arg3 arg4 fz f2 f3 f4 -∗ doneP c XA i arg1 arg2 arg3 arg4 arg6 fz f2 f3 f4 4 -∗ Q ⟨⟩))
      ⊢ WP c (pureIf i arg2 arg3 arg4 arg6 harg6 ((sizes c arg1 fz) 0) ((sizes c arg1 fz) 1) ((sizes c arg1 fz) 2) ((sizes c arg1 fz) 3) hw (mixedIf i arg1 harg1 arg2 harg2 arg3 harg3 arg4 harg4 arg6 harg6 ((sizes c arg1 fz) 0) ((sizes c arg1 fz) 1) ((sizes c arg1 fz) 2) ((sizes c arg1 fz) 3) hw (Words.row0 (t0 i)) v8 v71 (Words.cnt (sizes c arg1 fz) (Words.row0 (t0 i))) v76)) Q := by
  have ht : t0 i < 24 := (i 0).isLt
  unfold pureIf
  by_cases heq : Words.fst (sizes c arg1 fz) (t0 i) = Words.lst (sizes c arg1 fz) (t0 i)
  · have h10 : k0_cond10 i ((sizes c arg1 fz) 0) ((sizes c arg1 fz) 1) ((sizes c arg1 fz) 2) ((sizes c arg1 fz) 3) = 1#1 := (Words.pure_iff hg ht).mpr heq
    have h11 : ¬ k0_cond11 i ((sizes c arg1 fz) 0) ((sizes c arg1 fz) 1) ((sizes c arg1 fz) 2) ((sizes c arg1 fz) 3) = 1#1 := fun h => (Words.mixed_iff hg ht).mp h heq
    rw [dif_pos h10]
    have h3 := Words.fst_le hg ht
    obtain ⟨e, hev⟩ : ∃ e : Fin 4, e.val = Words.fst (sizes c arg1 fz) (t0 i) := ⟨⟨Words.fst (sizes c arg1 fz) (t0 i), by omega⟩, rfl⟩
    have he : (Words.cnt (sizes c arg1 fz) (Words.row0 (t0 i))).toNat = e.val := (Words.first_toNat hg ht).trans hev.symm
    iintro ⟨⟨HZ, HW, HX, HXS, HA⟩, HO, HK⟩
    icases (tile_acc c XA (sizes c arg1 fz) (e := e) (t := t0 i) (by omega)) $$ HA with ⟨%fs, %hfs, HS, HB⟩
    iapply (pure_spec c i arg2 arg3 arg4 arg6 harg6 f2 f3 f4 fs e (sizes c arg1 fz) he)
    isplitl [HS]; · iexact HS
    isplitl [HW]; · iexact HW
    isplitl [HX]; · iexact HX
    isplitl [HXS]; · iexact HXS
    isplitl [HO]; · iexact HO
    unfold outI
    iintro HS HW HX HXS ⟨%f, %hf, HO⟩
    unfold mixedIf
    rw [dif_neg h11]
    unfold WP
    sl_step
    ihave HA : allP c XA (sizes c arg1 fz) (t0 i + 1) $$ [HB HS]
    · iapply HB $$ HS
    ihave HR : restP c XA i arg1 arg2 arg3 arg4 fz f2 f3 f4 $$ [HZ HW HX HXS HA]
    · isplitl [HZ]; · iexact HZ
      isplitl [HW]; · iexact HW
      isplitl [HX]; · iexact HX
      isplitl [HXS]; · iexact HXS
      iexact HA
    iapply HK $$ HR
    iexists f
    isplitr [HO]
    · ipureintro
      intro law m y e' hy hlt
      have hrow : (y 0).val < 512 := (y 0).isLt
      have h1 := Words.before_mono (sizes c arg1 fz) (show 512 * t0 i + (y 0).val ≤ 512 * t0 i + 511 by omega)
      have h2 := Words.before_mono (sizes c arg1 fz) (show 512 * t0 i ≤ 512 * t0 i + (y 0).val by omega)
      have hb : Words.before (sizes c arg1 fz) (512 * t0 i + (y 0).val) = e.val := by
        unfold Words.fst Words.lst at *; omega
      have hee : e = e' := Fin.ext (hb.symm.trans hy)
      subst hee
      rw [hf m m.isLt, hfs (pos_of_before (sizes c arg1 fz) hg (by omega) hb)]
    iexact HO
  · have h10 : ¬ k0_cond10 i ((sizes c arg1 fz) 0) ((sizes c arg1 fz) 1) ((sizes c arg1 fz) 2) ((sizes c arg1 fz) 3) = 1#1 := fun h => heq ((Words.pure_iff hg ht).mp h)
    rw [dif_neg h10]
    exact mixedIf_spec c XA i arg1 harg1 arg2 harg2 arg3 harg3 arg4 harg4 arg6 harg6 fz f2 f3 f4 hg heq

set_option maxHeartbeats 2000000 in
/-- The body at one grid point: the waits of the point are done, and the tile's rows hold their groups' products. -/
theorem body_spec {Q : PUnit → sProp 𝕄} :
    iprop(szP c arg1 fz ∗ owesP c ∗ stateP c XA (sizes c arg1 fz) (t0 i) 0 ∗ stateP c XA (sizes c arg1 fz) (t0 i) 1 ∗ stateP c XA (sizes c arg1 fz) (t0 i) 2 ∗ stateP c XA (sizes c arg1 fz) (t0 i) 3
        ∗ wsP c arg4 f4 ∗ xP c arg3 f3 ∗ xsP c arg2 f2 ∗ (∃ f, outP c arg6 f)
        ∗ (owesP c -∗ restP c XA i arg1 arg2 arg3 arg4 fz f2 f3 f4 -∗ doneP c XA i arg1 arg2 arg3 arg4 arg6 fz f2 f3 f4 4 -∗ Q ⟨⟩))
      ⊢ WP c (cc0__body_skel (F := F) i arg1 harg1 arg2 harg2 arg3 harg3 arg4 harg4 wM (Memref.isWhole_whole _) arg6 harg6 bM (Memref.isWhole_whole _) cc0_scratch1) Q := by
  rw [body_eq]
  iintro ⟨HZ, HE, H0, H1, H2, H3, HW, HX, HXS, HO, HK⟩
  unfold WP
  rw [wp_bind]
  iapply (part4_spec c XA i arg1 harg1 arg2 harg2 arg3 harg3 arg4 harg4 arg6 harg6 fz hg (chk_of i (sizes c arg1 fz) hg))
  isplitl [HZ]; · iexact HZ
  isplitl [HE]; · iexact HE
  isplitl [H0]; · iexact H0
  isplitl [H1]; · iexact H1
  isplitl [H2]; · iexact H2
  isplitl [H3]; · iexact H3
  iintro HZ HE H0 H1 H2 H3
  rw [wp_bind]
  iapply (part5_spec c XA i arg1 harg1 arg2 harg2 arg3 harg3 arg4 harg4 arg6 harg6 fz hg)
  isplitl [HZ]; · iexact HZ
  isplitl [HE]; · iexact HE
  isplitl [H2]; · iexact H2
  isplitl [H3]; · iexact H3
  iintro HZ HE H2 H3
  iapply (tile_spec c XA i arg1 harg1 arg2 harg2 arg3 harg3 arg4 harg4 arg6 harg6 fz f2 f3 f4 hg)
  isplitr [HO HE HK]
  · isplitl [HZ]; · iexact HZ
    isplitl [HW]; · iexact HW
    isplitl [HX]; · iexact HX
    isplitl [HXS]; · iexact HXS
    isplitl [H0]; · iexact H0
    isplitl [H1]; · iexact H1
    isplitl [H2]; · iexact H2
    iexact H3
  isplitl [HO]; · iexact HO
  iapply HK $$ HE

end Body

end Cert.Kernel.Hand
end
-- ==== Proof.Launch.lean ====
/- The launch: what the pipeline's windows hold at each point, the body's obligation, how the scratch buffer, the weights
   and the four cells are handed to the grid and taken back, and the run that follows. -/
module

public import proofs.«01_k».proof.Proof.Body
public import proofs.«01_k».proof.Proof.Gen.Kernel.Frame

@[expose] public section

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

/-! ## The pieces a tile reads, as functions of what a window holds -/

/-- Group `e`'s size in an array of four. -/
def szR (Y : S4.Idx → BitVec 32) (e : Fin 4) : BitVec 32 :=
  Y ((Rect.unit (s := S4) (semOff e) S1.size (semOff_inb e)).toLoadRect.idx (Shape.Idx.first (show 0 < S1.numel by decide)))
/-- Group `e`'s activation scale in an array of four. -/
def xsR (Y : S4.Idx → F .f32) (e : Fin 4) : F .f32 :=
  Y ((Rect.unit (s := S4) (semOff e) S1.size (semOff_inb e)).toLoadRect.idx (Shape.Idx.first (show 0 < S1.numel by decide)))
/-- A tile's rows. -/
def xR (Y : S512x1024.Idx → F .bf16) : Vec F S512x1024 .bf16 :=
  fun x => Y ((Rect.unit (s := S512x1024) ![0, 0] S512x1024.size inb_S512x1024_S512x1024_0_0).toLoadRect.idx x)
/-- Group `e`'s weight scales, columns `512 n` on. -/
def wsR (Y : S4x5120.Idx → F .f32) (e : Fin 4) (n : Fin 10) : Vec F S1x512 .f32 :=
  fun x => Y ((Rect.unit (s := S4x5120) (sOff e n) S1x512.size (sOff_inb e n)).toLoadRect.idx x)
/-- Group `e`'s weights, columns `512 n` on. -/
def wR (Y : S4x1024x5120.Idx → F .fp8e4m3) (e : Fin 4) (n : Fin 10) : Vec F S1x1024x512 .fp8e4m3 :=
  fun x => Y ((Rect.unit (s := S4x1024x5120) (wOff e n) S1x1024x512.size (wOff_inb e n)).toLoadRect.idx x)
/-- The output block's columns `512 n` on. -/
def oR (Y : S512x5120.Idx → F .bf16) (n : Fin 10) : Vec F S512x512 .bf16 :=
  fun x => Y ((Rect.unit (s := S512x5120) (oOff n) S512x512.size (oOff_inb n)).toLoadRect.idx x)

variable (m : (ℓ : Loc nD τ sig) → Buf (Elt F) ℓ) (ρ : Dev nD → PrngReg)

/-! ## The windows' blocks -/

/-- The sizes, scales and weights a launch starts from. -/
abbrev gm (c : Dev nD) : Fin 4 → BitVec 32 := szR (m ((c : Thread nD τ).loc main_arg1))
abbrev XA (c : Dev nD) : Buf (Elt F) (wM.view.loc (c : Thread nD τ)) := m ((c : Thread nD τ).loc main_arg3)

theorem iblk_0 (c : Dev nD) (t : Fin cfg0.N) : iblk m c 0 t = m ((c : Thread nD τ).loc main_arg1) := by
  funext y
  refine congrArg (m ((c : Thread nD τ).loc main_arg1)) (funext fun a => Fin.ext ?_)
  match a with
  | 0 => show 0 * 4 + 1 * (y 0).val = (y 0).val; omega

theorem iblk_1 (c : Dev nD) (t : Fin cfg0.N) : iblk m c 1 t = m ((c : Thread nD τ).loc main_arg2) := by
  funext y
  refine congrArg (m ((c : Thread nD τ).loc main_arg2)) (funext fun a => Fin.ext ?_)
  match a with
  | 0 => show 0 * 4 + 1 * (y 0).val = (y 0).val; omega

theorem iblk_3 (c : Dev nD) (t : Fin cfg0.N) : iblk m c 3 t = m ((c : Thread nD τ).loc main_arg4) := by
  funext y
  refine congrArg (m ((c : Thread nD τ).loc main_arg4)) (funext fun a => Fin.ext ?_)
  match a with
  | 0 => show 0 * 4 + 1 * (y 0).val = (y 0).val; omega
  | 1 => show 0 * 5120 + 1 * (y 1).val = (y 1).val; omega

theorem coords_val : ∀ t : Fin grid0.N, (grid0.coords t 0).val = t.val := by decide

/-! ## The proof data -/

/-- What a tile's block of the result holds: at every row of group `e`, group `e`'s product. -/
def Tile (c : Dev nD) (t : Fin cfg0.N) (X : S512x5120.Idx → F .bf16) : Prop :=
  Law F → ∀ (n : Fin 10) (y : S512x512.Idx) (e : Fin 4), Words.before (gm m c) (512 * t.val + (y 0).val) = e.val →
    oR X n y = k0_pay7 (xsR (m ((c : Thread nD τ).loc main_arg2)) e) (xR (iblk m c 2 t)) (wR (XA m c) e n)
      (wsR (m ((c : Thread nD τ).loc main_arg4)) e n) y

/-- What is held between two grid points beside the windows: the generator register and each group's weights. -/
def phi (c : Dev nD) (k : Nat) : sProp 𝕄 :=
  iprop((∃ r, prngReg c r) ∗ stateP c (XA m c) (gm m c) k 0 ∗ stateP c (XA m c) (gm m c) k 1
    ∗ stateP c (XA m c) (gm m c) k 2 ∗ stateP c (XA m c) (gm m c) k 3)

/-- The proof data: the arrays as launched, every input's buffer left as found, the result's block as `Tile` says. -/
def rdat (c : Dev nD) : RDat τ (Elt F) Unit ℕ (Pipeline.UD sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => Tile m c t X
  Φ t := phi m c t.val
  q _ := fullShare
  owed _ := 0

theorem phi_castSucc (c : Dev nD) (t : Fin cfg0.N) : (rdat m c).Φ t.castSucc = phi m c t.val := by dsimp only [rdat, Fin.val_castSucc]
theorem phi_succ (c : Dev nD) (t : Fin cfg0.N) : (rdat m c).Φ t.succ = phi m c (t.val + 1) := by dsimp only [rdat, Fin.val_succ]

theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h; rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h; rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h; rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h; rfl

theorem defs₀_row (t : Fin cfg0.N) :
    defs₀ (F := F) .tc cfg0.body (cfg0.bodyArgs t (cfg0.slots t)) = bodyAt0 t := by
  unfold defs₀; rw [Defs.onTc_tc]

/-! ## The buffers, handed over by groups -/

theorem grp_set (e : Fin 4) : (grp e).view.set = (Rect.unit (s := S4x1024x5120) (slabOff e) S1x1024x5120.size (slabOff_inb e)).set := by
  show (((View.whole main_arg3).slice _).reshape S1024x5120 _).set = _
  rw [View.set_reshape, View.set_slice_whole]

theorem slab_size0 : S1x1024x5120.size (0 : Fin 3) = 1 := rfl
theorem slab_off0 (b : Fin 4) : slabOff b (0 : Fin 3) = 1 * b.val := (Nat.one_mul _).symm
theorem slab_offs : ∀ (b : Fin 4) (a : Fin 3), a ≠ 0 → slabOff b a = 0 := by decide
theorem slab_sizes : ∀ a : Fin 3, a ≠ 0 → S1x1024x5120.size a = S4x1024x5120.size a := by decide

/-- Group `e`'s elements of an array shaped as the weights. -/
abbrev gI (e : Fin 4) : Finset S4x1024x5120.Idx := (Rect.unit (s := S4x1024x5120) (slabOff e) S1x1024x5120.size (slabOff_inb e)).set
theorem gI_disjoint (b b' : Fin 4) (h : b ≠ b') : Disjoint (gI b) (gI b') :=
  Ring.lead_disjoint (s := S4x1024x5120) (0 : Fin 3) 1 slabOff S1x1024x5120.size slabOff_inb slab_off0 slab_size0 b b' h
theorem gI_cover : (Finset.univ.biUnion gI) = Finset.univ :=
  Ring.lead_cover (s := S4x1024x5120) (0 : Fin 3) 1 slabOff S1x1024x5120.size slabOff_inb slab_off0 slab_offs slab_size0 slab_sizes rfl

theorem home_eq (c : Dev nD) (f : Buf (Elt F) (wM.view.loc (c : Thread nD τ))) (e : Fin 4) :
    (((c : Thread nD τ).loc main_arg3) ↦[gI e]{fullShare} f : sProp 𝕄) = homeP c f e :=
  congrArg (fun S : Finset S4x1024x5120.Idx => (((c : Thread nD τ).loc main_arg3) ↦[S]{fullShare} f : sProp 𝕄)) (grp_set e).symm
theorem slabP_eq (c : Dev nD) (f : Buf (Elt F) (bM.view.loc (c : Thread nD τ))) (e : Fin 4) :
    (((c : Thread nD τ).loc cc0_scratch0) ↦[gI e]{fullShare} f : sProp 𝕄) = slabP c e f :=
  congrArg (fun S : Finset S4x1024x5120.Idx => (((c : Thread nD τ).loc cc0_scratch0) ↦[S]{fullShare} f : sProp 𝕄)) (slab_set e).symm

theorem bigSep_4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The weights, held whole, are the four groups' weights. -/
theorem home_split (c : Dev nD) (f : Buf (Elt F) (wM.view.loc (c : Thread nD τ))) :
    (((c : Thread nD τ).loc main_arg3) ↦{fullShare} f : sProp 𝕄) = iprop(homeP c f 0 ∗ homeP c f 1 ∗ homeP c f 2 ∗ homeP c f 3) := by
  rw [Ring.pointsTo_blocks (ℓ := (c : Thread nD τ).loc main_arg3) gI gI_disjoint gI_cover f, bigSep_4]
  simp only [home_eq]

/-- The scratch buffer, held whole, is its four slabs, -/
theorem slab_split (c : Dev nD) (f : Buf (Elt F) (bM.view.loc (c : Thread nD τ))) :
    (((c : Thread nD τ).loc cc0_scratch0) ↦{fullShare} f : sProp 𝕄) = iprop(slabP c 0 f ∗ slabP c 1 f ∗ slabP c 2 f ∗ slabP c 3 f) := by
  rw [Ring.pointsTo_blocks (ℓ := (c : Thread nD τ).loc cc0_scratch0) gI gI_disjoint gI_cover f, bigSep_4]
  simp only [slabP_eq]

/-- and four slabs at any contents are the buffer at some. -/
theorem slab_join (c : Dev nD) (f₀ : Buf (Elt F) (bM.view.loc (c : Thread nD τ))) :
    iprop((∃ f, slabP c 0 f) ∗ (∃ f, slabP c 1 f) ∗ (∃ f, slabP c 2 f) ∗ (∃ f, slabP c 3 f))
      ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Name := ℕ) (U := Pipeline.UD sig nD τ) (Lvl := ℕ) (q := fullShare)
    (ℓ := (c : Thread nD τ).loc cc0_scratch0) gI gI_disjoint gI_cover f₀
  rw [bigSep_4] at h
  simp only [slabP_eq] at h
  exact h

/-! ## The grid's own cells and the weights at launch -/

abbrev osem0 : Fin 4 → SemLoc sig := fun e => SemLoc.dma (csm e).sem
theorem ownSemFacts0 : Pipeline.OwnSemFacts spec0 osem0 := by decide
theorem ownSems00_eq (c : Dev nD) : (Pipeline.ownSems0 (Ix := Unit) (Val := Elt F) (Name := ℕ) (U := Pipeline.UD sig nD τ) (Lvl := ℕ) (τ := τ) osem0 c : sProp 𝕄)
    = iprop(cellP c 0 ∗ cellP c 1 ∗ cellP c 2 ∗ cellP c 3) := by
  rw [Pipeline.ownSems0_eq_of_list c osem0 [0, 1, 2, 3] (by decide) (by decide)]; rfl
abbrev H0 : Finset (Ref sig .tc) := {main_arg3}
theorem H0_sub : H0 ⊆ Pipeline.restRefs sig spec0 := by decide
theorem hbmPts0_eq (c : Dev nD) : (bigSep H0 (fun b => ((c : Thread nD τ).loc b) ↦{fullShare} V m c b) : sProp 𝕄)
    = (((c : Thread nD τ).loc main_arg3) ↦{fullShare} XA m c) := by
  rw [BI.bigSep_singleton]

theorem PhiD0_eq (c : Dev nD) : (Pipeline.ΦD osem0 spec0 H0 (V m) c : sProp 𝕄)
    = iprop((∃ f : Buf (Elt F) ((c : Thread nD τ).loc cc0_scratch0), ((c : Thread nD τ).loc cc0_scratch0) ↦{fullShare} f)
      ∗ (∃ r, prngReg c r) ∗ (cellP c 0 ∗ cellP c 1 ∗ cellP c 2 ∗ cellP c 3)
      ∗ (((c : Thread nD τ).loc main_arg3) ↦{fullShare} XA m c)) := by
  rw [Pipeline.ΦD_eq, scopedRest0_eq, ownSems00_eq, hbmPts0_eq]

/-- At entry no group has been asked for. -/
theorem phi_in (c : Dev nD) : (Pipeline.ΦD osem0 spec0 H0 (V m) c : sProp 𝕄) ⊢ (rdat m c).Φ 0 := by
  rw [PhiD0_eq]
  show _ ⊢ phi m c 0
  unfold phi
  rw [stateP_zero, stateP_zero, stateP_zero, stateP_zero, home_split]
  iintro ⟨⟨%f, HS⟩, HG, ⟨C0, C1, C2, C3⟩, ⟨W0, W1, W2, W3⟩⟩
  icases (BIBase.Entails.of_eq (slab_split c f)) $$ HS with ⟨S0, S1, S2, S3⟩
  isplitl [HG]; · iexact HG
  isplitl [C0 S0 W0]
  · isplitl [C0]; · iexact C0
    isplitl [S0]; · iexists f; iexact S0
    iexact W0
  isplitl [C1 S1 W1]
  · isplitl [C1]; · iexact C1
    isplitl [S1]; · iexists f; iexact S1
    iexact W1
  isplitl [C2 S2 W2]
  · isplitl [C2]; · iexact C2
    isplitl [S2]; · iexists f; iexact S2
    iexact W2
  isplitl [C3]; · iexact C3
  isplitl [S3]; · iexists f; iexact S3
  iexact W3

/-- After the last point no copy is on its way. -/
theorem state_last (c : Dev nD) (hg : Words.Parts (gm m c)) (e : Fin 4) :
    stateP c (XA m c) (gm m c) 24 e ⊢ (idleP c (XA m c) e : sProp 𝕄) := by
  rw [stateP_succ (k := 23)]
  unfold midP
  by_cases h0 : 0 < (gm m c e).toNat
  · have := Words.start_lt hg e h0
    rw [if_pos h0, if_neg (by omega)]
    iintro ⟨HC, HS, HW⟩
    isplitl [HC]; · iexact HC
    isplitl [HS]; · iexists _; iexact HS
    iexact HW
  · rw [if_neg h0]

theorem phi_out (c : Dev nD) (hg : Words.Parts (gm m c)) : (rdat m c).Φ (Fin.last cfg0.N) ⊢ (Pipeline.ΦD osem0 spec0 H0 (V m) c : sProp 𝕄) := by
  rw [PhiD0_eq]
  show phi m c grid0.N ⊢ _
  rw [N_0, home_split]
  unfold phi
  iintro ⟨HG, A0, A1, A2, A3⟩
  icases (state_last m c hg 0) $$ A0 with ⟨C0, S0, W0⟩
  icases (state_last m c hg 1) $$ A1 with ⟨C1, S1, W1⟩
  icases (state_last m c hg 2) $$ A2 with ⟨C2, S2, W2⟩
  icases (state_last m c hg 3) $$ A3 with ⟨C3, S3, W3⟩
  isplitl [S0 S1 S2 S3]
  · iapply (slab_join c (asBuf c (XA m c)))
    isplitl [S0]; · iexact S0
    isplitl [S1]; · iexact S1
    isplitl [S2]; · iexact S2
    iexact S3
  isplitl [HG]; · iexact HG
  isplitl [C0 C1 C2 C3]
  · isplitl [C0]; · iexact C0
    isplitl [C1]; · iexact C1
    isplitl [C2]; · iexact C2
    iexact C3
  isplitl [W0]; · iexact W0
  isplitl [W1]; · iexact W1
  isplitl [W2]; · iexact W2
  iexact W3

/-! ## The body's obligation -/

section Point
variable (c : Dev nD) (t : Fin cfg0.N)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)

/-- The five windows' buffers at a point: the inputs at their blocks, the result's at contents satisfying `R`. -/
def bufs (R : (S512x5120.Idx → F .bf16) → Prop) : sProp 𝕄 :=
  iprop((∃ f, ⌜arg1.view.read (Elt F) f = m ((c : Thread nD τ).loc main_arg1)⌝ ∗ szP c arg1 f)
    ∗ (∃ f, ⌜arg2.view.read (Elt F) f = m ((c : Thread nD τ).loc main_arg2)⌝ ∗ xsP c arg2 f)
    ∗ (∃ f, ⌜arg3.view.read (Elt F) f = iblk m c 2 t⌝ ∗ xP c arg3 f)
    ∗ (∃ f, ⌜arg4.view.read (Elt F) f = m ((c : Thread nD τ).loc main_arg4)⌝ ∗ wsP c arg4 f)
    ∗ (∃ f, ⌜R (arg6.view.read (Elt F) f)⌝ ∗ outP c arg6 f))

set_option maxHeartbeats 2000000 in
/-- One point of the grid, on any five buffers: the tile comes out as `Tile` says and the groups move on by a point. -/
theorem point_spec (hg : Words.Parts (gm m c)) :
    iprop(phi m c t.val ∗ owesP c ∗ bufs m c t arg1 arg2 arg3 arg4 arg6 (fun _ => True))
      ⊢ WP c (cc0__body (F := F) (grid0.coords t) arg1 harg1 arg2 harg2 arg3 harg3 arg4 harg4 wM (Memref.isWhole_whole _) arg6 harg6 bM (Memref.isWhole_whole _) cc0_scratch1)
        fun _ => iprop(phi m c (t.val + 1) ∗ owesP c ∗ bufs m c t arg1 arg2 arg3 arg4 arg6 (Tile m c t)) := by
  rw [cc0__body_eq_skeleton]
  unfold bufs phi
  iintro ⟨⟨HG, A0, A1, A2, A3⟩, HW, ⟨%f1, %h1, H1⟩, ⟨%f2, %h2, H2⟩, ⟨%f3, %h3, H3⟩, ⟨%f4, %h4, H4⟩, ⟨%f6, -, H6⟩⟩
  have hs : sizes c arg1 f1 = gm m c := congrArg szR h1
  have ht : t0 (grid0.coords t) = t.val := coords_val t
  iapply (body_spec c (XA m c) (grid0.coords t) arg1 harg1 arg2 harg2 arg3 harg3 arg4 harg4 arg6 harg6 f1 f2 f3 f4 (hs ▸ hg))
  unfold restP
  rw [hs, ht]
  isplitl [H1]; · iexact H1
  isplitl [HW]; · iexact HW
  isplitl [A0]; · iexact A0
  isplitl [A1]; · iexact A1
  isplitl [A2]; · iexact A2
  isplitl [A3]; · iexact A3
  isplitl [H4]; · iexact H4
  isplitl [H3]; · iexact H3
  isplitl [H2]; · iexact H2
  isplitl [H6]; · iexists f6; iexact H6
  unfold doneP
  iintro HW ⟨H1, H4, H3, H2, A0, A1, A2, A3⟩ ⟨%f, %hd, H6⟩
  isplitl [HG A0 A1 A2 A3]
  · rw [stateP_succ, stateP_succ, stateP_succ, stateP_succ]
    isplitl [HG]; · iexact HG
    isplitl [A0]; · iexact A0
    isplitl [A1]; · iexact A1
    isplitl [A2]; · iexact A2
    iexact A3
  isplitl [HW]; · iexact HW
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  iexists f; isplitr
  · ipureintro
    intro law n y e he
    have hx : xsc c arg2 f2 e = xsR (m ((c : Thread nD τ).loc main_arg2)) e := congrArg (xsR · e) h2
    have hr : xbl c arg3 f3 = xR (iblk m c 2 t) := congrArg xR h3
    have hw : sch c arg4 f4 e n = wsR (m ((c : Thread nD τ).loc main_arg4)) e n := congrArg (wsR · e n) h4
    have := hd law n y e (by rw [hs, ht]; exact he) e.isLt
    rw [hx, hr, hw] at this
    exact this
  iexact H6
end Point

set_option maxHeartbeats 2000000 in
theorem body_obligation (c : Dev nD) (hg : Words.Parts (gm m c)) :
    (rdat m c).BodyObligation (defs₀ (F := F)) 𝒱₀ () Set.univ := fun t Y hY => by
  rw [bigSep_W0, bigSep_W0, defs₀_row, phi_castSucc, phi_succ]
  have e0 : (Y 0 : S4.Idx → BitVec 32) = m ((c : Thread nD τ).loc main_arg1) := (finds_0 m c t _ (hY 0)).trans (iblk_0 m c t)
  have e1 : (Y 1 : S4.Idx → F .f32) = m ((c : Thread nD τ).loc main_arg2) := (finds_1 m c t _ (hY 1)).trans (iblk_1 m c t)
  have e2 : (Y 2 : S512x1024.Idx → F .bf16) = iblk m c 2 t := finds_2 m c t _ (hY 2)
  have e3 : (Y 3 : S4x5120.Idx → F .f32) = m ((c : Thread nD τ).loc main_arg4) := (finds_3 m c t _ (hY 3)).trans (iblk_3 m c t)
  refine triple_restated (point_spec m c t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) hg) rfl ?_ fun _ => ?_
  · unfold RDat.owesAt Pipeline.owesWithin owns bufs
    iintro ⟨HP, ⟨%W, -, HW⟩, ⟨%f0, %h0, H0⟩, ⟨%f1, %h1, H1⟩, ⟨%f2, %h2, H2⟩, ⟨%f3, %h3, H3⟩, ⟨%f4, %h4, H4⟩⟩
    isplitl [HP]; · iexact HP
    isplitl [HW]; · iexists W; iexact HW
    isplitl [H0]; · iexists f0; isplitr; · ipureintro; exact h0.trans e0
                    iexact H0
    isplitl [H1]; · iexists f1; isplitr; · ipureintro; exact h1.trans e1
                    iexact H1
    isplitl [H2]; · iexists f2; isplitr; · ipureintro; exact h2.trans e2
                    iexact H2
    isplitl [H3]; · iexists f3; isplitr; · ipureintro; exact h3.trans e3
                    iexact H3
    iexists f4; isplitr; · ipureintro; trivial
    iexact H4
  · unfold RDat.owesAt Pipeline.owesWithin owns bufs
    iintro ⟨HP, ⟨%W, HW⟩, ⟨%f0, %h0, H0⟩, ⟨%f1, %h1, H1⟩, ⟨%f2, %h2, H2⟩, ⟨%f3, %h3, H3⟩, ⟨%f4, %h4, H4⟩⟩
    isplitl [HP]; · iexact HP
    isplitl [HW]
    · iexists W; isplitr; · ipureintro; exact fun _ _ => Or.inl trivial
      iexact HW
    isplitl [H0]
    · iexists (Y 0); isplitr; · ipureintro; exact (rfl : Y 0 = Y 0)
      iexists f0; isplitr; · ipureintro; exact h0.trans e0.symm
      iexact H0
    isplitl [H1]
    · iexists (Y 1); isplitr; · ipureintro; exact (rfl : Y 1 = Y 1)
      iexists f1; isplitr; · ipureintro; exact h1.trans e1.symm
      iexact H1
    isplitl [H2]
    · iexists (Y 2); isplitr; · ipureintro; exact (rfl : Y 2 = Y 2)
      iexists f2; isplitr; · ipureintro; exact h2.trans e2.symm
      iexact H2
    isplitl [H3]
    · iexists (Y 3); isplitr; · ipureintro; exact (rfl : Y 3 = Y 3)
      iexists f3; isplitr; · ipureintro; exact h3.trans e3.symm
      iexact H3
    iexists _; isplitr
    swap
    · iexists f4; isplitr; swap
      · iexact H4
      · ipureintro; rfl
    ipureintro; exact h4

/-! ## The run -/

theorem hmainD (𝒱 : Variants) : Pipeline.HMain (Ix := Unit) (Name := ℕ) (U := Pipeline.UD sig nD τ) (Lvl := ℕ) cfgs 0 defs₀ 𝒱 m (main (F := F)) (V m) :=
  Pipeline.hmain_region cfgs 0 defs₀ 𝒱 m main fun c => (main_chain c).trans rfl

set_option backward.isDefEq.respectTransparency.types false in
/-- The run: it ends, every cell at zero, the arrays as the proof data say. -/
theorem run_main (hg : ∀ c, Words.Parts (gm m c)) : θ_run defs (onTc (τ := τ) (main (F := F))) (s₀ m ρ)
    (fun r => Pipeline.RDat.FramePost cfg0 (rdat m) (V m) r ∧ r.2.sem = fun _ => 0) :=
  Pipeline.RDat.θ_run_frame_dma (Q' := _) cfgs (0 : Fin 1) launch0 osem0 defs₀ 𝒱₀ (rdat m) ownSemFacts0 H0 H0_sub m ρ main
    (hbody := fun c => body_obligation m c (hg c)) (hshare := fun c w => by unfold RDat.share; split <;> rfl)
    (howed := fun _ _ => rfl) (V := V m) (hmain := hmainD m 𝒱₀) (hA := fun _ _ => rfl)
    (hin := phi_in m) (hout := fun c => phi_out m c (hg c))

/-- The frame claim: the arguments are unchanged and every cell ends at zero. -/
theorem frame (hg : ∀ c, Words.Parts (gm m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1.arr_in c 2 rfl, h.1.arr_in c 0 rfl, h.1.arr_in c 1 rfl,
    (h.1 c).2 main_arg3 (Pipeline.mem_restRefs_of main_arg3 (by decide) (by decide)), h.1.arr_in c 3 rfl⟩, h.2⟩) (run_main m ρ hg)

end Cert.Kernel.Hand
end
-- ==== Proof.Ideal.Flights.lean ====
/- The weights' four transfers: the names of the windows and cells they use, what a group's weights are between two
   grid points (not asked for, on their way, or arrived), and the two steps that change it: starting a copy under
   its condition and waiting for it under its condition. -/
module

public import proofs.«01_k».proof.Proof.Words
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Affine
public import Idealize.ShloMosaic.Lib.Tactic
public import Idealize.ShloMosaic.Lib.LoopRemainder

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ
abbrev 𝒱₀ : Variants := Variants.none

/-- The weights in HBM, and the buffer they are copied to. -/
abbrev wM : Memref sig .tc .hbm S4x1024x5120 .fp8e4m3 := Memref.whole main_arg3
abbrev bM : Memref sig .tc .vmem S4x1024x5120 .fp8e4m3 := Memref.whole cc0_scratch0

abbrev slabOff (e : Fin 4) : Fin 3 → Nat := ![e.val, 0, 0]
abbrev semOff (e : Fin 4) : Fin 1 → Nat := ![e.val]
theorem slabOff_inb : ∀ (e : Fin 4) a, slabOff e a + S1x1024x5120.size a ≤ S4x1024x5120.size a := by decide
theorem semOff_inb : ∀ (e : Fin 4) a, semOff e a + S1.size a ≤ S4.size a := by decide

/-- Group `e`'s weights in HBM, its slab of the buffer, and its cell. -/
def grp (e : Fin 4) : Memref sig .tc .hbm S1024x5120 .fp8e4m3 :=
  (wM.slice (Rect.unit (s := S4x1024x5120) (slabOff e) S1x1024x5120.size (slabOff_inb e)) (fun _ => rfl)).squeeze S1024x5120 squeezes_S1x1024x5120_S1024x5120
def slab (e : Fin 4) : Memref sig .tc .vmem S1024x5120 .fp8e4m3 :=
  (bM.slice (Rect.unit (s := S4x1024x5120) (slabOff e) S1x1024x5120.size (slabOff_inb e)) (fun _ => rfl)).squeeze S1024x5120 squeezes_S1x1024x5120_S1024x5120
def csm (e : Fin 4) : DmaSems sig S_ := (cc0_scratch1.slice (Rect.unit (s := S4) (semOff e) S1.size (semOff_inb e))).squeeze S_ squeezes_S1_S_

/-- Two contents a view reads alike agree on its elements. -/
theorem eqOn_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨y, -, rfl⟩ := Finset.mem_map.mp hi
  have hc : ∀ {α β : Type} (p : α = β) (a b : α), cast p a = cast p b → a = b := by
    intro _ _ p; subst p; exact fun _ _ h => h
  exact hc _ _ _ (congrFun h y)

section Pieces
variable (c : Dev nD) (XA : Buf (Elt F) (wM.view.loc (c : Thread nD τ)))

/-- Group `e`'s cell at zero. -/
abbrev cellP (e : Fin 4) : sProp 𝕄 := semVal ((c : Thread nD τ), SemLoc.dma (csm e).sem) 0
/-- Group `e`'s slab of the buffer, held at contents `f`. -/
abbrev slabP (e : Fin 4) (f : Buf (Elt F) (bM.view.loc (c : Thread nD τ))) : sProp 𝕄 :=
  (slab e).view.loc (c : Thread nD τ) ↦[(slab e).view.set]{fullShare} f
/-- Group `e`'s weights in HBM, held at the argument's contents. -/
abbrev homeP (e : Fin 4) : sProp 𝕄 := (grp e).view.loc (c : Thread nD τ) ↦[(grp e).view.set]{fullShare} XA
/-- What group `e`'s transfer leaves in its slab. -/
abbrev landed (e : Fin 4) (f : Buf (Elt F) (bM.view.loc (c : Thread nD τ))) : Buf (Elt F) (bM.view.loc (c : Thread nD τ)) :=
  (slab e).view.writes (Elt F) f [⟨Rect.whole S1024x5120, ReadAs.same.apply ((grp e).view.read (Elt F) XA)⟩]
/-- The argument's contents, as contents of the buffer they are copied to. -/
abbrev asBuf : Buf (Elt F) (bM.view.loc (c : Thread nD τ)) := XA

theorem slab_emb (e : Fin 4) (y : S1024x5120.Idx) : (slab e).view.emb y = (grp e).view.emb y := rfl

/-- A landed slab holds the argument's own words. -/
theorem landed_eq (e : Fin 4) (f : Buf (Elt F) (bM.view.loc (c : Thread nD τ))) :
    slabP c e (landed c XA e f) = slabP c e (asBuf c XA) := by
  refine pointsTo_congr (eqOn_of_read (slab e).view _ _ ?_)
  exact ((slab e).view.read_writes_whole (Val := Elt F) f (ReadAs.same.apply ((grp e).view.read (Elt F) XA))).trans rfl

/-- Group `e`'s weights on their way. -/
abbrev flightP (e : Fin 4) (f : Buf (Elt F) (bM.view.loc (c : Thread nD τ))) : sProp 𝕄 :=
  Transfers.Flight countersEmb (c : Thread nD τ) (SemLoc.dma (csm e).sem) () 163840 iprop(slabP c e (landed c XA e f) ∗ homeP c XA e)

/-! ### A group's weights between two grid points -/

/-- Not asked for: the cell at zero, the slab at whatever it holds, the weights at home. -/
abbrev idleP (e : Fin 4) : sProp 𝕄 := iprop(cellP c e ∗ (∃ f, slabP c e f) ∗ homeP c XA e)
/-- Arrived: the slab holds the weights. -/
abbrev hereP (e : Fin 4) : sProp 𝕄 := iprop(cellP c e ∗ slabP c e (asBuf c XA) ∗ homeP c XA e)
/-- On their way. -/
abbrev flyP (e : Fin 4) : sProp 𝕄 := iprop(∃ f, flightP c XA e f)

variable (g : Fin 4 → BitVec 32)

/-- Group `e`'s weights once the copies are started, the waits of the points before `k` done. -/
def midP (k : Nat) (e : Fin 4) : sProp 𝕄 :=
  if 0 < (g e).toNat then (if 512 * k ≤ Words.start g e then flyP c XA e else hereP c XA e) else idleP c XA e
/-- Group `e`'s weights before point `k`. -/
def stateP (k : Nat) (e : Fin 4) : sProp 𝕄 := if k = 0 then idleP c XA e else midP c XA g k e

theorem stateP_zero (e : Fin 4) : stateP c XA g 0 e = idleP c XA e := if_pos rfl
theorem stateP_succ (k : Nat) (e : Fin 4) : stateP c XA g (k + 1) e = midP c XA g (k + 1) e := if_neg (Nat.succ_ne_zero k)

variable (hg : Words.Parts g)
include hg

/-- The start under the kernel's condition, at the first point, whatever runs after it. -/
theorem start_step {α : Type} (e : Fin 4) (h1 : (grp e).view.WordExact) (h2 : (slab e).view.WordExact)
    (K : Prog (TpuEff nD τ sig (Elt F) Λ₀ .tc) α) (Q : α → sProp 𝕄) :
    iprop((∃ W, owes (c : Thread nD τ) 0 W) ∗ stateP c XA g 0 e
        ∗ (((∃ W, owes (c : Thread nD τ) 0 W) ∗ midP c XA g 0 e)
            -∗ wp frame (wpE (defs₀ (F := F)) 𝒱₀ (c : Thread nD τ) none) Set.univ K Q))
      ⊢ wp frame (wpE (defs₀ (F := F)) 𝒱₀ (c : Thread nD τ) none) Set.univ
        (if Words.goW (g e) = 1#1 then do
          Prog.lift (.enqueueDma (grp e) (.here (slab e)) (.dma (csm e).sem) h1 h2 ⟨Or.inl rfl, trivial⟩)
          K
        else K) Q := by
  rw [stateP_zero]
  iintro ⟨⟨%W, HW⟩, ⟨Hc, ⟨%f, Hs⟩, Hh⟩, HK⟩
  unfold midP
  by_cases hb : Words.goW (g e) = 1#1
  · rw [if_pos hb, if_pos ((Words.go_iff hg e).mp hb), if_pos (by omega)]
    sl_exec
    iapply HK
    isplitl [HW]; · iexists _; iexact HW
    iexists f; iexact Hc
  · rw [if_neg hb, if_neg (fun h => hb ((Words.go_iff hg e).mpr h))]
    iapply HK
    isplitl [HW]; · iexists _; iexact HW
    isplitl [Hc]; · iexact Hc
    isplitl [Hs]; · iexists f; iexact Hs
    iexact Hh

/-- The wait under the kernel's condition, at point `t`, whatever runs after it. -/
theorem wait_step {α : Type} (e : Fin 4) {t : Nat} (ht : t < 24) (h1 : (grp e).view.WordExact) (h2 : (slab e).view.WordExact)
    (K : Prog (TpuEff nD τ sig (Elt F) Λ₀ .tc) α) (Q : α → sProp 𝕄) :
    iprop((∃ W, owes (c : Thread nD τ) 0 W) ∗ midP c XA g t e
        ∗ (((∃ W, owes (c : Thread nD τ) 0 W) ∗ midP c XA g (t + 1) e)
            -∗ wp frame (wpE (defs₀ (F := F)) 𝒱₀ (c : Thread nD τ) none) Set.univ K Q))
      ⊢ wp frame (wpE (defs₀ (F := F)) 𝒱₀ (c : Thread nD τ) none) Set.univ
        (if Words.dueW (g e) (Words.startW g e) (Words.row0 t) = 1#1 then do
          Prog.lift (.waitDma2 (csm e).sem (grp e) (slab e) h1 h2)
          K
        else K) Q := by
  by_cases hb : Words.dueW (g e) (Words.startW g e) (Words.row0 t) = 1#1
  · obtain ⟨h0, hs, hl⟩ := (Words.due_iff hg e ht).mp hb
    unfold midP
    rw [if_pos hb, if_pos h0, if_pos hs, if_pos h0, if_neg (by omega)]
    iintro ⟨⟨%W, HW⟩, ⟨%f, HF⟩, HK⟩
    sl_exec
    iapply HK
    isplitl [HW]; · iexists _; iexact HW
    isplitl [HF]; · iexact HF
    isplitl [HF_dst]
    · irw [← landed_eq c XA e f]
      iexact HF_dst
    iexact HF_src
  · have e2 : midP c XA g (t + 1) e = midP c XA g t e := by
      have hn := fun h => hb ((Words.due_iff hg e ht).mpr h)
      unfold midP
      by_cases h0 : 0 < (g e).toNat
      · rw [if_pos h0, if_pos h0]
        by_cases hs : 512 * t ≤ Words.start g e
        · rw [if_pos hs, if_pos]; by_contra hl; exact hn ⟨h0, hs, by omega⟩
        · rw [if_neg hs, if_neg (by omega)]
      · rw [if_neg h0, if_neg h0]
    rw [e2, if_neg hb]
    iintro ⟨HW, H, HK⟩
    iapply HK
    isplitl [HW]; · iexact HW
    iexact H
end Pieces

theorem grp_exact (e : Fin 4) : (grp e).view.WordExact := by
  have h := Memref.isWhole_whole (sig := sig) main_arg3
  match e with
  | 0 => exact (h.wordExact_slice rfl _ wordsfp8e4m3_S4x1024x5120_S1x1024x5120_0_0_0).reshape _ _
  | 1 => exact (h.wordExact_slice rfl _ wordsfp8e4m3_S4x1024x5120_S1x1024x5120_1_0_0).reshape _ _
  | 2 => exact (h.wordExact_slice rfl _ wordsfp8e4m3_S4x1024x5120_S1x1024x5120_2_0_0).reshape _ _
  | 3 => exact (h.wordExact_slice rfl _ wordsfp8e4m3_S4x1024x5120_S1x1024x5120_3_0_0).reshape _ _

theorem slab_exact (e : Fin 4) : (slab e).view.WordExact := by
  have h := Memref.isWhole_whole (sig := sig) cc0_scratch0
  match e with
  | 0 => exact (h.wordExact_slice rfl _ wordsfp8e4m3_S4x1024x5120_S1x1024x5120_0_0_0).reshape _ _
  | 1 => exact (h.wordExact_slice rfl _ wordsfp8e4m3_S4x1024x5120_S1x1024x5120_1_0_0).reshape _ _
  | 2 => exact (h.wordExact_slice rfl _ wordsfp8e4m3_S4x1024x5120_S1x1024x5120_2_0_0).reshape _ _
  | 3 => exact (h.wordExact_slice rfl _ wordsfp8e4m3_S4x1024x5120_S1x1024x5120_3_0_0).reshape _ _

/-! ### The first two parts of the body, as four starts and four waits -/

section Progs
variable (arg1 : Memref sig .tc .smem S4 .i32)

/-- Read group `e`'s size. -/
abbrev rd (e : Fin 4) : Prog (TpuEff nD τ sig (Elt F) Λ₀ .tc) (Elt F .i32) :=
  smemLoad arg1 (Rect.unit (s := S4) (semOff e) S1.size (semOff_inb e)) numel1_S1 rfl

/-- Start group `e`'s copy if the group has rows, then `K`. -/
def startIf {α : Type} (e : Fin 4) (K : Prog (TpuEff nD τ sig (Elt F) Λ₀ .tc) α) : Prog (TpuEff nD τ sig (Elt F) Λ₀ .tc) α := do
  let v : Elt F .i32 ← rd arg1 e
  if Words.goW v = 1#1 then do
    Prog.lift (.enqueueDma (grp e) (.here (slab e)) (.dma (csm e).sem) (grp_exact e) (slab_exact e) ⟨Or.inl rfl, trivial⟩)
    K
  else K

/-- Wait for group `e`'s copy if its condition says so, then `K`. -/
def waitOn {α : Type} (e : Fin 4) (b : BitVec 1) (K : Prog (TpuEff nD τ sig (Elt F) Λ₀ .tc) α) : Prog (TpuEff nD τ sig (Elt F) Λ₀ .tc) α :=
  if b = 1#1 then do
    Prog.lift (.waitDma2 (csm e).sem (grp e) (slab e) (grp_exact e) (slab_exact e))
    K
  else K

def waitIf {α : Type} (e : Fin 4) (s r : BitVec 32) (K : Prog (TpuEff nD τ sig (Elt F) Λ₀ .tc) α) : Prog (TpuEff nD τ sig (Elt F) Λ₀ .tc) α := do
  let v : Elt F .i32 ← rd arg1 e
  waitOn e (Words.dueW v s r) K

/-- All starts under the first point's condition, then `K`. -/
def startAll {α : Type} (z : BitVec 32) (K : Prog (TpuEff nD τ sig (Elt F) Λ₀ .tc) α) : Prog (TpuEff nD τ sig (Elt F) Λ₀ .tc) α :=
  if Scalar.cmpi .ne (Scalar.extui (Scalar.cmpi .eq z 0#32) : BitVec 32) 0#32 = 1#1 then
    startIf arg1 0 (startIf arg1 1 (startIf arg1 2 (startIf arg1 3 K)))
  else K
end Progs

section Parts

variable (c : Dev nD) (XA : Buf (Elt F) (wM.view.loc (c : Thread nD τ)))
  (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (fz : Buf (Elt F) (arg1.view.loc (c : Thread nD τ)))

/-- The group sizes, as the kernel reads them from its staging buffer. -/
def sizes (e : Fin 4) : BitVec 32 :=
  arg1.view.readAt (Elt F) (Rect.unit (s := S4) (semOff e) S1.size (semOff_inb e)).toLoadRect fz (Shape.Idx.first (show 0 < S1.numel by decide))

abbrev t0 : Nat := (i 0).val

set_option maxRecDepth 65536 in
set_option maxHeartbeats 1000000 in
theorem part4_eq : k0_part4_skel (F := F) i arg1 harg1 arg2 harg2 arg3 harg3 arg4 harg4 wM (Memref.isWhole_whole _) arg6 harg6 bM (Memref.isWhole_whole _) cc0_scratch1
    = (do
      let v0 : BitVec 32 := Words.row0 (t0 i)
      let v1 ← rd arg1 0
      let v2 : BitVec 32 := Scalar.addi 0#32 v1
      let v3 ← rd arg1 1
      let v4 : BitVec 32 := Scalar.addi v2 v3
      let v5 ← rd arg1 2
      let v6 : BitVec 32 := Scalar.addi v4 v5
      let v7 ← rd arg1 3
      have k0_hw1 : k0_chk1 i v1 v3 v5 v7 := (← Prog.lift (TpuEff.assume (k0_chk1 i v1 v3 v5 v7) (k0_chk1.dec i v1 v3 v5 v7))).down
      let v8 : BitVec 32 := Scalar.addi v6 v7
      startAll arg1 (BitVec.ofNat 32 (i 0).val) (waitIf arg1 0 0#32 v0 (waitIf arg1 1 v2 v0 (do
        let v34 ← rd arg1 2
        pure ⟨v0, v1, v2, v3, v4, v5, v6, v7, k0_hw1, v8, Scalar.andi (Scalar.cmpi .sge v4 v0) (Scalar.cmpi .slt v4 (Scalar.addi v0 512#32)), v34⟩)))) := rfl

set_option maxRecDepth 65536 in
set_option maxHeartbeats 1000000 in
theorem part5_eq (v0 v2 v4 v6 v8 : BitVec 32) (v34 : BitVec 32) :
    k0_part5_skel (F := F) i arg1 harg1 arg2 harg2 arg3 harg3 arg4 harg4 wM (Memref.isWhole_whole _) arg6 harg6 bM (Memref.isWhole_whole _) cc0_scratch1
      v0 v2 v4 v6 v8 (Scalar.andi (Scalar.cmpi .sge v4 v0) (Scalar.cmpi .slt v4 (Scalar.addi v0 512#32))) v34
    = (waitOn 2 (Words.dueW v34 v4 v0) (waitIf arg1 3 v6 v0 (pure ⟨
        Scalar.addi (Scalar.addi (Scalar.addi 0#32 (Scalar.extui (Scalar.cmpi .sle v2 (Scalar.subi (Scalar.addi v0 512#32) 1#32)))) (Scalar.extui (Scalar.cmpi .sle v4 (Scalar.subi (Scalar.addi v0 512#32) 1#32)))) (Scalar.extui (Scalar.cmpi .sle v6 (Scalar.subi (Scalar.addi v0 512#32) 1#32))),
        Scalar.addi (Scalar.addi (Scalar.addi (Scalar.addi 0#32 (Scalar.extui (Scalar.cmpi .sle v2 v0))) (Scalar.extui (Scalar.cmpi .sle v4 v0))) (Scalar.extui (Scalar.cmpi .sle v6 v0))) (Scalar.extui (Scalar.cmpi .sle v8 v0)),
        Scalar.subi (Scalar.addi v0 512#32) 1#32⟩))) := rfl

/-! ### Their specifications -/

abbrev szP : sProp 𝕄 := arg1.view.loc (c : Thread nD τ) ↦[arg1.view.set]{fullShare} fz
abbrev owesP : sProp 𝕄 := iprop(∃ W, owes (c : Thread nD τ) 0 W)
abbrev WP {α : Type} (K : Prog (TpuEff nD τ sig (Elt F) Λ₀ .tc) α) (Q : α → sProp 𝕄) : sProp 𝕄 :=
  wp frame (wpE (defs₀ (F := F)) 𝒱₀ (c : Thread nD τ) none) Set.univ K Q

/-- Reading a group's size. -/
theorem rd_spec {α : Type} {e : Fin 4} {K : Elt F .i32 → Prog (TpuEff nD τ sig (Elt F) Λ₀ .tc) α} {Q : α → sProp 𝕄} :
    iprop(szP c arg1 fz ∗ (szP c arg1 fz -∗ WP c (K (sizes c arg1 fz e)) Q)) ⊢ WP c (rd arg1 e >>= K) Q := by
  iintro ⟨HZ, HK⟩
  unfold WP
  sl_exec
  iapply HK
  iexact HZ

theorem assume_spec {α : Type} {p : Prop} {d : Decidable p} {K : PLift p → Prog (TpuEff nD τ sig (Elt F) Λ₀ .tc) α} {Q : α → sProp 𝕄} (h : p) :
    WP c (K ⟨h⟩) Q ⊢ WP c (Prog.lift (TpuEff.assume p d) >>= K) Q := by
  iintro HK
  unfold WP
  sl_exec (disch := exact h)
  iexact HK

variable (hg : Words.Parts (sizes c arg1 fz))
include hg

theorem startIf_spec {α : Type} {K : Prog (TpuEff nD τ sig (Elt F) Λ₀ .tc) α} {Q : α → sProp 𝕄} (e : Fin 4) :
    iprop(szP c arg1 fz ∗ owesP c ∗ stateP c XA (sizes c arg1 fz) 0 e
      ∗ (szP c arg1 fz -∗ owesP c -∗ midP c XA (sizes c arg1 fz) 0 e -∗ WP c K Q)) ⊢ WP c (startIf arg1 e K) Q := by
  iintro ⟨HZ, HW, H, HK⟩
  unfold startIf
  iapply (rd_spec c arg1 fz)
  isplitl [HZ]; · iexact HZ
  iintro HZ
  iapply (start_step c XA (sizes c arg1 fz) hg e)
  isplitl [HW]; · iexact HW
  isplitl [H]; · iexact H
  iintro ⟨HW, H⟩
  iapply HK $$ HZ HW H

theorem waitOn_spec {α : Type} {K : Prog (TpuEff nD τ sig (Elt F) Λ₀ .tc) α} {Q : α → sProp 𝕄} (e : Fin 4) {t : Nat} (ht : t < 24) {v s : BitVec 32} (hv : v = sizes c arg1 fz e) (hs : s = Words.startW (sizes c arg1 fz) e) :
    iprop(owesP c ∗ midP c XA (sizes c arg1 fz) t e
      ∗ (owesP c -∗ midP c XA (sizes c arg1 fz) (t + 1) e -∗ WP c K Q)) ⊢ WP c (waitOn e (Words.dueW v s (Words.row0 t)) K) Q := by
  subst hv hs
  iintro ⟨HW, H, HK⟩
  unfold waitOn
  iapply (wait_step c XA (sizes c arg1 fz) hg e ht)
  isplitl [HW]; · iexact HW
  isplitl [H]; · iexact H
  iintro ⟨HW, H⟩
  iapply HK $$ HW H

theorem waitIf_spec {α : Type} {K : Prog (TpuEff nD τ sig (Elt F) Λ₀ .tc) α} {Q : α → sProp 𝕄} (e : Fin 4) {t : Nat} (ht : t < 24) {s : BitVec 32} (hs : s = Words.startW (sizes c arg1 fz) e) :
    iprop(szP c arg1 fz ∗ owesP c ∗ midP c XA (sizes c arg1 fz) t e
      ∗ (szP c arg1 fz -∗ owesP c -∗ midP c XA (sizes c arg1 fz) (t + 1) e -∗ WP c K Q)) ⊢ WP c (waitIf arg1 e s (Words.row0 t) K) Q := by
  iintro ⟨HZ, HW, H, HK⟩
  unfold waitIf
  iapply (rd_spec c arg1 fz)
  isplitl [HZ]; · iexact HZ
  iintro HZ
  iapply (waitOn_spec c XA arg1 fz hg e ht rfl hs)
  isplitl [HW]; · iexact HW
  isplitl [H]; · iexact H
  iapply HK $$ HZ

theorem startAll_spec {α : Type} {K : Prog (TpuEff nD τ sig (Elt F) Λ₀ .tc) α} {Q : α → sProp 𝕄} {t : Nat} (ht : t < 24) :
    iprop(szP c arg1 fz ∗ owesP c ∗ stateP c XA (sizes c arg1 fz) t 0 ∗ stateP c XA (sizes c arg1 fz) t 1
        ∗ stateP c XA (sizes c arg1 fz) t 2 ∗ stateP c XA (sizes c arg1 fz) t 3
      ∗ (szP c arg1 fz -∗ owesP c -∗ midP c XA (sizes c arg1 fz) t 0 -∗ midP c XA (sizes c arg1 fz) t 1
        -∗ midP c XA (sizes c arg1 fz) t 2 -∗ midP c XA (sizes c arg1 fz) t 3 -∗ WP c K Q)) ⊢ WP c (startAll arg1 (BitVec.ofNat 32 t) K) Q := by
  unfold startAll
  cases t with
  | zero =>
    iintro ⟨HZ, HW, H0, H1, H2, H3, HK⟩
    rw [if_pos (show Scalar.cmpi .ne (Scalar.extui (Scalar.cmpi .eq (BitVec.ofNat 32 0) 0#32) : BitVec 32) 0#32 = 1#1 from rfl)]
    iapply (startIf_spec c XA arg1 fz hg 0)
    isplitl [HZ]; · iexact HZ
    isplitl [HW]; · iexact HW
    isplitl [H0]; · iexact H0
    iintro HZ HW H0
    iapply (startIf_spec c XA arg1 fz hg 1)
    isplitl [HZ]; · iexact HZ
    isplitl [HW]; · iexact HW
    isplitl [H1]; · iexact H1
    iintro HZ HW H1
    iapply (startIf_spec c XA arg1 fz hg 2)
    isplitl [HZ]; · iexact HZ
    isplitl [HW]; · iexact HW
    isplitl [H2]; · iexact H2
    iintro HZ HW H2
    iapply (startIf_spec c XA arg1 fz hg 3)
    isplitl [HZ]; · iexact HZ
    isplitl [HW]; · iexact HW
    isplitl [H3]; · iexact H3
    iintro HZ HW H3
    iapply HK $$ HZ HW H0 H1 H2 H3
  | succ t =>
    rw [stateP_succ, stateP_succ, stateP_succ, stateP_succ]
    iintro ⟨HZ, HW, H0, H1, H2, H3, HK⟩
    rw [if_neg (show ¬ Scalar.cmpi .ne (Scalar.extui (Scalar.cmpi .eq (BitVec.ofNat 32 (t + 1)) 0#32) : BitVec 32) 0#32 = 1#1 by
      rw [Words.ne_zero_extui]
      intro h
      have h2 := (WordCmp.cmpi_eq_ofNat_eq_one_iff (w := 32) (a := t + 1) (b := 0) (by omega) (by omega)).mp h
      omega)]
    iapply HK $$ HZ HW H0 H1 H2 H3

/-- The first part of the body: reads the sizes, starts the copies at the first point, waits for groups 0 and 1. -/
theorem part4_spec (hchk : k0_chk1 i (sizes c arg1 fz 0) (sizes c arg1 fz 1) (sizes c arg1 fz 2) (sizes c arg1 fz 3))
    (Q : _ → sProp 𝕄) :
    iprop(szP c arg1 fz ∗ owesP c ∗ stateP c XA (sizes c arg1 fz) (t0 i) 0 ∗ stateP c XA (sizes c arg1 fz) (t0 i) 1
        ∗ stateP c XA (sizes c arg1 fz) (t0 i) 2 ∗ stateP c XA (sizes c arg1 fz) (t0 i) 3
        ∗ (szP c arg1 fz -∗ owesP c -∗ midP c XA (sizes c arg1 fz) (t0 i + 1) 0 -∗ midP c XA (sizes c arg1 fz) (t0 i + 1) 1
          -∗ midP c XA (sizes c arg1 fz) (t0 i) 2 -∗ midP c XA (sizes c arg1 fz) (t0 i) 3 -∗
          Q ⟨Words.row0 (t0 i), sizes c arg1 fz 0, Words.end0 (sizes c arg1 fz), sizes c arg1 fz 1, Words.end1 (sizes c arg1 fz), sizes c arg1 fz 2, Words.end2 (sizes c arg1 fz), sizes c arg1 fz 3, hchk, Words.end3 (sizes c arg1 fz), Scalar.andi (Scalar.cmpi .sge (Words.end1 (sizes c arg1 fz)) (Words.row0 (t0 i))) (Scalar.cmpi .slt (Words.end1 (sizes c arg1 fz)) (Scalar.addi (Words.row0 (t0 i)) 512#32)), sizes c arg1 fz 2⟩))
      ⊢ WP c (k0_part4_skel (F := F) i arg1 harg1 arg2 harg2 arg3 harg3 arg4 harg4 wM (Memref.isWhole_whole _) arg6 harg6 bM (Memref.isWhole_whole _) cc0_scratch1) Q := by
  have ht : t0 i < 24 := (i 0).isLt
  rw [part4_eq]
  iintro ⟨HZ, HW, H0, H1, H2, H3, HK⟩
  iapply (rd_spec c arg1 fz); isplitl [HZ]; · iexact HZ
  iintro HZ
  iapply (rd_spec c arg1 fz); isplitl [HZ]; · iexact HZ
  iintro HZ
  iapply (rd_spec c arg1 fz); isplitl [HZ]; · iexact HZ
  iintro HZ
  iapply (rd_spec c arg1 fz); isplitl [HZ]; · iexact HZ
  iintro HZ
  iapply (assume_spec c hchk)
  iapply (startAll_spec c XA arg1 fz hg ht)
  isplitl [HZ]; · iexact HZ
  isplitl [HW]; · iexact HW
  isplitl [H0]; · iexact H0
  isplitl [H1]; · iexact H1
  isplitl [H2]; · iexact H2
  isplitl [H3]; · iexact H3
  iintro HZ HW H0 H1 H2 H3
  iapply (waitIf_spec c XA arg1 fz hg 0 ht rfl)
  isplitl [HZ]; · iexact HZ
  isplitl [HW]; · iexact HW
  isplitl [H0]; · iexact H0
  iintro HZ HW H0
  iapply (waitIf_spec c XA arg1 fz hg 1 ht rfl)
  isplitl [HZ]; · iexact HZ
  isplitl [HW]; · iexact HW
  isplitl [H1]; · iexact H1
  iintro HZ HW H1
  iapply (rd_spec c arg1 fz); isplitl [HZ]; · iexact HZ
  iintro HZ
  unfold WP
  sl_step
  iapply HK $$ HZ HW H0 H1 H2 H3

/-- The second part: waits for groups 2 and 3, and computes the tile's last group, its first group and its last row. -/
theorem part5_spec (Q : _ → sProp 𝕄) :
    iprop(szP c arg1 fz ∗ owesP c ∗ midP c XA (sizes c arg1 fz) (t0 i) 2 ∗ midP c XA (sizes c arg1 fz) (t0 i) 3
        ∗ (szP c arg1 fz -∗ owesP c -∗ midP c XA (sizes c arg1 fz) (t0 i + 1) 2 -∗ midP c XA (sizes c arg1 fz) (t0 i + 1) 3 -∗
          Q ⟨Scalar.addi (Scalar.addi (Scalar.addi 0#32 (Scalar.extui (Scalar.cmpi .sle (Words.end0 (sizes c arg1 fz)) (Words.rowl (t0 i))))) (Scalar.extui (Scalar.cmpi .sle (Words.end1 (sizes c arg1 fz)) (Words.rowl (t0 i))))) (Scalar.extui (Scalar.cmpi .sle (Words.end2 (sizes c arg1 fz)) (Words.rowl (t0 i)))),
            Words.cnt (sizes c arg1 fz) (Words.row0 (t0 i)), Words.rowl (t0 i)⟩))
      ⊢ WP c (k0_part5_skel (F := F) i arg1 harg1 arg2 harg2 arg3 harg3 arg4 harg4 wM (Memref.isWhole_whole _) arg6 harg6 bM (Memref.isWhole_whole _) cc0_scratch1
          (Words.row0 (t0 i)) (Words.end0 (sizes c arg1 fz)) (Words.end1 (sizes c arg1 fz)) (Words.end2 (sizes c arg1 fz)) (Words.end3 (sizes c arg1 fz))
          (Scalar.andi (Scalar.cmpi .sge (Words.end1 (sizes c arg1 fz)) (Words.row0 (t0 i))) (Scalar.cmpi .slt (Words.end1 (sizes c arg1 fz)) (Scalar.addi (Words.row0 (t0 i)) 512#32))) (sizes c arg1 fz 2)) Q := by
  have ht : t0 i < 24 := (i 0).isLt
  rw [part5_eq]
  iintro ⟨HZ, HW, H2, H3, HK⟩
  iapply (waitOn_spec c XA arg1 fz hg 2 ht rfl rfl)
  isplitl [HW]; · iexact HW
  isplitl [H2]; · iexact H2
  iintro HW H2
  iapply (waitIf_spec c XA arg1 fz hg 3 ht rfl)
  isplitl [HZ]; · iexact HZ
  isplitl [HW]; · iexact HW
  isplitl [H3]; · iexact H3
  iintro HZ HW H3
  unfold WP
  sl_step
  iapply HK $$ HZ HW H2 H3

end Parts

end Cert.KernelIdeal.Hand
end
-- ==== Proof.Ideal.Compute.lean ====
/- One tile's arithmetic: the loads and the store of one block of 512 columns, and the tile's two forms. -/
module

public import proofs.«01_k».proof.Proof.Ideal.Flights
public import Idealize.ShloMosaic.Lib.WritesUnit

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

section Loads

variable (c : Dev nD) (XA : Buf (Elt F) (wM.view.loc (c : Thread nD τ)))
  (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (f2 : Buf (Elt F) (arg2.view.loc (c : Thread nD τ))) (f3 : Buf (Elt F) (arg3.view.loc (c : Thread nD τ)))
  (f4 : Buf (Elt F) (arg4.view.loc (c : Thread nD τ)))

abbrev wOff (e : Fin 4) (n : Fin 10) : Fin 3 → Nat := ![e.val, 0, 512 * n.val]
abbrev sOff (e : Fin 4) (n : Fin 10) : Fin 2 → Nat := ![e.val, 512 * n.val]
abbrev oOff (n : Fin 10) : Fin 2 → Nat := ![0, 512 * n.val]
theorem wOff_inb : ∀ (e : Fin 4) (n : Fin 10) a, wOff e n a + S1x1024x512.size a ≤ S4x1024x5120.size a := by decide
theorem sOff_inb : ∀ (e : Fin 4) (n : Fin 10) a, sOff e n a + S1x512.size a ≤ S4x5120.size a := by decide
theorem oOff_inb : ∀ (n : Fin 10) a, oOff n a + S512x512.size a ≤ S512x5120.size a := by decide

/-- Group `e`'s weights, columns `512 n` on, as the kernel loads them. -/
def wch (fs : Buf (Elt F) (bM.view.loc (c : Thread nD τ))) (e : Fin 4) (n : Fin 10) : Vec F S1x1024x512 .fp8e4m3 :=
  bM.view.readAt (Elt F) (Rect.unit (s := S4x1024x5120) (wOff e n) S1x1024x512.size (wOff_inb e n)).toLoadRect fs
/-- Their scales. -/
def sch (e : Fin 4) (n : Fin 10) : Vec F S1x512 .f32 :=
  arg4.view.readAt (Elt F) (Rect.unit (s := S4x5120) (sOff e n) S1x512.size (sOff_inb e n)).toLoadRect f4
/-- Group `e`'s activation scale. -/
def xsc (e : Fin 4) : Elt F .f32 :=
  arg2.view.readAt (Elt F) (Rect.unit (s := S4) (semOff e) S1.size (semOff_inb e)).toLoadRect f2 (Shape.Idx.first (show 0 < S1.numel by decide))
/-- The tile's rows. -/
def xbl : Vec F S512x1024 .bf16 :=
  arg3.view.readAt (Elt F) (Rect.unit (s := S512x1024) ![0, 0] S512x1024.size inb_S512x1024_S512x1024_0_0).toLoadRect f3
/-- What the output's block holds at columns `512 n` on. -/
def och (n : Fin 10) (f : Buf (Elt F) (arg6.view.loc (c : Thread nD τ))) : Vec F S512x512 .bf16 :=
  arg6.view.readAt (Elt F) (Rect.unit (s := S512x5120) (oOff n) S512x512.size (oOff_inb n)).toLoadRect f

/-- Group `e`'s slab is the buffer's elements at leading index `e`. -/
theorem slab_set (e : Fin 4) : (slab e).view.set = (Rect.unit (s := S4x1024x5120) (slabOff e) S1x1024x5120.size (slabOff_inb e)).set := by
  show (((View.whole cc0_scratch0).slice _).reshape S1024x5120 _).set = _
  rw [View.set_reshape, View.set_slice_whole]

theorem ldw_sub (e : Fin 4) (n : Fin 10) (h) : bM.view.setOn (Rect.unit (s := S4x1024x5120) (wOff e n) S1x1024x512.size h).set ⊆ (slab e).view.set := by
  intro y hy
  rw [slab_set, Rect.mem_set_unit]
  obtain ⟨z, hz, rfl⟩ := Finset.mem_map.mp hy
  rw [Rect.mem_set_unit] at hz
  have h0 := hz 0
  intro a
  match a with
  | 0 => exact h0
  | 1 => exact ⟨Nat.zero_le _, Nat.lt_of_lt_of_le (z 1).isLt (Nat.le_add_left _ _)⟩
  | 2 => exact ⟨Nat.zero_le _, Nat.lt_of_lt_of_le (z 2).isLt (Nat.le_add_left _ _)⟩

set_option maxHeartbeats 1000000 in
theorem ldw {α : Type} (e : Fin 4) (n : Fin 10) {o : Fin 3 → Nat} (ho : o = wOff e n) {h : ∀ a, o a + S1x1024x512.size a ≤ S4x1024x5120.size a} {hl} {fs}
    {K : Vec F S1x1024x512 .fp8e4m3 → Prog (TpuEff nD τ sig (Elt F) Λ₀ .tc) α} {Q : α → sProp 𝕄} :
    iprop(slabP c e fs ∗ (slabP c e fs -∗ WP c (K (wch c fs e n)) Q))
      ⊢ WP c (Prog.lift (.load bM (Rect.unit (s := S4x1024x5120) o S1x1024x512.size h).toLoadRect hl) >>= K) Q := by
  subst ho
  have hsub := ldw_sub e n h
  iintro ⟨H, HK⟩
  unfold WP
  sl_exec
  iapply HK
  iexact H

theorem lds {α : Type} (e : Fin 4) (n : Fin 10) {o : Fin 2 → Nat} (ho : o = sOff e n) {h : ∀ a, o a + S1x512.size a ≤ S4x5120.size a} {hl}
    {K : Vec F S1x512 .f32 → Prog (TpuEff nD τ sig (Elt F) Λ₀ .tc) α} {Q : α → sProp 𝕄} :
    iprop((arg4.view.loc (c : Thread nD τ) ↦[arg4.view.set]{fullShare} f4) ∗ ((arg4.view.loc (c : Thread nD τ) ↦[arg4.view.set]{fullShare} f4) -∗ WP c (K (sch c arg4 f4 e n)) Q))
      ⊢ WP c (Prog.lift (.load arg4 (Rect.unit (s := S4x5120) o S1x512.size h).toLoadRect hl) >>= K) Q := by
  subst ho
  iintro ⟨H, HK⟩
  unfold WP
  sl_exec
  iapply HK
  iexact H

theorem ldx {α : Type} {hl}
    {K : Vec F S512x1024 .bf16 → Prog (TpuEff nD τ sig (Elt F) Λ₀ .tc) α} {Q : α → sProp 𝕄} :
    iprop((arg3.view.loc (c : Thread nD τ) ↦[arg3.view.set]{fullShare} f3) ∗ ((arg3.view.loc (c : Thread nD τ) ↦[arg3.view.set]{fullShare} f3) -∗ WP c (K (xbl c arg3 f3)) Q))
      ⊢ WP c (Prog.lift (.load arg3 (Rect.unit (s := S512x1024) ![0, 0] S512x1024.size inb_S512x1024_S512x1024_0_0).toLoadRect hl) >>= K) Q := by
  iintro ⟨H, HK⟩
  unfold WP
  sl_exec
  iapply HK
  iexact H

theorem ldxs {α : Type} (e : Fin 4) {o : Fin 1 → Nat} (ho : o = semOff e) {h : ∀ a, o a + S1.size a ≤ S4.size a} {h1 h2}
    {K : Elt F .f32 → Prog (TpuEff nD τ sig (Elt F) Λ₀ .tc) α} {Q : α → sProp 𝕄} :
    iprop((arg2.view.loc (c : Thread nD τ) ↦[arg2.view.set]{fullShare} f2) ∗ ((arg2.view.loc (c : Thread nD τ) ↦[arg2.view.set]{fullShare} f2) -∗ WP c (K (xsc c arg2 f2 e)) Q))
      ⊢ WP c (smemLoad arg2 (Rect.unit (s := S4) o S1.size h) h1 h2 >>= K) Q := by
  subst ho
  iintro ⟨H, HK⟩
  unfold WP
  sl_exec
  iapply HK
  iexact H

abbrev outP (f : Buf (Elt F) (arg6.view.loc (c : Thread nD τ))) : sProp 𝕄 := arg6.view.loc (c : Thread nD τ) ↦[arg6.view.set]{fullShare} f

/-- Reading the output's block. -/
theorem ldo {α : Type} (n : Fin 10) {o : Fin 2 → Nat} (ho : o = oOff n) {h : ∀ a, o a + S512x512.size a ≤ S512x5120.size a} {hl} {f}
    {K : Vec F S512x512 .bf16 → Prog (TpuEff nD τ sig (Elt F) Λ₀ .tc) α} {Q : α → sProp 𝕄} :
    iprop(outP c arg6 f ∗ (outP c arg6 f -∗ WP c (K (och c arg6 n f)) Q))
      ⊢ WP c (Prog.lift (.load arg6 (Rect.unit (s := S512x5120) o S512x512.size h).toLoadRect hl) >>= K) Q := by
  subst ho
  iintro ⟨H, HK⟩
  unfold WP
  sl_exec
  iapply HK
  iexact H

/-- Storing one block's columns changes those columns and no others. -/
theorem och_store (n : Fin 10) (f) (V : Vec F S512x512 .bf16) (h) :
    och c arg6 n (arg6.view.writes (Elt F) f [⟨Rect.unit (s := S512x5120) (oOff n) S512x512.size h, V⟩]) = V
    ∧ ∀ m, m ≠ n → och c arg6 m (arg6.view.writes (Elt F) f [⟨Rect.unit (s := S512x5120) (oOff n) S512x512.size h, V⟩]) = och c arg6 m f := by
  constructor
  · funext y
    exact View.read_writes_cons_unit_of_mem arg6.view f h V [] _ y rfl (fun a => by
      show oOff n a + 1 * (y a).val = _; omega)
  · intro m hm
    have hm' : m.val ≠ n.val := fun e => hm (Fin.ext e)
    funext y
    refine (View.read_writes_cons_unit_of_not_mem arg6.view f h V [] _ rfl 1 ?_).trans rfl
    have : (y 1).val < 512 := (y 1).isLt
    show 512 * m.val + 1 * (y 1).val < 512 * n.val ∨ 512 * n.val + 512 ≤ 512 * m.val + 1 * (y 1).val
    omega

theorem sto {α : Type} (n : Fin 10) {o : Fin 2 → Nat} (ho : o = oOff n) {h : ∀ a, o a + S512x512.size a ≤ S512x5120.size a} {h1 h2} {f}
    {V : Vec F S512x512 .bf16}
    {K : PUnit → Prog (TpuEff nD τ sig (Elt F) Λ₀ .tc) α} {Q : α → sProp 𝕄} :
    iprop(outP c arg6 f ∗ (∀ f', ⌜och c arg6 n f' = V ∧ ∀ m, m ≠ n → och c arg6 m f' = och c arg6 m f⌝ -∗ outP c arg6 f' -∗ WP c (K ⟨⟩) Q))
      ⊢ WP c (Prog.lift (.store arg6 (Rect.unit (s := S512x5120) o S512x512.size h) V Finset.univ h1 h2) >>= K) Q := by
  subst ho
  iintro ⟨H, HK⟩
  unfold WP
  sl_exec
  ispecialize HK $$ %(arg6.view.writes (Elt F) f [⟨Rect.unit (s := S512x5120) (oOff n) S512x512.size h, V⟩])
  iapply HK
  · ipureintro
    exact och_store c arg6 n f V h
  iexact H

/-! ### A tile of one group -/

theorem trips2 : k0_t2_loop.trips = 10 := by decide
abbrev toT (n : Fin 10) : Fin k0_t2_loop.trips := ⟨n.val, n.isLt⟩
theorem off25_eq : ∀ n : Fin 10, k0_off25 (toT n) = oOff n := by decide

/-- Loads one block's weights and scales, and stores its product; then `K`. -/
def chunk {α : Type} (n : Fin 10) (o7 : Fin 3 → Nat) (h7 : ∀ a, o7 a + S1x1024x512.size a ≤ S4x1024x5120.size a)
    (o4 : Fin 2 → Nat) (h4 : ∀ a, o4 a + S1x512.size a ≤ S4x5120.size a) (x : Elt F .f32) (xb : Vec F S512x1024 .bf16)
    (K : Prog (TpuEff nD τ sig (Elt F) Λ₀ .tc) α) : Prog (TpuEff nD τ sig (Elt F) Λ₀ .tc) α := do
  let w : Vec F S1x1024x512 .fp8e4m3 ← Prog.lift (.load bM (Rect.unit (s := S4x1024x5120) o7 S1x1024x512.size h7).toLoadRect (View.loadsAt_vmem h_S1x1024x512))
  let s : Vec F S1x512 .f32 ← Prog.lift (.load arg4 (Rect.unit (s := S4x5120) o4 S1x512.size h4).toLoadRect (View.loadsAt_vmem h_S1x512))
  let _o : Vec F S512x512 .bf16 ← Prog.lift (.load arg6 (Rect.unit (s := S512x5120) (k0_off25 (toT n)) S512x512.size (k0_off25_inb (toT n))).toLoadRect (View.loadsAt_vmem h_S512x512))
  Prog.lift (.store arg6 (Rect.unit (s := S512x5120) (k0_off25 (toT n)) S512x512.size (k0_off25_inb (toT n))) (k0_pay7 x xb w s) Finset.univ (View.stores_vmem h_S512x512 (harg6.storeExact_slice rfl _ (k0_off25_packedbf16 (toT n))) (fun _ => rfl)) (.inl rfl))
  K

abbrev wsP : sProp 𝕄 := arg4.view.loc (c : Thread nD τ) ↦[arg4.view.set]{fullShare} f4
abbrev xP : sProp 𝕄 := arg3.view.loc (c : Thread nD τ) ↦[arg3.view.set]{fullShare} f3
abbrev xsP : sProp 𝕄 := arg2.view.loc (c : Thread nD τ) ↦[arg2.view.set]{fullShare} f2

/-- The first `n` blocks hold their products. -/
def outI (fs : Buf (Elt F) (bM.view.loc (c : Thread nD τ))) (e : Fin 4) (x : Elt F .f32) (xb : Vec F S512x1024 .bf16) (n : Nat) : sProp 𝕄 :=
  iprop(∃ f, ⌜∀ m : Fin 10, m.val < n → och c arg6 m f = k0_pay7 x xb (wch c fs e m) (sch c arg4 f4 e m)⌝ ∗ outP c arg6 f)

theorem chunk_spec {α : Type} (e : Fin 4) (n : Fin 10) {o7 : Fin 3 → Nat} (ho7 : o7 = wOff e n) {h7} {o4 : Fin 2 → Nat} (ho4 : o4 = sOff e n) {h4}
    {fs x xb} {K : Prog (TpuEff nD τ sig (Elt F) Λ₀ .tc) α} {Q : α → sProp 𝕄} :
    iprop(slabP c e fs ∗ wsP c arg4 f4 ∗ outI c arg4 arg6 f4 fs e x xb n.val
        ∗ (slabP c e fs -∗ wsP c arg4 f4 -∗ outI c arg4 arg6 f4 fs e x xb (n.val + 1) -∗ WP c K Q))
      ⊢ WP c (chunk arg4 arg6 harg6 n o7 h7 o4 h4 x xb K) Q := by
  unfold chunk outI
  iintro ⟨HS, HW, ⟨%f, %hf, HO⟩, HK⟩
  iapply (ldw c e n ho7); isplitl [HS]; · iexact HS
  iintro HS
  iapply (lds c arg4 f4 e n ho4); isplitl [HW]; · iexact HW
  iintro HW
  iapply (ldo c arg6 n (off25_eq n)); isplitl [HO]; · iexact HO
  iintro HO
  iapply (sto c arg6 n (off25_eq n)); isplitl [HO]; · iexact HO
  iintro %f' %hf' HO
  iapply HK $$ HS HW
  iexists f'
  isplitr [HO]
  · ipureintro
    intro m hm
    by_cases hmn : m = n
    · subst hmn; exact hf'.1
    · rw [hf'.2 m hmn]; exact hf m (by have := fun h => hmn (Fin.ext h); omega)
  iexact HO

end Loads

end Cert.KernelIdeal.Hand
end
-- ==== Proof.Ideal.Tile.lean ====
/- The body of one grid point as a program over starts, waits, blocks and one loop: the two forms of a tile. -/
module

public import proofs.«01_k».proof.Proof.Ideal.Compute

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

section Progs
variable (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (v1 v3 v5 v7 : BitVec 32)

/-- A tile of one group: its ten blocks in order, then `K`. -/
def pureTile {α : Type} (hw : k0_chk1 i v1 v3 v5 v7) (h10 : k0_cond10 i v1 v3 v5 v7 = 1#1)
    (K : Prog (TpuEff nD τ sig (Elt F) Λ₀ .tc) α) : Prog (TpuEff nD τ sig (Elt F) Λ₀ .tc) α := do
  let x : Elt F .f32 ← smemLoad arg2 (Rect.unit (s := S4) (k0_off1 i v1 v3 v5 v7) S1.size (k0_off1_inb i v1 v3 v5 v7 hw h10)) numel1_S1 rfl
  let xb : Vec F S512x1024 .bf16 ← Prog.lift (.load arg3 (Rect.unit (s := S512x1024) ![0, 0] S512x1024.size inb_S512x1024_S512x1024_0_0).toLoadRect (View.loadsAt_vmem h_S512x1024))
  chunk arg4 arg6 harg6 0 (k0_off2 i v1 v3 v5 v7) (k0_off2_inb i v1 v3 v5 v7 hw h10) (k0_off3 i v1 v3 v5 v7) (k0_off3_inb i v1 v3 v5 v7 hw h10) x xb
    (chunk arg4 arg6 harg6 1 (k0_off4 i v1 v3 v5 v7) (k0_off4_inb i v1 v3 v5 v7 hw h10) (k0_off5 i v1 v3 v5 v7) (k0_off5_inb i v1 v3 v5 v7 hw h10) x xb
    (chunk arg4 arg6 harg6 2 (k0_off6 i v1 v3 v5 v7) (k0_off6_inb i v1 v3 v5 v7 hw h10) (k0_off7 i v1 v3 v5 v7) (k0_off7_inb i v1 v3 v5 v7 hw h10) x xb
    (chunk arg4 arg6 harg6 3 (k0_off8 i v1 v3 v5 v7) (k0_off8_inb i v1 v3 v5 v7 hw h10) (k0_off9 i v1 v3 v5 v7) (k0_off9_inb i v1 v3 v5 v7 hw h10) x xb
    (chunk arg4 arg6 harg6 4 (k0_off10 i v1 v3 v5 v7) (k0_off10_inb i v1 v3 v5 v7 hw h10) (k0_off11 i v1 v3 v5 v7) (k0_off11_inb i v1 v3 v5 v7 hw h10) x xb
    (chunk arg4 arg6 harg6 5 (k0_off12 i v1 v3 v5 v7) (k0_off12_inb i v1 v3 v5 v7 hw h10) (k0_off13 i v1 v3 v5 v7) (k0_off13_inb i v1 v3 v5 v7 hw h10) x xb
    (chunk arg4 arg6 harg6 6 (k0_off14 i v1 v3 v5 v7) (k0_off14_inb i v1 v3 v5 v7 hw h10) (k0_off15 i v1 v3 v5 v7) (k0_off15_inb i v1 v3 v5 v7 hw h10) x xb
    (chunk arg4 arg6 harg6 7 (k0_off16 i v1 v3 v5 v7) (k0_off16_inb i v1 v3 v5 v7 hw h10) (k0_off17 i v1 v3 v5 v7) (k0_off17_inb i v1 v3 v5 v7 hw h10) x xb
    (chunk arg4 arg6 harg6 8 (k0_off18 i v1 v3 v5 v7) (k0_off18_inb i v1 v3 v5 v7 hw h10) (k0_off19 i v1 v3 v5 v7) (k0_off19_inb i v1 v3 v5 v7 hw h10) x xb
    (chunk arg4 arg6 harg6 9 (k0_off20 i v1 v3 v5 v7) (k0_off20_inb i v1 v3 v5 v7 hw h10) (k0_off21 i v1 v3 v5 v7) (k0_off21_inb i v1 v3 v5 v7 hw h10) x xb
    K)))))))))

/-- A tile of several groups: the loop over them, the loop's remainder, then `K`. -/
def mixedTile (hw : k0_chk1 i v1 v3 v5 v7) (v0 v8 v71 v74 v76 : BitVec 32) (h11 : k0_cond11 i v1 v3 v5 v7 = 1#1) : Prog (TpuEff nD τ sig (Elt F) Λ₀ .tc) PUnit := do
  Scf.Loop.for (k0_t1_loop i v1 v3 v5 v7) (k0_t1_ok i v1 v3 v5 v7 hw h11) ⟨⟩ (k0_t1_body i arg1 harg1 arg2 harg2 arg3 harg3 arg4 harg4 wM (Memref.isWhole_whole _) arg6 harg6 bM (Memref.isWhole_whole _) cc0_scratch1 v0 v1 v3 v5 v7 hw v74 h11)
  Scf.Loop.for (k0_t3_loop i v1 v3 v5 v7) (k0_t3_ok i v1 v3 v5 v7 hw h11) ⟨⟩ (k0_t3_body i arg1 harg1 arg2 harg2 arg3 harg3 arg4 harg4 wM (Memref.isWhole_whole _) arg6 harg6 bM (Memref.isWhole_whole _) cc0_scratch1 v0 v1 v3 v5 v7 hw v8 v71 v74 v76 h11)
  pure ⟨⟩

def mixedIf (hw : k0_chk1 i v1 v3 v5 v7) (v0 v8 v71 v74 v76 : BitVec 32) : Prog (TpuEff nD τ sig (Elt F) Λ₀ .tc) PUnit :=
  if h11 : k0_cond11 i v1 v3 v5 v7 = 1#1 then mixedTile i arg1 harg1 arg2 harg2 arg3 harg3 arg4 harg4 arg6 harg6 v1 v3 v5 v7 hw v0 v8 v71 v74 v76 h11 else pure ⟨⟩

def pureIf (hw : k0_chk1 i v1 v3 v5 v7) (K : Prog (TpuEff nD τ sig (Elt F) Λ₀ .tc) PUnit) : Prog (TpuEff nD τ sig (Elt F) Λ₀ .tc) PUnit :=
  if h10 : k0_cond10 i v1 v3 v5 v7 = 1#1 then pureTile i arg2 arg3 arg4 arg6 harg6 v1 v3 v5 v7 hw h10 K else K

set_option maxRecDepth 65536 in
set_option maxHeartbeats 4000000 in
/-- The kernel's body is: the starts and waits, the tile of one group under its condition, the tile of several under its own. -/
theorem body_eq : cc0__body_skel (F := F) i arg1 harg1 arg2 harg2 arg3 harg3 arg4 harg4 wM (Memref.isWhole_whole _) arg6 harg6 bM (Memref.isWhole_whole _) cc0_scratch1
    = (do
      let r ← k0_part4_skel (F := F) i arg1 harg1 arg2 harg2 arg3 harg3 arg4 harg4 wM (Memref.isWhole_whole _) arg6 harg6 bM (Memref.isWhole_whole _) cc0_scratch1
      match r with
      | ⟨v0, v1, v2, v3, v4, v5, v6, v7, hw, v8, v33, v34⟩ => do
        let q ← k0_part5_skel (F := F) i arg1 harg1 arg2 harg2 arg3 harg3 arg4 harg4 wM (Memref.isWhole_whole _) arg6 harg6 bM (Memref.isWhole_whole _) cc0_scratch1 v0 v2 v4 v6 v8 v33 v34
        match q with
        | ⟨v71, v74, v76⟩ =>
          pureIf i arg2 arg3 arg4 arg6 harg6 v1 v3 v5 v7 hw (mixedIf i arg1 harg1 arg2 harg2 arg3 harg3 arg4 harg4 arg6 harg6 v1 v3 v5 v7 hw v0 v8 v71 v74 v76)) := by
  unfold cc0__body_skel
  simp only [k0_part1_eq_skeleton, k0_part2_eq_skeleton, k0_part3_eq_skeleton, k0_part4_eq_skeleton, k0_part5_eq_skeleton]
  rfl

end Progs

/-- Reading a group's size at any offset that names it. -/
theorem rd_at {α : Type} (c : Dev nD) (arg1 : Memref sig .tc .smem S4 .i32) (fz : Buf (Elt F) (arg1.view.loc (c : Thread nD τ))) (e : Fin 4) {o : Fin 1 → Nat} (ho : o = semOff e) {h : ∀ a, o a + S1.size a ≤ S4.size a} {h1 h2}
    {K : Elt F .i32 → Prog (TpuEff nD τ sig (Elt F) Λ₀ .tc) α} {Q : α → sProp 𝕄} :
    iprop(szP c arg1 fz ∗ (szP c arg1 fz -∗ WP c (K (sizes c arg1 fz e)) Q))
      ⊢ WP c (smemLoad arg1 (Rect.unit (s := S4) o S1.size h) h1 h2 >>= K) Q := by
  subst ho
  iintro ⟨H, HK⟩
  unfold WP
  sl_exec
  iapply HK
  iexact H

section Specs
variable (c : Dev nD) (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (fz : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (fs : Buf (Elt F) (bM.view.loc (c : Thread nD τ)))
  (e : Fin 4)

set_option maxHeartbeats 2000000 in
/-- A tile of one group leaves that group's products. -/
theorem pure_spec {α : Type} (g : Fin 4 → BitVec 32) (he : (Words.cnt g (Words.row0 (t0 i))).toNat = e.val) {hw h10}
    {K : Prog (TpuEff nD τ sig (Elt F) Λ₀ .tc) α} {Q : α → sProp 𝕄} :
    iprop(slabP c e fs ∗ wsP c arg4 f4 ∗ xP c arg3 f3 ∗ xsP c arg2 f2 ∗ (∃ f, outP c arg6 f)
        ∗ (slabP c e fs -∗ wsP c arg4 f4 -∗ xP c arg3 f3 -∗ xsP c arg2 f2 -∗ outI c arg4 arg6 f4 fs e (xsc c arg2 f2 e) (xbl c arg3 f3) 10 -∗ WP c K Q))
      ⊢ WP c (pureTile i arg2 arg3 arg4 arg6 harg6 (g 0) (g 1) (g 2) (g 3) hw h10 K) Q := by
  unfold pureTile
  iintro ⟨HS, HW, HX, HZ, ⟨%f, HO⟩, HK⟩
  iapply (ldxs c arg2 f2 e (by exact congrArg (fun k => ![k]) he)); isplitl [HZ]; · iexact HZ
  iintro HZ
  iapply (ldx c arg3 f3); isplitl [HX]; · iexact HX
  iintro HX
  ihave HO : outI c arg4 arg6 f4 fs e (xsc c arg2 f2 e) (xbl c arg3 f3) ((0 : Fin 10).val) $$ [HO]
  · unfold outI
    iexists f
    isplitr [HO]
    · ipureintro
      intro m hm
      exact absurd hm (Nat.not_lt_zero _)
    iexact HO
  iapply (chunk_spec c arg4 arg6 harg6 f4 e 0 (by exact congrArg (fun k => ![k, 0, 0]) he) (by exact congrArg (fun k => ![k, 0]) he))
  isplitl [HS]; · iexact HS
  isplitl [HW]; · iexact HW
  isplitl [HO]; · iexact HO
  iintro HS HW HO
  iapply (chunk_spec c arg4 arg6 harg6 f4 e 1 (by exact congrArg (fun k => ![k, 0, 512]) he) (by exact congrArg (fun k => ![k, 512]) he))
  isplitl [HS]; · iexact HS
  isplitl [HW]; · iexact HW
  isplitl [HO]; · iexact HO
  iintro HS HW HO
  iapply (chunk_spec c arg4 arg6 harg6 f4 e 2 (by exact congrArg (fun k => ![k, 0, 1024]) he) (by exact congrArg (fun k => ![k, 1024]) he))
  isplitl [HS]; · iexact HS
  isplitl [HW]; · iexact HW
  isplitl [HO]; · iexact HO
  iintro HS HW HO
  iapply (chunk_spec c arg4 arg6 harg6 f4 e 3 (by exact congrArg (fun k => ![k, 0, 1536]) he) (by exact congrArg (fun k => ![k, 1536]) he))
  isplitl [HS]; · iexact HS
  isplitl [HW]; · iexact HW
  isplitl [HO]; · iexact HO
  iintro HS HW HO
  iapply (chunk_spec c arg4 arg6 harg6 f4 e 4 (by exact congrArg (fun k => ![k, 0, 2048]) he) (by exact congrArg (fun k => ![k, 2048]) he))
  isplitl [HS]; · iexact HS
  isplitl [HW]; · iexact HW
  isplitl [HO]; · iexact HO
  iintro HS HW HO
  iapply (chunk_spec c arg4 arg6 harg6 f4 e 5 (by exact congrArg (fun k => ![k, 0, 2560]) he) (by exact congrArg (fun k => ![k, 2560]) he))
  isplitl [HS]; · iexact HS
  isplitl [HW]; · iexact HW
  isplitl [HO]; · iexact HO
  iintro HS HW HO
  iapply (chunk_spec c arg4 arg6 harg6 f4 e 6 (by exact congrArg (fun k => ![k, 0, 3072]) he) (by exact congrArg (fun k => ![k, 3072]) he))
  isplitl [HS]; · iexact HS
  isplitl [HW]; · iexact HW
  isplitl [HO]; · iexact HO
  iintro HS HW HO
  iapply (chunk_spec c arg4 arg6 harg6 f4 e 7 (by exact congrArg (fun k => ![k, 0, 3584]) he) (by exact congrArg (fun k => ![k, 3584]) he))
  isplitl [HS]; · iexact HS
  isplitl [HW]; · iexact HW
  isplitl [HO]; · iexact HO
  iintro HS HW HO
  iapply (chunk_spec c arg4 arg6 harg6 f4 e 8 (by exact congrArg (fun k => ![k, 0, 4096]) he) (by exact congrArg (fun k => ![k, 4096]) he))
  isplitl [HS]; · iexact HS
  isplitl [HW]; · iexact HW
  isplitl [HO]; · iexact HO
  iintro HS HW HO
  iapply (chunk_spec c arg4 arg6 harg6 f4 e 9 (by exact congrArg (fun k => ![k, 0, 4608]) he) (by exact congrArg (fun k => ![k, 4608]) he))
  isplitl [HS]; · iexact HS
  isplitl [HW]; · iexact HW
  isplitl [HO]; · iexact HO
  iintro HS HW HO
  ihave HO : outI c arg4 arg6 f4 fs e (xsc c arg2 f2 e) (xbl c arg3 f3) 10 $$ [HO]
  · iexact HO
  iapply HK $$ HS HW HX HZ HO

/-- The first `n` blocks are `V` of what they held, the others as they were. -/
def midI (f0 : Buf (Elt F) (arg6.view.loc (c : Thread nD τ))) (V : Fin 10 → Vec F S512x512 .bf16 → Vec F S512x512 .bf16) (n : Nat) : sProp 𝕄 :=
  iprop(∃ f, ⌜∀ m : Fin 10, och c arg6 m f = if m.val < n then V m (och c arg6 m f0) else och c arg6 m f0⌝ ∗ outP c arg6 f)

set_option maxHeartbeats 2000000 in
/-- One block of a tile of several groups. -/
theorem trip2_spec (g : Fin 4 → BitVec 32) {hw h11} {k1} (he : (Scf.iv (Words.cnt g (Words.row0 (t0 i))) 1#32 k1.val).toNat = e.val)
    (v96 v100 v104 v108 : BitVec 32) (x : Elt F .f32) (xb : Vec F S512x1024 .bf16) (f0) (k2 : Fin k0_t2_loop.trips) :
    iprop(slabP c e fs ∗ wsP c arg4 f4 ∗ midI c arg6 f0 (fun m o => k0_pay4 i (Words.row0 (t0 i)) (g 0) (g 1) (g 2) (g 3) (Words.cnt g (Words.row0 (t0 i))) k1 v96 v100 v104 v108 x xb (wch c fs e m) (sch c arg4 f4 e m) o) k2.val)
      ⊢ WP c (k0_t2_body (F := F) i arg1 harg1 arg2 harg2 arg3 harg3 arg4 harg4 wM (Memref.isWhole_whole _) arg6 harg6 bM (Memref.isWhole_whole _) cc0_scratch1 (Words.row0 (t0 i)) (g 0) (g 1) (g 2) (g 3) hw (Words.cnt g (Words.row0 (t0 i))) h11 k1 v96 v100 v104 v108 x xb k2 ⟨⟩)
        (fun _ => iprop(slabP c e fs ∗ wsP c arg4 f4 ∗ midI c arg6 f0 (fun m o => k0_pay4 i (Words.row0 (t0 i)) (g 0) (g 1) (g 2) (g 3) (Words.cnt g (Words.row0 (t0 i))) k1 v96 v100 v104 v108 x xb (wch c fs e m) (sch c arg4 f4 e m) o) (k2.val + 1))) := by
  obtain ⟨n, rfl⟩ : ∃ n : Fin 10, k2 = toT n := ⟨⟨k2.val, k2.isLt⟩, rfl⟩
  have hn : (Scalar.muli (Scf.iv 0#32 1#32 n.val) 512#32).toNat = 512 * n.val := by revert n; decide
  unfold k0_t2_body midI
  iintro ⟨HS, HW, ⟨%f, %hf, HO⟩⟩
  iapply (ldw c e n (by exact congrArg₂ (fun k l => ![k, 0, l]) he hn)); isplitl [HS]; · iexact HS
  iintro HS
  iapply (lds c arg4 f4 e n (by exact congrArg₂ (fun k l => ![k, l]) he hn)); isplitl [HW]; · iexact HW
  iintro HW
  iapply (ldo c arg6 n (off25_eq n)); isplitl [HO]; · iexact HO
  iintro HO
  iapply (ldo c arg6 n (off25_eq n)); isplitl [HO]; · iexact HO
  iintro HO
  iapply (sto c arg6 n (off25_eq n)); isplitl [HO]; · iexact HO
  iintro %f' %hf' HO
  unfold WP
  sl_step
  isplitl [HS]; · iexact HS
  isplitl [HW]; · iexact HW
  iexists f'
  isplitr [HO]
  · ipureintro
    intro m
    by_cases hmn : m = n
    · subst hmn
      rw [hf'.1, hf m, if_neg (Nat.lt_irrefl _), if_pos (Nat.lt_succ_self _)]
    · have hv : m.val ≠ n.val := fun h => hmn (Fin.ext h)
      rw [hf'.2 m hmn, hf m]
      show (if m.val < n.val then _ else _) = if m.val < n.val + 1 then _ else _
      by_cases h : m.val < n.val
      · rw [if_pos h, if_pos (by omega)]
      · rw [if_neg h, if_neg (by omega)]
  iexact HO

end Specs

end Cert.KernelIdeal.Hand
end
-- ==== Proof.Ideal.Mixed.lean ====
/- A tile of several groups: the loop over its groups, and what it leaves. -/
module

public import proofs.«01_k».proof.Proof.Ideal.Tile

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

/-! ### One element of a block of several groups -/

section Elem
variable (i : grid0.Coords) (g : Fin 4 → BitVec 32) (hg : Words.Parts g) (e : Fin 4)

/-- The word the loop computes for its group's first row. -/
theorem start_word (a : BitVec 32) (ha : a = BitVec.ofNat 32 e.val) :
    Scalar.addi (Scalar.addi (Scalar.addi 0#32 (Scalar.select (Scalar.cmpi .sgt a 0#32) (g 0) 0#32)) (Scalar.select (Scalar.cmpi .sgt a 1#32) (g 1) 0#32)) (Scalar.select (Scalar.cmpi .sgt a 2#32) (g 2) 0#32)
      = Words.startW g e := by
  subst ha
  rcases Words.four e with rfl | rfl | rfl | rfl
  · rfl
  · show Scalar.addi (Scalar.addi (Words.end0 g) 0#32) 0#32 = Words.end0 g
    unfold Scalar.addi IntOp.addi; simp
  · show Scalar.addi (Words.end1 g) 0#32 = Words.end1 g
    unfold Scalar.addi IntOp.addi; simp
  · rfl

/-- Whether row `512 t + r` lies in group `e`, as the kernel's mask says it. -/
theorem mask_word (hg : Words.Parts g) {t : Nat} (ht : t < 24) {r : Nat} (hr : r < 512) :
    Scalar.andi (Scalar.cmpi .sge (Scalar.addi (Words.row0 t) (BitVec.ofNat 32 r)) (Words.startW g e))
        (Scalar.cmpi .slt (Scalar.addi (Words.row0 t) (BitVec.ofNat 32 r)) (Scalar.addi (Words.startW g e) (g e))) = 1#1
      ↔ Words.before g (512 * t + r) = e.val := by
  have h1 := Words.toNat_row0 ht; have h2 := Words.toNat_startW hg e; have h3 := Words.fin_le hg e; have h4 := hg.le e
  unfold Words.fin at h3
  have hw : (Scalar.addi (Words.row0 t) (BitVec.ofNat 32 r)).toNat = 512 * t + r := by
    have : (BitVec.ofNat 32 r).toNat = r := by rw [BitVec.toNat_ofNat]; omega
    rw [Words.toNat_addi] <;> rw [h1, this]; omega
  have hf : (Scalar.addi (Words.startW g e) (g e)).toNat = Words.start g e + (g e).toNat := by
    rw [Words.toNat_addi] <;> rw [h2]; omega
  rw [Words.sge_eq (by omega) (by omega), Words.slt_eq (by omega) (by omega), hw, h2, hf, Words.before_eq_iff hg (by omega) e]
  show IntOp.andi _ _ = 1#1 ↔ _
  rw [WordCmp.andi_ofBool, WordCmp.ofBool_eq_one_iff]
  simp [Words.fin]

set_option maxHeartbeats 1000000 in
/-- One element of a group's block: the group's product on the group's rows, what was there on the others. -/
theorem pay4_apply (hg : Words.Parts g) (k1) (hk : Scf.iv (Words.cnt g (Words.row0 (t0 i))) 1#32 k1.val = BitVec.ofNat 32 e.val)
    (x : Elt F .f32) (xb : Vec F S512x1024 .bf16) (w s) (o : Vec F S512x512 .bf16) (y : S512x512.Idx) :
    k0_pay4 i (Words.row0 (t0 i)) (g 0) (g 1) (g 2) (g 3) (Words.cnt g (Words.row0 (t0 i))) k1 (g 0) (g 1) (g 2) (g e) x xb w s o y
      = if Words.before g (512 * t0 i + (y 0).val) = e.val then k0_pay7 x xb w s y
        else FloatOps.truncf .bf16 bitsLt_bf16_f32 (FloatOps.extf .f32 bitsLt_bf16_f32 (o y)) := by
  have ht : t0 i < 24 := (i 0).isLt
  have hm := mask_word g e hg ht (y 0).isLt
  rw [← start_word g e _ hk] at hm
  have ho : shapeCast S512x512 o shapeCasts_S512x512_S512x512 y = o y := congrArg o (Shape.reshapeEquiv_self _ _)
  have hM : broadcastTo S512x512 (shapeCast S512x1 (andi (cmpi .sge (k0_pay3 (Words.row0 (t0 i))) (broadcast S512x1 (Scalar.addi (Scalar.addi (Scalar.addi 0#32 (Scalar.select (Scalar.cmpi .sgt (Scf.iv (Words.cnt g (Words.row0 (t0 i))) 1#32 k1.val) 0#32) (g 0) 0#32)) (Scalar.select (Scalar.cmpi .sgt (Scf.iv (Words.cnt g (Words.row0 (t0 i))) 1#32 k1.val) 1#32) (g 1) 0#32)) (Scalar.select (Scalar.cmpi .sgt (Scf.iv (Words.cnt g (Words.row0 (t0 i))) 1#32 k1.val) 2#32) (g 2) 0#32))))
      (cmpi .slt (k0_pay3 (Words.row0 (t0 i))) (broadcast S512x1 (Scalar.addi (Scalar.addi (Scalar.addi (Scalar.addi 0#32 (Scalar.select (Scalar.cmpi .sgt (Scf.iv (Words.cnt g (Words.row0 (t0 i))) 1#32 k1.val) 0#32) (g 0) 0#32)) (Scalar.select (Scalar.cmpi .sgt (Scf.iv (Words.cnt g (Words.row0 (t0 i))) 1#32 k1.val) 1#32) (g 1) 0#32)) (Scalar.select (Scalar.cmpi .sgt (Scf.iv (Words.cnt g (Words.row0 (t0 i))) 1#32 k1.val) 2#32) (g 2) 0#32)) (g e))))) shapeCasts_S512x1_S512x1) broadcasts_S512x1_S512x512 y = 1#1
      ↔ Words.before g (512 * t0 i + (y 0).val) = e.val := by
    rw [← hm]
    unfold broadcastTo shapeCast
    rw [Shape.reshapeEquiv_self]
    have hi : [(0 : Fin 2)].foldl (fun n a => n * S512x1.size a + (if a = 0 then (y 0).val else 0)) 0 = (y 0).val := by
      show 0 * 512 + (y 0).val = _; omega
    show IntOp.andi (IntOp.cmpi .sge (IntOp.addi (Words.row0 (t0 i)) (BitVec.ofNat 32 (0 * 512 + (y 0).val))) _) (IntOp.cmpi .slt (IntOp.addi (Words.row0 (t0 i)) (BitVec.ofNat 32 (0 * 512 + (y 0).val))) _) = 1#1 ↔ _
    rw [Nat.zero_mul, Nat.zero_add]
    exact Iff.rfl
  by_cases hb : Words.before g (512 * t0 i + (y 0).val) = e.val
  · rw [if_pos hb]
    exact congrArg (FloatOps.truncf .bf16 bitsLt_bf16_f32) (if_pos (hM.mpr hb))
  · rw [if_neg hb]
    refine congrArg (FloatOps.truncf .bf16 bitsLt_bf16_f32) (Eq.trans ?_ (congrArg (FloatOps.extf .f32 bitsLt_bf16_f32) ho))
    exact if_neg (fun h => hb (hM.mp h))

end Elem

section Specs
variable (c : Dev nD) (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (fz : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ))) (fs : Buf (Elt F) (bM.view.loc (c : Thread nD τ)))
  (e : Fin 4)

set_option maxHeartbeats 2000000 in
/-- One group of a tile of several. -/
theorem trip1_spec (k1) (he : (Scf.iv (Words.cnt (sizes c arg1 fz) (Words.row0 (t0 i))) 1#32 k1.val).toNat = e.val) {hw h11} {f0} {Q : PUnit → sProp 𝕄} :
    iprop(szP c arg1 fz ∗ slabP c e fs ∗ wsP c arg4 f4 ∗ xP c arg3 f3 ∗ xsP c arg2 f2 ∗ outP c arg6 f0
        ∗ (szP c arg1 fz -∗ slabP c e fs -∗ wsP c arg4 f4 -∗ xP c arg3 f3 -∗ xsP c arg2 f2
          -∗ midI c arg6 f0 (fun m o => k0_pay4 i (Words.row0 (t0 i)) (sizes c arg1 fz 0) (sizes c arg1 fz 1) (sizes c arg1 fz 2) (sizes c arg1 fz 3) (Words.cnt (sizes c arg1 fz) (Words.row0 (t0 i))) k1
              (sizes c arg1 fz 0) (sizes c arg1 fz 1) (sizes c arg1 fz 2) (sizes c arg1 fz e) (xsc c arg2 f2 e) (xbl c arg3 f3) (wch c fs e m) (sch c arg4 f4 e m) o) 10 -∗ Q ⟨⟩))
      ⊢ WP c (k0_t1_body (F := F) i arg1 harg1 arg2 harg2 arg3 harg3 arg4 harg4 wM (Memref.isWhole_whole _) arg6 harg6 bM (Memref.isWhole_whole _) cc0_scratch1 (Words.row0 (t0 i)) (sizes c arg1 fz 0) (sizes c arg1 fz 1) (sizes c arg1 fz 2) (sizes c arg1 fz 3) hw (Words.cnt (sizes c arg1 fz) (Words.row0 (t0 i))) h11 k1 ⟨⟩) Q := by
  unfold k0_t1_body
  iintro ⟨HZ, HS, HW, HX, HXS, HO, HK⟩
  iapply (rd_at c arg1 fz 0 rfl); isplitl [HZ]; · iexact HZ
  iintro HZ
  iapply (rd_at c arg1 fz 1 rfl); isplitl [HZ]; · iexact HZ
  iintro HZ
  iapply (rd_at c arg1 fz 2 rfl); isplitl [HZ]; · iexact HZ
  iintro HZ
  iapply (rd_at c arg1 fz e (by exact congrArg (fun k => ![k]) he)); isplitl [HZ]; · iexact HZ
  iintro HZ
  iapply (ldxs c arg2 f2 e (by exact congrArg (fun k => ![k]) he)); isplitl [HXS]; · iexact HXS
  iintro HXS
  iapply (ldx c arg3 f3); isplitl [HX]; · iexact HX
  iintro HX
  unfold WP
  iapply (Scf.wp_for_bind frame (wpE (defs₀ (F := F)) 𝒱₀ (c : Thread nD τ) none) Set.univ k0_t2_loop.lb k0_t2_loop.ub k0_t2_loop.st k0_t2_ok PUnit.unit _
    (fun n _ => iprop(slabP c e fs ∗ wsP c arg4 f4 ∗ midI c arg6 f0 (fun m o => k0_pay4 i (Words.row0 (t0 i)) (sizes c arg1 fz 0) (sizes c arg1 fz 1) (sizes c arg1 fz 2) (sizes c arg1 fz 3) (Words.cnt (sizes c arg1 fz) (Words.row0 (t0 i))) k1 (sizes c arg1 fz 0) (sizes c arg1 fz 1) (sizes c arg1 fz 2) (sizes c arg1 fz e) (xsc c arg2 f2 e) (xbl c arg3 f3) (wch c fs e m) (sch c arg4 f4 e m) o) n))
    (fun k2 _ => trip2_spec c i arg1 harg1 arg2 harg2 arg3 harg3 arg4 harg4 arg6 harg6 f4 fs e (sizes c arg1 fz) he (sizes c arg1 fz 0) (sizes c arg1 fz 1) (sizes c arg1 fz 2) (sizes c arg1 fz e) (xsc c arg2 f2 e) (xbl c arg3 f3) f0 k2)) $$ [HS HW HO]
  · isplitl [HS]; · iexact HS
    isplitl [HW]; · iexact HW
    unfold midI
    iexists f0
    isplitr [HO]
    · ipureintro
      intro m
      rw [if_neg (Nat.not_lt_zero _)]
    iexact HO
  rw [show Scf.trips k0_t2_loop.lb k0_t2_loop.ub k0_t2_loop.st = 10 from trips2]
  iintro %acc ⟨HS, HW, HO⟩
  sl_step
  iapply HK $$ HZ HS HW HX HXS HO

end Specs

end Cert.KernelIdeal.Hand
end
-- ==== Proof.Ideal.Body.lean ====
/- One grid point's body: every row of the tile ends up with its own group's product. -/
module

public import proofs.«01_k».proof.Proof.Ideal.Mixed

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

/-- Rounding a widened bf16 value back to bf16 gives the value. -/
def Law (F : FTy → Type) [FloatOps F] : Prop :=
  ∀ x : F .bf16, FloatOps.truncf .bf16 bitsLt_bf16_f32 (FloatOps.extf .f32 bitsLt_bf16_f32 x) = x

section Chk
variable (i : grid0.Coords) (g : Fin 4 → BitVec 32)

theorem inb1_of {e : Fin 4} {o : Fin 1 → Nat} (h : o = semOff e) : ∀ a, o a + S1.size a ≤ S4.size a := by subst h; exact semOff_inb e
theorem inb7_of {e : Fin 4} (n : Fin 10) {o : Fin 3 → Nat} (h : o = wOff e n) : ∀ a, o a + S1x1024x512.size a ≤ S4x1024x5120.size a := by subst h; exact wOff_inb e n
theorem inb4_of {e : Fin 4} (n : Fin 10) {o : Fin 2 → Nat} (h : o = sOff e n) : ∀ a, o a + S1x512.size a ≤ S4x5120.size a := by subst h; exact sOff_inb e n

/-- Trip `k` of the loop over groups is at a group's number. -/
theorem group_of {g : Fin 4 → BitVec 32} (hg : Words.Parts g) {t : Nat} (ht : t < 24) {k : Nat} (hk : k < Words.lst g t + 1 - Words.fst g t) :
    ∃ e : Fin 4, e.val = Words.fst g t + k ∧ Scf.iv (Words.cnt g (Words.row0 t)) 1#32 k = BitVec.ofNat 32 e.val
      ∧ (Scf.iv (Words.cnt g (Words.row0 t)) 1#32 k).toNat = e.val := by
  have h1 := Words.lst_le hg ht
  refine ⟨⟨Words.fst g t + k, by omega⟩, rfl, Words.iv_eq hg ht k hk, ?_⟩
  rw [Words.iv_eq hg ht k hk, BitVec.toNat_ofNat]
  show (Words.fst g t + k) % 2 ^ 32 = Words.fst g t + k
  omega

set_option maxRecDepth 65536 in
set_option maxHeartbeats 4000000 in
/-- Sizes that share out the rows keep every access the kernel makes by group number inside its array. -/
theorem chk_of (hg : Words.Parts g) : k0_chk1 i (g 0) (g 1) (g 2) (g 3) := by
  have ht : t0 i < 24 := (i 0).isLt
  obtain ⟨e, he⟩ : ∃ e : Fin 4, (Words.cnt g (Words.row0 (t0 i))).toNat = e.val :=
    ⟨⟨Words.fst g (t0 i), by have := Words.fst_le hg ht; omega⟩, Words.first_toNat hg ht⟩
  have trip : ∀ k1 : Fin (k0_t1_loop i (g 0) (g 1) (g 2) (g 3)).trips, ∃ e : Fin 4, (Scf.iv (Words.cnt g (Words.row0 (t0 i))) 1#32 k1.val).toNat = e.val := fun k1 => by
    obtain ⟨e, -, -, h⟩ := group_of hg ht (k := k1.val) (lt_of_lt_of_eq k1.isLt (Words.trips_eq hg ht))
    exact ⟨e, h⟩
  have col : ∀ n : Fin 10, (Scalar.muli (Scf.iv 0#32 1#32 n.val) 512#32).toNat = 512 * n.val := by decide
  have no : ∀ k : Fin (k0_t3_loop i (g 0) (g 1) (g 2) (g 3)).trips, False := fun k => Scf.rem_no_trip _ _ k
  have inb1 := inb1_of (e := e) (o := k0_off1 i (g 0) (g 1) (g 2) (g 3)) (by exact congrArg (fun k => ![k]) he)
  have w7 := fun (n : Fin 10) {o : Fin 3 → Nat} (h : o = wOff e n) => inb7_of n h
  have w4 := fun (n : Fin 10) {o : Fin 2 → Nat} (h : o = sOff e n) => inb4_of n h
  refine ⟨fun _ => inb1, fun _ => w7 0 (by exact congrArg (fun k => ![k, 0, 0]) he), fun _ => w4 0 (by exact congrArg (fun k => ![k, 0]) he),
    fun _ => w7 1 (by exact congrArg (fun k => ![k, 0, 512]) he), fun _ => w4 1 (by exact congrArg (fun k => ![k, 512]) he),
    fun _ => w7 2 (by exact congrArg (fun k => ![k, 0, 1024]) he), fun _ => w4 2 (by exact congrArg (fun k => ![k, 1024]) he),
    fun _ => w7 3 (by exact congrArg (fun k => ![k, 0, 1536]) he), fun _ => w4 3 (by exact congrArg (fun k => ![k, 1536]) he),
    fun _ => w7 4 (by exact congrArg (fun k => ![k, 0, 2048]) he), fun _ => w4 4 (by exact congrArg (fun k => ![k, 2048]) he),
    fun _ => w7 5 (by exact congrArg (fun k => ![k, 0, 2560]) he), fun _ => w4 5 (by exact congrArg (fun k => ![k, 2560]) he),
    fun _ => w7 6 (by exact congrArg (fun k => ![k, 0, 3072]) he), fun _ => w4 6 (by exact congrArg (fun k => ![k, 3072]) he),
    fun _ => w7 7 (by exact congrArg (fun k => ![k, 0, 3584]) he), fun _ => w4 7 (by exact congrArg (fun k => ![k, 3584]) he),
    fun _ => w7 8 (by exact congrArg (fun k => ![k, 0, 4096]) he), fun _ => w4 8 (by exact congrArg (fun k => ![k, 4096]) he),
    fun _ => w7 9 (by exact congrArg (fun k => ![k, 0, 4608]) he), fun _ => w4 9 (by exact congrArg (fun k => ![k, 4608]) he),
    fun _ => Words.loop_ok hg ht, fun k1 _ => ?_, fun k1 k2 _ => ?_, fun k1 k2 _ => ?_, fun _ => Scf.rem_ok _ _,
    fun k _ => (no k).elim, fun k _ _ => (no k).elim, fun k _ _ => (no k).elim⟩
  · obtain ⟨e', h⟩ := trip k1
    exact inb1_of (e := e') (by exact congrArg (fun k => ![k]) h)
  · obtain ⟨e', h⟩ := trip k1
    exact inb7_of (e := e') ⟨k2.val, k2.isLt⟩ (by exact congrArg₂ (fun k l => ![k, 0, l]) h (col ⟨k2.val, k2.isLt⟩))
  · obtain ⟨e', h⟩ := trip k1
    exact inb4_of (e := e') ⟨k2.val, k2.isLt⟩ (by exact congrArg₂ (fun k l => ![k, l]) h (col ⟨k2.val, k2.isLt⟩))
end Chk

section Slabs
variable (c : Dev nD) (XA : Buf (Elt F) (wM.view.loc (c : Thread nD τ))) (g : Fin 4 → BitVec 32)

/-- The four groups' weights once the waits before point `k` are done. -/
abbrev allP (k : Nat) : sProp 𝕄 := iprop(midP c XA g k 0 ∗ midP c XA g k 1 ∗ midP c XA g k 2 ∗ midP c XA g k 3)

/-- A group of the tile that has rows has its weights in its slab; one without has a slab of its own. -/
theorem slab_acc {e : Fin 4} {t : Nat} (he : Words.start g e ≤ 512 * t + 511) :
    midP c XA g (t + 1) e ⊢ iprop(∃ fs, ⌜0 < (g e).toNat → fs = asBuf c XA⌝ ∗ slabP c e fs ∗ (slabP c e fs -∗ midP c XA g (t + 1) e)) := by
  unfold midP
  by_cases h : 0 < (g e).toNat
  · rw [if_pos h, if_neg (by omega)]
    iintro ⟨Hc, Hs, Hh⟩
    iexists (asBuf c XA)
    isplitr [Hs Hc Hh]; · ipureintro; exact fun _ => rfl
    isplitl [Hs]; · iexact Hs
    iintro Hs
    isplitl [Hc]; · iexact Hc
    isplitl [Hs]; · iexact Hs
    iexact Hh
  · rw [if_neg h]
    iintro ⟨Hc, ⟨%f, Hs⟩, Hh⟩
    iexists f
    isplitr [Hs Hc Hh]; · ipureintro; exact fun h' => absurd h' h
    isplitl [Hs]; · iexact Hs
    iintro Hs
    isplitl [Hc]; · iexact Hc
    isplitl [Hs]; · iexists f; iexact Hs
    iexact Hh

/-- One group out of the four, and back. -/
theorem all_acc (e : Fin 4) (k : Nat) : allP c XA g k ⊢ iprop(midP c XA g k e ∗ (midP c XA g k e -∗ allP c XA g k)) := by
  rcases Words.four e with rfl | rfl | rfl | rfl <;>
  · iintro ⟨H0, H1, H2, H3⟩
    first
      | (isplitl [H0]; · iexact H0)
        iintro H0
        isplitl [H0]; · iexact H0
        isplitl [H1]; · iexact H1
        isplitl [H2]; · iexact H2
        iexact H3
      | (isplitl [H1]; · iexact H1)
        iintro H1
        isplitl [H0]; · iexact H0
        isplitl [H1]; · iexact H1
        isplitl [H2]; · iexact H2
        iexact H3
      | (isplitl [H2]; · iexact H2)
        iintro H2
        isplitl [H0]; · iexact H0
        isplitl [H1]; · iexact H1
        isplitl [H2]; · iexact H2
        iexact H3
      | (isplitl [H3]; · iexact H3)
        iintro H3
        isplitl [H0]; · iexact H0
        isplitl [H1]; · iexact H1
        isplitl [H2]; · iexact H2
        iexact H3

/-- A tile's group, its slab, and back. -/
theorem tile_acc {e : Fin 4} {t : Nat} (he : e.val ≤ Words.lst g t) :
    allP c XA g (t + 1) ⊢ iprop(∃ fs, ⌜0 < (g e).toNat → fs = asBuf c XA⌝ ∗ slabP c e fs ∗ (slabP c e fs -∗ allP c XA g (t + 1))) := by
  iintro H
  icases (all_acc c XA g e (t + 1)) $$ H with ⟨H, HB⟩
  icases (slab_acc c XA g (Words.start_lt_of_le_before e he)) $$ H with ⟨%fs, %h, HS, HB'⟩
  iexists fs
  isplitr [HS HB HB']; · ipureintro; exact h
  isplitl [HS]; · iexact HS
  iintro HS
  iapply HB
  iapply HB' $$ HS

/-- A group that holds a row has rows. -/
theorem pos_of_before (hg : Words.Parts g) {r : Nat} (hr : r < 12288) {e : Fin 4} (h : Words.before g r = e.val) : 0 < (g e).toNat := by
  have := (Words.before_eq_iff hg hr e).mp h
  unfold Words.fin at this; omega
end Slabs

section Body
variable (c : Dev nD) (XA : Buf (Elt F) (wM.view.loc (c : Thread nD τ))) (i : grid0.Coords)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)
  (fz : Buf (Elt F) (arg1.view.loc (c : Thread nD τ)))
  (f2 : Buf (Elt F) (arg2.view.loc (c : Thread nD τ))) (f3 : Buf (Elt F) (arg3.view.loc (c : Thread nD τ)))
  (f4 : Buf (Elt F) (arg4.view.loc (c : Thread nD τ)))

/-- The rows of groups below `b` hold their own group's products. -/
def Done (b : Nat) (f : Buf (Elt F) (arg6.view.loc (c : Thread nD τ))) : Prop :=
  Law F → ∀ (m : Fin 10) (y : S512x512.Idx) (e : Fin 4), Words.before (sizes c arg1 fz) (512 * t0 i + (y 0).val) = e.val → e.val < b →
    och c arg6 m f y = k0_pay7 (xsc c arg2 f2 e) (xbl c arg3 f3) (wch c (asBuf c XA) e m) (sch c arg4 f4 e m) y
abbrev doneP (b : Nat) : sProp 𝕄 := iprop(∃ f, ⌜Done c XA i arg1 arg2 arg3 arg4 arg6 fz f2 f3 f4 b f⌝ ∗ outP c arg6 f)

/-- All the body holds but the output's block. -/
abbrev restP : sProp 𝕄 := iprop(szP c arg1 fz ∗ wsP c arg4 f4 ∗ xP c arg3 f3 ∗ xsP c arg2 f2 ∗ allP c XA (sizes c arg1 fz) (t0 i + 1))

variable (hg : Words.Parts (sizes c arg1 fz))
include hg

set_option maxHeartbeats 2000000 in
/-- One trip of the loop over groups: its group's rows are done too. -/
theorem group_step {hw h11} (k1 : Fin (k0_t1_loop i ((sizes c arg1 fz) 0) ((sizes c arg1 fz) 1) ((sizes c arg1 fz) 2) ((sizes c arg1 fz) 3)).trips) :
    iprop(restP c XA i arg1 arg2 arg3 arg4 fz f2 f3 f4 ∗ doneP c XA i arg1 arg2 arg3 arg4 arg6 fz f2 f3 f4 (Words.fst (sizes c arg1 fz) (t0 i) + k1.val))
      ⊢ WP c (k0_t1_body (F := F) i arg1 harg1 arg2 harg2 arg3 harg3 arg4 harg4 wM (Memref.isWhole_whole _) arg6 harg6 bM (Memref.isWhole_whole _) cc0_scratch1 (Words.row0 (t0 i)) ((sizes c arg1 fz) 0) ((sizes c arg1 fz) 1) ((sizes c arg1 fz) 2) ((sizes c arg1 fz) 3) hw (Words.cnt (sizes c arg1 fz) (Words.row0 (t0 i))) h11 k1 ⟨⟩)
        (fun _ => iprop(restP c XA i arg1 arg2 arg3 arg4 fz f2 f3 f4 ∗ doneP c XA i arg1 arg2 arg3 arg4 arg6 fz f2 f3 f4 (Words.fst (sizes c arg1 fz) (t0 i) + (k1.val + 1)))) := by
  have ht : t0 i < 24 := (i 0).isLt
  have hk : k1.val < Words.lst (sizes c arg1 fz) (t0 i) + 1 - Words.fst (sizes c arg1 fz) (t0 i) := lt_of_lt_of_eq k1.isLt (Words.trips_eq hg ht)
  obtain ⟨e, hev, hiv, he⟩ := group_of hg ht hk
  iintro ⟨⟨HZ, HW, HX, HXS, HA⟩, ⟨%f0, %hd, HO⟩⟩
  icases (tile_acc c XA (sizes c arg1 fz) (e := e) (t := t0 i) (by omega)) $$ HA with ⟨%fs, %hfs, HS, HB⟩
  iapply (trip1_spec c i arg1 harg1 arg2 harg2 arg3 harg3 arg4 harg4 arg6 harg6 fz f2 f3 f4 fs e k1 he)
  isplitl [HZ]; · iexact HZ
  isplitl [HS]; · iexact HS
  isplitl [HW]; · iexact HW
  isplitl [HX]; · iexact HX
  isplitl [HXS]; · iexact HXS
  isplitl [HO]; · iexact HO
  unfold midI
  iintro HZ HS HW HX HXS ⟨%f, %hf, HO⟩
  isplitr [HO]
  · isplitl [HZ]; · iexact HZ
    isplitl [HW]; · iexact HW
    isplitl [HX]; · iexact HX
    isplitl [HXS]; · iexact HXS
    iapply HB $$ HS
  iexists f
  isplitr [HO]
  · ipureintro
    intro law m y e' hy hlt
    refine (congrFun ((hf m).trans (if_pos m.isLt)) y).trans ((pay4_apply i (sizes c arg1 fz) e hg k1 hiv _ _ _ _ _ _).trans ?_)
    have hrow : 512 * t0 i + (y 0).val < 12288 := by have : (y 0).val < 512 := (y 0).isLt; omega
    by_cases hb : Words.before (sizes c arg1 fz) (512 * t0 i + (y 0).val) = e.val
    · have hee : e = e' := Fin.ext (hb.symm.trans hy)
      subst hee
      rw [if_pos hb, hfs (pos_of_before (sizes c arg1 fz) hg hrow hb)]
    · rw [if_neg hb, law]
      exact hd law m y e' hy (by
        have : e'.val ≠ e.val := fun h => hb (hy.trans h)
        omega)
  iexact HO

set_option maxHeartbeats 2000000 in
/-- A tile of several groups. -/
theorem mixed_spec {hw h11 v8 v71 v76} {Q : PUnit → sProp 𝕄} :
    iprop(restP c XA i arg1 arg2 arg3 arg4 fz f2 f3 f4 ∗ (∃ f, outP c arg6 f)
        ∗ (restP c XA i arg1 arg2 arg3 arg4 fz f2 f3 f4 -∗ doneP c XA i arg1 arg2 arg3 arg4 arg6 fz f2 f3 f4 4 -∗ Q ⟨⟩))
      ⊢ WP c (mixedTile i arg1 harg1 arg2 harg2 arg3 harg3 arg4 harg4 arg6 harg6 ((sizes c arg1 fz) 0) ((sizes c arg1 fz) 1) ((sizes c arg1 fz) 2) ((sizes c arg1 fz) 3) hw (Words.row0 (t0 i)) v8 v71 (Words.cnt (sizes c arg1 fz) (Words.row0 (t0 i))) v76 h11) Q := by
  have ht : t0 i < 24 := (i 0).isLt
  have hl := Words.fst_le_lst (g := (sizes c arg1 fz)) (t := t0 i)
  unfold mixedTile
  iintro ⟨HR, ⟨%f, HO⟩, HK⟩
  unfold WP
  iapply (Scf.wp_for_bind frame (wpE (defs₀ (F := F)) 𝒱₀ (c : Thread nD τ) none) Set.univ (k0_t1_loop i ((sizes c arg1 fz) 0) ((sizes c arg1 fz) 1) ((sizes c arg1 fz) 2) ((sizes c arg1 fz) 3)).lb (k0_t1_loop i ((sizes c arg1 fz) 0) ((sizes c arg1 fz) 1) ((sizes c arg1 fz) 2) ((sizes c arg1 fz) 3)).ub (k0_t1_loop i ((sizes c arg1 fz) 0) ((sizes c arg1 fz) 1) ((sizes c arg1 fz) 2) ((sizes c arg1 fz) 3)).st (k0_t1_ok i ((sizes c arg1 fz) 0) ((sizes c arg1 fz) 1) ((sizes c arg1 fz) 2) ((sizes c arg1 fz) 3) hw h11) PUnit.unit _
    (fun n _ => iprop(restP c XA i arg1 arg2 arg3 arg4 fz f2 f3 f4 ∗ doneP c XA i arg1 arg2 arg3 arg4 arg6 fz f2 f3 f4 (Words.fst (sizes c arg1 fz) (t0 i) + n)))
    (fun k1 _ => group_step c XA i arg1 harg1 arg2 harg2 arg3 harg3 arg4 harg4 arg6 harg6 fz f2 f3 f4 hg k1)) $$ [HR HO]
  · isplitl [HR]; · iexact HR
    iexists f
    isplitr [HO]
    · ipureintro
      intro law m y e hy hlt
      have := Words.before_mono (sizes c arg1 fz) (show 512 * t0 i ≤ 512 * t0 i + (y 0).val by omega)
      unfold Words.fst at hlt
      omega
    iexact HO
  iintro %acc ⟨HR, HD⟩
  iapply (Scf.wp_for0_bind' frame (wpE (defs₀ (F := F)) 𝒱₀ (c : Thread nD τ) none) Set.univ (k0_t3_loop i ((sizes c arg1 fz) 0) ((sizes c arg1 fz) 1) ((sizes c arg1 fz) 2) ((sizes c arg1 fz) 3)).lb (k0_t3_loop i ((sizes c arg1 fz) 0) ((sizes c arg1 fz) 1) ((sizes c arg1 fz) 2) ((sizes c arg1 fz) 3)).ub (k0_t3_loop i ((sizes c arg1 fz) 0) ((sizes c arg1 fz) 1) ((sizes c arg1 fz) 2) ((sizes c arg1 fz) 3)).st (k0_t3_ok i ((sizes c arg1 fz) 0) ((sizes c arg1 fz) 1) ((sizes c arg1 fz) 2) ((sizes c arg1 fz) 3) hw h11) PUnit.unit _ (Scf.rem_trips _ _) _ _ _ (BIBase.Entails.refl))
  sl_step
  iapply HK $$ HR
  icases HD with ⟨%f', %hd, HO⟩
  iexists f'
  isplitr [HO]
  · ipureintro
    intro law m y e hy hlt
    refine hd law m y e hy ?_
    have hrow : (y 0).val < 512 := (y 0).isLt
    have h1 := Words.before_mono (sizes c arg1 fz) (show 512 * t0 i + (y 0).val ≤ 512 * t0 i + 511 by omega)
    have h2 : Scf.trips (k0_t1_loop i ((sizes c arg1 fz) 0) ((sizes c arg1 fz) 1) ((sizes c arg1 fz) 2) ((sizes c arg1 fz) 3)).lb (k0_t1_loop i ((sizes c arg1 fz) 0) ((sizes c arg1 fz) 1) ((sizes c arg1 fz) 2) ((sizes c arg1 fz) 3)).ub (k0_t1_loop i ((sizes c arg1 fz) 0) ((sizes c arg1 fz) 1) ((sizes c arg1 fz) 2) ((sizes c arg1 fz) 3)).st = Words.lst (sizes c arg1 fz) (t0 i) + 1 - Words.fst (sizes c arg1 fz) (t0 i) := Words.trips_eq hg ht
    rw [h2]
    unfold Words.lst Words.fst at *
    omega
  iexact HO

set_option maxHeartbeats 2000000 in
/-- The second form under its condition. -/
theorem mixedIf_spec {hw v8 v71 v76} {Q : PUnit → sProp 𝕄} (hne : Words.fst (sizes c arg1 fz) (t0 i) ≠ Words.lst (sizes c arg1 fz) (t0 i)) :
    iprop(restP c XA i arg1 arg2 arg3 arg4 fz f2 f3 f4 ∗ (∃ f, outP c arg6 f)
        ∗ (restP c XA i arg1 arg2 arg3 arg4 fz f2 f3 f4 -∗ doneP c XA i arg1 arg2 arg3 arg4 arg6 fz f2 f3 f4 4 -∗ Q ⟨⟩))
      ⊢ WP c (mixedIf i arg1 harg1 arg2 harg2 arg3 harg3 arg4 harg4 arg6 harg6 ((sizes c arg1 fz) 0) ((sizes c arg1 fz) 1) ((sizes c arg1 fz) 2) ((sizes c arg1 fz) 3) hw (Words.row0 (t0 i)) v8 v71 (Words.cnt (sizes c arg1 fz) (Words.row0 (t0 i))) v76) Q := by
  have ht : t0 i < 24 := (i 0).isLt
  have h11 : k0_cond11 i ((sizes c arg1 fz) 0) ((sizes c arg1 fz) 1) ((sizes c arg1 fz) 2) ((sizes c arg1 fz) 3) = 1#1 := (Words.mixed_iff hg ht).mpr hne
  unfold mixedIf
  rw [dif_pos h11]
  exact mixed_spec c XA i arg1 harg1 arg2 harg2 arg3 harg3 arg4 harg4 arg6 harg6 fz f2 f3 f4 hg

set_option maxHeartbeats 2000000 in
/-- Both forms under their conditions. -/
theorem tile_spec {hw v8 v71 v76} {Q : PUnit → sProp 𝕄} :
    iprop(restP c XA i arg1 arg2 arg3 arg4 fz f2 f3 f4 ∗ (∃ f, outP c arg6 f)
        ∗ (restP c XA i arg1 arg2 arg3 arg4 fz f2 f3 f4 -∗ doneP c XA i arg1 arg2 arg3 arg4 arg6 fz f2 f3 f4 4 -∗ Q ⟨⟩))
      ⊢ WP c (pureIf i arg2 arg3 arg4 arg6 harg6 ((sizes c arg1 fz) 0) ((sizes c arg1 fz) 1) ((sizes c arg1 fz) 2) ((sizes c arg1 fz) 3) hw (mixedIf i arg1 harg1 arg2 harg2 arg3 harg3 arg4 harg4 arg6 harg6 ((sizes c arg1 fz) 0) ((sizes c arg1 fz) 1) ((sizes c arg1 fz) 2) ((sizes c arg1 fz) 3) hw (Words.row0 (t0 i)) v8 v71 (Words.cnt (sizes c arg1 fz) (Words.row0 (t0 i))) v76)) Q := by
  have ht : t0 i < 24 := (i 0).isLt
  unfold pureIf
  by_cases heq : Words.fst (sizes c arg1 fz) (t0 i) = Words.lst (sizes c arg1 fz) (t0 i)
  · have h10 : k0_cond10 i ((sizes c arg1 fz) 0) ((sizes c arg1 fz) 1) ((sizes c arg1 fz) 2) ((sizes c arg1 fz) 3) = 1#1 := (Words.pure_iff hg ht).mpr heq
    have h11 : ¬ k0_cond11 i ((sizes c arg1 fz) 0) ((sizes c arg1 fz) 1) ((sizes c arg1 fz) 2) ((sizes c arg1 fz) 3) = 1#1 := fun h => (Words.mixed_iff hg ht).mp h heq
    rw [dif_pos h10]
    have h3 := Words.fst_le hg ht
    obtain ⟨e, hev⟩ : ∃ e : Fin 4, e.val = Words.fst (sizes c arg1 fz) (t0 i) := ⟨⟨Words.fst (sizes c arg1 fz) (t0 i), by omega⟩, rfl⟩
    have he : (Words.cnt (sizes c arg1 fz) (Words.row0 (t0 i))).toNat = e.val := (Words.first_toNat hg ht).trans hev.symm
    iintro ⟨⟨HZ, HW, HX, HXS, HA⟩, HO, HK⟩
    icases (tile_acc c XA (sizes c arg1 fz) (e := e) (t := t0 i) (by omega)) $$ HA with ⟨%fs, %hfs, HS, HB⟩
    iapply (pure_spec c i arg2 arg3 arg4 arg6 harg6 f2 f3 f4 fs e (sizes c arg1 fz) he)
    isplitl [HS]; · iexact HS
    isplitl [HW]; · iexact HW
    isplitl [HX]; · iexact HX
    isplitl [HXS]; · iexact HXS
    isplitl [HO]; · iexact HO
    unfold outI
    iintro HS HW HX HXS ⟨%f, %hf, HO⟩
    unfold mixedIf
    rw [dif_neg h11]
    unfold WP
    sl_step
    ihave HA : allP c XA (sizes c arg1 fz) (t0 i + 1) $$ [HB HS]
    · iapply HB $$ HS
    ihave HR : restP c XA i arg1 arg2 arg3 arg4 fz f2 f3 f4 $$ [HZ HW HX HXS HA]
    · isplitl [HZ]; · iexact HZ
      isplitl [HW]; · iexact HW
      isplitl [HX]; · iexact HX
      isplitl [HXS]; · iexact HXS
      iexact HA
    iapply HK $$ HR
    iexists f
    isplitr [HO]
    · ipureintro
      intro law m y e' hy hlt
      have hrow : (y 0).val < 512 := (y 0).isLt
      have h1 := Words.before_mono (sizes c arg1 fz) (show 512 * t0 i + (y 0).val ≤ 512 * t0 i + 511 by omega)
      have h2 := Words.before_mono (sizes c arg1 fz) (show 512 * t0 i ≤ 512 * t0 i + (y 0).val by omega)
      have hb : Words.before (sizes c arg1 fz) (512 * t0 i + (y 0).val) = e.val := by
        unfold Words.fst Words.lst at *; omega
      have hee : e = e' := Fin.ext (hb.symm.trans hy)
      subst hee
      rw [hf m m.isLt, hfs (pos_of_before (sizes c arg1 fz) hg (by omega) hb)]
    iexact HO
  · have h10 : ¬ k0_cond10 i ((sizes c arg1 fz) 0) ((sizes c arg1 fz) 1) ((sizes c arg1 fz) 2) ((sizes c arg1 fz) 3) = 1#1 := fun h => heq ((Words.pure_iff hg ht).mp h)
    rw [dif_neg h10]
    exact mixedIf_spec c XA i arg1 harg1 arg2 harg2 arg3 harg3 arg4 harg4 arg6 harg6 fz f2 f3 f4 hg heq

set_option maxHeartbeats 2000000 in
/-- The body at one grid point: the waits of the point are done, and the tile's rows hold their groups' products. -/
theorem body_spec {Q : PUnit → sProp 𝕄} :
    iprop(szP c arg1 fz ∗ owesP c ∗ stateP c XA (sizes c arg1 fz) (t0 i) 0 ∗ stateP c XA (sizes c arg1 fz) (t0 i) 1 ∗ stateP c XA (sizes c arg1 fz) (t0 i) 2 ∗ stateP c XA (sizes c arg1 fz) (t0 i) 3
        ∗ wsP c arg4 f4 ∗ xP c arg3 f3 ∗ xsP c arg2 f2 ∗ (∃ f, outP c arg6 f)
        ∗ (owesP c -∗ restP c XA i arg1 arg2 arg3 arg4 fz f2 f3 f4 -∗ doneP c XA i arg1 arg2 arg3 arg4 arg6 fz f2 f3 f4 4 -∗ Q ⟨⟩))
      ⊢ WP c (cc0__body_skel (F := F) i arg1 harg1 arg2 harg2 arg3 harg3 arg4 harg4 wM (Memref.isWhole_whole _) arg6 harg6 bM (Memref.isWhole_whole _) cc0_scratch1) Q := by
  rw [body_eq]
  iintro ⟨HZ, HE, H0, H1, H2, H3, HW, HX, HXS, HO, HK⟩
  unfold WP
  rw [wp_bind]
  iapply (part4_spec c XA i arg1 harg1 arg2 harg2 arg3 harg3 arg4 harg4 arg6 harg6 fz hg (chk_of i (sizes c arg1 fz) hg))
  isplitl [HZ]; · iexact HZ
  isplitl [HE]; · iexact HE
  isplitl [H0]; · iexact H0
  isplitl [H1]; · iexact H1
  isplitl [H2]; · iexact H2
  isplitl [H3]; · iexact H3
  iintro HZ HE H0 H1 H2 H3
  rw [wp_bind]
  iapply (part5_spec c XA i arg1 harg1 arg2 harg2 arg3 harg3 arg4 harg4 arg6 harg6 fz hg)
  isplitl [HZ]; · iexact HZ
  isplitl [HE]; · iexact HE
  isplitl [H2]; · iexact H2
  isplitl [H3]; · iexact H3
  iintro HZ HE H2 H3
  iapply (tile_spec c XA i arg1 harg1 arg2 harg2 arg3 harg3 arg4 harg4 arg6 harg6 fz f2 f3 f4 hg)
  isplitr [HO HE HK]
  · isplitl [HZ]; · iexact HZ
    isplitl [HW]; · iexact HW
    isplitl [HX]; · iexact HX
    isplitl [HXS]; · iexact HXS
    isplitl [H0]; · iexact H0
    isplitl [H1]; · iexact H1
    isplitl [H2]; · iexact H2
    iexact H3
  isplitl [HO]; · iexact HO
  iapply HK $$ HE

end Body

end Cert.KernelIdeal.Hand
end
-- ==== Proof.Ideal.Launch.lean ====
/- The launch: what the pipeline's windows hold at each point, the body's obligation, how the scratch buffer, the weights
   and the four cells are handed to the grid and taken back, and the run that follows. -/
module

public import proofs.«01_k».proof.Proof.Ideal.Body
public import proofs.«01_k».proof.Proof.Gen.KernelIdeal.Frame

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (Pipeline.UD sig nD τ) ℕ

/-! ## The pieces a tile reads, as functions of what a window holds -/

/-- Group `e`'s size in an array of four. -/
def szR (Y : S4.Idx → BitVec 32) (e : Fin 4) : BitVec 32 :=
  Y ((Rect.unit (s := S4) (semOff e) S1.size (semOff_inb e)).toLoadRect.idx (Shape.Idx.first (show 0 < S1.numel by decide)))
/-- Group `e`'s activation scale in an array of four. -/
def xsR (Y : S4.Idx → F .f32) (e : Fin 4) : F .f32 :=
  Y ((Rect.unit (s := S4) (semOff e) S1.size (semOff_inb e)).toLoadRect.idx (Shape.Idx.first (show 0 < S1.numel by decide)))
/-- A tile's rows. -/
def xR (Y : S512x1024.Idx → F .bf16) : Vec F S512x1024 .bf16 :=
  fun x => Y ((Rect.unit (s := S512x1024) ![0, 0] S512x1024.size inb_S512x1024_S512x1024_0_0).toLoadRect.idx x)
/-- Group `e`'s weight scales, columns `512 n` on. -/
def wsR (Y : S4x5120.Idx → F .f32) (e : Fin 4) (n : Fin 10) : Vec F S1x512 .f32 :=
  fun x => Y ((Rect.unit (s := S4x5120) (sOff e n) S1x512.size (sOff_inb e n)).toLoadRect.idx x)
/-- Group `e`'s weights, columns `512 n` on. -/
def wR (Y : S4x1024x5120.Idx → F .fp8e4m3) (e : Fin 4) (n : Fin 10) : Vec F S1x1024x512 .fp8e4m3 :=
  fun x => Y ((Rect.unit (s := S4x1024x5120) (wOff e n) S1x1024x512.size (wOff_inb e n)).toLoadRect.idx x)
/-- The output block's columns `512 n` on. -/
def oR (Y : S512x5120.Idx → F .bf16) (n : Fin 10) : Vec F S512x512 .bf16 :=
  fun x => Y ((Rect.unit (s := S512x5120) (oOff n) S512x512.size (oOff_inb n)).toLoadRect.idx x)

variable (m : (ℓ : Loc nD τ sig) → Buf (Elt F) ℓ) (ρ : Dev nD → PrngReg)

/-! ## The windows' blocks -/

/-- The sizes, scales and weights a launch starts from. -/
abbrev gm (c : Dev nD) : Fin 4 → BitVec 32 := szR (m ((c : Thread nD τ).loc main_arg1))
abbrev XA (c : Dev nD) : Buf (Elt F) (wM.view.loc (c : Thread nD τ)) := m ((c : Thread nD τ).loc main_arg3)

theorem iblk_0 (c : Dev nD) (t : Fin cfg0.N) : iblk m c 0 t = m ((c : Thread nD τ).loc main_arg1) := by
  funext y
  refine congrArg (m ((c : Thread nD τ).loc main_arg1)) (funext fun a => Fin.ext ?_)
  match a with
  | 0 => show 0 * 4 + 1 * (y 0).val = (y 0).val; omega

theorem iblk_1 (c : Dev nD) (t : Fin cfg0.N) : iblk m c 1 t = m ((c : Thread nD τ).loc main_arg2) := by
  funext y
  refine congrArg (m ((c : Thread nD τ).loc main_arg2)) (funext fun a => Fin.ext ?_)
  match a with
  | 0 => show 0 * 4 + 1 * (y 0).val = (y 0).val; omega

theorem iblk_3 (c : Dev nD) (t : Fin cfg0.N) : iblk m c 3 t = m ((c : Thread nD τ).loc main_arg4) := by
  funext y
  refine congrArg (m ((c : Thread nD τ).loc main_arg4)) (funext fun a => Fin.ext ?_)
  match a with
  | 0 => show 0 * 4 + 1 * (y 0).val = (y 0).val; omega
  | 1 => show 0 * 5120 + 1 * (y 1).val = (y 1).val; omega

theorem coords_val : ∀ t : Fin grid0.N, (grid0.coords t 0).val = t.val := by decide

/-! ## The proof data -/

/-- What a tile's block of the result holds: at every row of group `e`, group `e`'s product. -/
def Tile (c : Dev nD) (t : Fin cfg0.N) (X : S512x5120.Idx → F .bf16) : Prop :=
  Law F → ∀ (n : Fin 10) (y : S512x512.Idx) (e : Fin 4), Words.before (gm m c) (512 * t.val + (y 0).val) = e.val →
    oR X n y = k0_pay7 (xsR (m ((c : Thread nD τ).loc main_arg2)) e) (xR (iblk m c 2 t)) (wR (XA m c) e n)
      (wsR (m ((c : Thread nD τ).loc main_arg4)) e n) y

/-- What is held between two grid points beside the windows: the generator register and each group's weights. -/
def phi (c : Dev nD) (k : Nat) : sProp 𝕄 :=
  iprop((∃ r, prngReg c r) ∗ stateP c (XA m c) (gm m c) k 0 ∗ stateP c (XA m c) (gm m c) k 1
    ∗ stateP c (XA m c) (gm m c) k 2 ∗ stateP c (XA m c) (gm m c) k 3)

/-- The proof data: the arrays as launched, every input's buffer left as found, the result's block as `Tile` says. -/
def rdat (c : Dev nD) : RDat τ (Elt F) Unit ℕ (Pipeline.UD sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun _ X => Tile m c t X
  Φ t := phi m c t.val
  q _ := fullShare
  owed _ := 0

theorem phi_castSucc (c : Dev nD) (t : Fin cfg0.N) : (rdat m c).Φ t.castSucc = phi m c t.val := by dsimp only [rdat, Fin.val_castSucc]
theorem phi_succ (c : Dev nD) (t : Fin cfg0.N) : (rdat m c).Φ t.succ = phi m c (t.val + 1) := by dsimp only [rdat, Fin.val_succ]

theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h; rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h; rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h; rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h; rfl

theorem defs₀_row (t : Fin cfg0.N) :
    defs₀ (F := F) .tc cfg0.body (cfg0.bodyArgs t (cfg0.slots t)) = bodyAt0 t := by
  unfold defs₀; rw [Defs.onTc_tc]

/-! ## The buffers, handed over by groups -/

theorem grp_set (e : Fin 4) : (grp e).view.set = (Rect.unit (s := S4x1024x5120) (slabOff e) S1x1024x5120.size (slabOff_inb e)).set := by
  show (((View.whole main_arg3).slice _).reshape S1024x5120 _).set = _
  rw [View.set_reshape, View.set_slice_whole]

theorem slab_size0 : S1x1024x5120.size (0 : Fin 3) = 1 := rfl
theorem slab_off0 (b : Fin 4) : slabOff b (0 : Fin 3) = 1 * b.val := (Nat.one_mul _).symm
theorem slab_offs : ∀ (b : Fin 4) (a : Fin 3), a ≠ 0 → slabOff b a = 0 := by decide
theorem slab_sizes : ∀ a : Fin 3, a ≠ 0 → S1x1024x5120.size a = S4x1024x5120.size a := by decide

/-- Group `e`'s elements of an array shaped as the weights. -/
abbrev gI (e : Fin 4) : Finset S4x1024x5120.Idx := (Rect.unit (s := S4x1024x5120) (slabOff e) S1x1024x5120.size (slabOff_inb e)).set
theorem gI_disjoint (b b' : Fin 4) (h : b ≠ b') : Disjoint (gI b) (gI b') :=
  Ring.lead_disjoint (s := S4x1024x5120) (0 : Fin 3) 1 slabOff S1x1024x5120.size slabOff_inb slab_off0 slab_size0 b b' h
theorem gI_cover : (Finset.univ.biUnion gI) = Finset.univ :=
  Ring.lead_cover (s := S4x1024x5120) (0 : Fin 3) 1 slabOff S1x1024x5120.size slabOff_inb slab_off0 slab_offs slab_size0 slab_sizes rfl

theorem home_eq (c : Dev nD) (f : Buf (Elt F) (wM.view.loc (c : Thread nD τ))) (e : Fin 4) :
    (((c : Thread nD τ).loc main_arg3) ↦[gI e]{fullShare} f : sProp 𝕄) = homeP c f e :=
  congrArg (fun S : Finset S4x1024x5120.Idx => (((c : Thread nD τ).loc main_arg3) ↦[S]{fullShare} f : sProp 𝕄)) (grp_set e).symm
theorem slabP_eq (c : Dev nD) (f : Buf (Elt F) (bM.view.loc (c : Thread nD τ))) (e : Fin 4) :
    (((c : Thread nD τ).loc cc0_scratch0) ↦[gI e]{fullShare} f : sProp 𝕄) = slabP c e f :=
  congrArg (fun S : Finset S4x1024x5120.Idx => (((c : Thread nD τ).loc cc0_scratch0) ↦[S]{fullShare} f : sProp 𝕄)) (slab_set e).symm

theorem bigSep_4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The weights, held whole, are the four groups' weights. -/
theorem home_split (c : Dev nD) (f : Buf (Elt F) (wM.view.loc (c : Thread nD τ))) :
    (((c : Thread nD τ).loc main_arg3) ↦{fullShare} f : sProp 𝕄) = iprop(homeP c f 0 ∗ homeP c f 1 ∗ homeP c f 2 ∗ homeP c f 3) := by
  rw [Ring.pointsTo_blocks (ℓ := (c : Thread nD τ).loc main_arg3) gI gI_disjoint gI_cover f, bigSep_4]
  simp only [home_eq]

/-- The scratch buffer, held whole, is its four slabs, -/
theorem slab_split (c : Dev nD) (f : Buf (Elt F) (bM.view.loc (c : Thread nD τ))) :
    (((c : Thread nD τ).loc cc0_scratch0) ↦{fullShare} f : sProp 𝕄) = iprop(slabP c 0 f ∗ slabP c 1 f ∗ slabP c 2 f ∗ slabP c 3 f) := by
  rw [Ring.pointsTo_blocks (ℓ := (c : Thread nD τ).loc cc0_scratch0) gI gI_disjoint gI_cover f, bigSep_4]
  simp only [slabP_eq]

/-- and four slabs at any contents are the buffer at some. -/
theorem slab_join (c : Dev nD) (f₀ : Buf (Elt F) (bM.view.loc (c : Thread nD τ))) :
    iprop((∃ f, slabP c 0 f) ∗ (∃ f, slabP c 1 f) ∗ (∃ f, slabP c 2 f) ∗ (∃ f, slabP c 3 f))
      ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Name := ℕ) (U := Pipeline.UD sig nD τ) (Lvl := ℕ) (q := fullShare)
    (ℓ := (c : Thread nD τ).loc cc0_scratch0) gI gI_disjoint gI_cover f₀
  rw [bigSep_4] at h
  simp only [slabP_eq] at h
  exact h

/-! ## The grid's own cells and the weights at launch -/

abbrev osem0 : Fin 4 → SemLoc sig := fun e => SemLoc.dma (csm e).sem
theorem ownSemFacts0 : Pipeline.OwnSemFacts spec0 osem0 := by decide
theorem ownSems00_eq (c : Dev nD) : (Pipeline.ownSems0 (Ix := Unit) (Val := Elt F) (Name := ℕ) (U := Pipeline.UD sig nD τ) (Lvl := ℕ) (τ := τ) osem0 c : sProp 𝕄)
    = iprop(cellP c 0 ∗ cellP c 1 ∗ cellP c 2 ∗ cellP c 3) := by
  rw [Pipeline.ownSems0_eq_of_list c osem0 [0, 1, 2, 3] (by decide) (by decide)]; rfl
abbrev H0 : Finset (Ref sig .tc) := {main_arg3}
theorem H0_sub : H0 ⊆ Pipeline.restRefs sig spec0 := by decide
theorem hbmPts0_eq (c : Dev nD) : (bigSep H0 (fun b => ((c : Thread nD τ).loc b) ↦{fullShare} V m c b) : sProp 𝕄)
    = (((c : Thread nD τ).loc main_arg3) ↦{fullShare} XA m c) := by
  rw [BI.bigSep_singleton]

theorem PhiD0_eq (c : Dev nD) : (Pipeline.ΦD osem0 spec0 H0 (V m) c : sProp 𝕄)
    = iprop((∃ f : Buf (Elt F) ((c : Thread nD τ).loc cc0_scratch0), ((c : Thread nD τ).loc cc0_scratch0) ↦{fullShare} f)
      ∗ (∃ r, prngReg c r) ∗ (cellP c 0 ∗ cellP c 1 ∗ cellP c 2 ∗ cellP c 3)
      ∗ (((c : Thread nD τ).loc main_arg3) ↦{fullShare} XA m c)) := by
  rw [Pipeline.ΦD_eq, scopedRest0_eq, ownSems00_eq, hbmPts0_eq]

/-- At entry no group has been asked for. -/
theorem phi_in (c : Dev nD) : (Pipeline.ΦD osem0 spec0 H0 (V m) c : sProp 𝕄) ⊢ (rdat m c).Φ 0 := by
  rw [PhiD0_eq]
  show _ ⊢ phi m c 0
  unfold phi
  rw [stateP_zero, stateP_zero, stateP_zero, stateP_zero, home_split]
  iintro ⟨⟨%f, HS⟩, HG, ⟨C0, C1, C2, C3⟩, ⟨W0, W1, W2, W3⟩⟩
  icases (BIBase.Entails.of_eq (slab_split c f)) $$ HS with ⟨S0, S1, S2, S3⟩
  isplitl [HG]; · iexact HG
  isplitl [C0 S0 W0]
  · isplitl [C0]; · iexact C0
    isplitl [S0]; · iexists f; iexact S0
    iexact W0
  isplitl [C1 S1 W1]
  · isplitl [C1]; · iexact C1
    isplitl [S1]; · iexists f; iexact S1
    iexact W1
  isplitl [C2 S2 W2]
  · isplitl [C2]; · iexact C2
    isplitl [S2]; · iexists f; iexact S2
    iexact W2
  isplitl [C3]; · iexact C3
  isplitl [S3]; · iexists f; iexact S3
  iexact W3

/-- After the last point no copy is on its way. -/
theorem state_last (c : Dev nD) (hg : Words.Parts (gm m c)) (e : Fin 4) :
    stateP c (XA m c) (gm m c) 24 e ⊢ (idleP c (XA m c) e : sProp 𝕄) := by
  rw [stateP_succ (k := 23)]
  unfold midP
  by_cases h0 : 0 < (gm m c e).toNat
  · have := Words.start_lt hg e h0
    rw [if_pos h0, if_neg (by omega)]
    iintro ⟨HC, HS, HW⟩
    isplitl [HC]; · iexact HC
    isplitl [HS]; · iexists _; iexact HS
    iexact HW
  · rw [if_neg h0]

theorem phi_out (c : Dev nD) (hg : Words.Parts (gm m c)) : (rdat m c).Φ (Fin.last cfg0.N) ⊢ (Pipeline.ΦD osem0 spec0 H0 (V m) c : sProp 𝕄) := by
  rw [PhiD0_eq]
  show phi m c grid0.N ⊢ _
  rw [N_0, home_split]
  unfold phi
  iintro ⟨HG, A0, A1, A2, A3⟩
  icases (state_last m c hg 0) $$ A0 with ⟨C0, S0, W0⟩
  icases (state_last m c hg 1) $$ A1 with ⟨C1, S1, W1⟩
  icases (state_last m c hg 2) $$ A2 with ⟨C2, S2, W2⟩
  icases (state_last m c hg 3) $$ A3 with ⟨C3, S3, W3⟩
  isplitl [S0 S1 S2 S3]
  · iapply (slab_join c (asBuf c (XA m c)))
    isplitl [S0]; · iexact S0
    isplitl [S1]; · iexact S1
    isplitl [S2]; · iexact S2
    iexact S3
  isplitl [HG]; · iexact HG
  isplitl [C0 C1 C2 C3]
  · isplitl [C0]; · iexact C0
    isplitl [C1]; · iexact C1
    isplitl [C2]; · iexact C2
    iexact C3
  isplitl [W0]; · iexact W0
  isplitl [W1]; · iexact W1
  isplitl [W2]; · iexact W2
  iexact W3

/-! ## The body's obligation -/

section Point
variable (c : Dev nD) (t : Fin cfg0.N)
  (arg1 : Memref sig .tc .smem S4 .i32) (harg1 : arg1.IsWhole) (arg2 : Memref sig .tc .smem S4 .f32) (harg2 : arg2.IsWhole)
  (arg3 : Memref sig .tc .vmem S512x1024 .bf16) (harg3 : arg3.IsWhole) (arg4 : Memref sig .tc .vmem S4x5120 .f32) (harg4 : arg4.IsWhole)
  (arg6 : Memref sig .tc .vmem S512x5120 .bf16) (harg6 : arg6.IsWhole)

/-- The five windows' buffers at a point: the inputs at their blocks, the result's at contents satisfying `R`. -/
def bufs (R : (S512x5120.Idx → F .bf16) → Prop) : sProp 𝕄 :=
  iprop((∃ f, ⌜arg1.view.read (Elt F) f = m ((c : Thread nD τ).loc main_arg1)⌝ ∗ szP c arg1 f)
    ∗ (∃ f, ⌜arg2.view.read (Elt F) f = m ((c : Thread nD τ).loc main_arg2)⌝ ∗ xsP c arg2 f)
    ∗ (∃ f, ⌜arg3.view.read (Elt F) f = iblk m c 2 t⌝ ∗ xP c arg3 f)
    ∗ (∃ f, ⌜arg4.view.read (Elt F) f = m ((c : Thread nD τ).loc main_arg4)⌝ ∗ wsP c arg4 f)
    ∗ (∃ f, ⌜R (arg6.view.read (Elt F) f)⌝ ∗ outP c arg6 f))

set_option maxHeartbeats 2000000 in
/-- One point of the grid, on any five buffers: the tile comes out as `Tile` says and the groups move on by a point. -/
theorem point_spec (hg : Words.Parts (gm m c)) :
    iprop(phi m c t.val ∗ owesP c ∗ bufs m c t arg1 arg2 arg3 arg4 arg6 (fun _ => True))
      ⊢ WP c (cc0__body (F := F) (grid0.coords t) arg1 harg1 arg2 harg2 arg3 harg3 arg4 harg4 wM (Memref.isWhole_whole _) arg6 harg6 bM (Memref.isWhole_whole _) cc0_scratch1)
        fun _ => iprop(phi m c (t.val + 1) ∗ owesP c ∗ bufs m c t arg1 arg2 arg3 arg4 arg6 (Tile m c t)) := by
  rw [cc0__body_eq_skeleton]
  unfold bufs phi
  iintro ⟨⟨HG, A0, A1, A2, A3⟩, HW, ⟨%f1, %h1, H1⟩, ⟨%f2, %h2, H2⟩, ⟨%f3, %h3, H3⟩, ⟨%f4, %h4, H4⟩, ⟨%f6, -, H6⟩⟩
  have hs : sizes c arg1 f1 = gm m c := congrArg szR h1
  have ht : t0 (grid0.coords t) = t.val := coords_val t
  iapply (body_spec c (XA m c) (grid0.coords t) arg1 harg1 arg2 harg2 arg3 harg3 arg4 harg4 arg6 harg6 f1 f2 f3 f4 (hs ▸ hg))
  unfold restP
  rw [hs, ht]
  isplitl [H1]; · iexact H1
  isplitl [HW]; · iexact HW
  isplitl [A0]; · iexact A0
  isplitl [A1]; · iexact A1
  isplitl [A2]; · iexact A2
  isplitl [A3]; · iexact A3
  isplitl [H4]; · iexact H4
  isplitl [H3]; · iexact H3
  isplitl [H2]; · iexact H2
  isplitl [H6]; · iexists f6; iexact H6
  unfold doneP
  iintro HW ⟨H1, H4, H3, H2, A0, A1, A2, A3⟩ ⟨%f, %hd, H6⟩
  isplitl [HG A0 A1 A2 A3]
  · rw [stateP_succ, stateP_succ, stateP_succ, stateP_succ]
    isplitl [HG]; · iexact HG
    isplitl [A0]; · iexact A0
    isplitl [A1]; · iexact A1
    isplitl [A2]; · iexact A2
    iexact A3
  isplitl [HW]; · iexact HW
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  iexists f; isplitr
  · ipureintro
    intro law n y e he
    have hx : xsc c arg2 f2 e = xsR (m ((c : Thread nD τ).loc main_arg2)) e := congrArg (xsR · e) h2
    have hr : xbl c arg3 f3 = xR (iblk m c 2 t) := congrArg xR h3
    have hw : sch c arg4 f4 e n = wsR (m ((c : Thread nD τ).loc main_arg4)) e n := congrArg (wsR · e n) h4
    have := hd law n y e (by rw [hs, ht]; exact he) e.isLt
    rw [hx, hr, hw] at this
    exact this
  iexact H6
end Point

set_option maxHeartbeats 2000000 in
theorem body_obligation (c : Dev nD) (hg : Words.Parts (gm m c)) :
    (rdat m c).BodyObligation (defs₀ (F := F)) 𝒱₀ () Set.univ := fun t Y hY => by
  rw [bigSep_W0, bigSep_W0, defs₀_row, phi_castSucc, phi_succ]
  have e0 : (Y 0 : S4.Idx → BitVec 32) = m ((c : Thread nD τ).loc main_arg1) := (finds_0 m c t _ (hY 0)).trans (iblk_0 m c t)
  have e1 : (Y 1 : S4.Idx → F .f32) = m ((c : Thread nD τ).loc main_arg2) := (finds_1 m c t _ (hY 1)).trans (iblk_1 m c t)
  have e2 : (Y 2 : S512x1024.Idx → F .bf16) = iblk m c 2 t := finds_2 m c t _ (hY 2)
  have e3 : (Y 3 : S4x5120.Idx → F .f32) = m ((c : Thread nD τ).loc main_arg4) := (finds_3 m c t _ (hY 3)).trans (iblk_3 m c t)
  refine triple_restated (point_spec m c t _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) hg) rfl ?_ fun _ => ?_
  · unfold RDat.owesAt Pipeline.owesWithin owns bufs
    iintro ⟨HP, ⟨%W, -, HW⟩, ⟨%f0, %h0, H0⟩, ⟨%f1, %h1, H1⟩, ⟨%f2, %h2, H2⟩, ⟨%f3, %h3, H3⟩, ⟨%f4, %h4, H4⟩⟩
    isplitl [HP]; · iexact HP
    isplitl [HW]; · iexists W; iexact HW
    isplitl [H0]; · iexists f0; isplitr; · ipureintro; exact h0.trans e0
                    iexact H0
    isplitl [H1]; · iexists f1; isplitr; · ipureintro; exact h1.trans e1
                    iexact H1
    isplitl [H2]; · iexists f2; isplitr; · ipureintro; exact h2.trans e2
                    iexact H2
    isplitl [H3]; · iexists f3; isplitr; · ipureintro; exact h3.trans e3
                    iexact H3
    iexists f4; isplitr; · ipureintro; trivial
    iexact H4
  · unfold RDat.owesAt Pipeline.owesWithin owns bufs
    iintro ⟨HP, ⟨%W, HW⟩, ⟨%f0, %h0, H0⟩, ⟨%f1, %h1, H1⟩, ⟨%f2, %h2, H2⟩, ⟨%f3, %h3, H3⟩, ⟨%f4, %h4, H4⟩⟩
    isplitl [HP]; · iexact HP
    isplitl [HW]
    · iexists W; isplitr; · ipureintro; exact fun _ _ => Or.inl trivial
      iexact HW
    isplitl [H0]
    · iexists (Y 0); isplitr; · ipureintro; exact (rfl : Y 0 = Y 0)
      iexists f0; isplitr; · ipureintro; exact h0.trans e0.symm
      iexact H0
    isplitl [H1]
    · iexists (Y 1); isplitr; · ipureintro; exact (rfl : Y 1 = Y 1)
      iexists f1; isplitr; · ipureintro; exact h1.trans e1.symm
      iexact H1
    isplitl [H2]
    · iexists (Y 2); isplitr; · ipureintro; exact (rfl : Y 2 = Y 2)
      iexists f2; isplitr; · ipureintro; exact h2.trans e2.symm
      iexact H2
    isplitl [H3]
    · iexists (Y 3); isplitr; · ipureintro; exact (rfl : Y 3 = Y 3)
      iexists f3; isplitr; · ipureintro; exact h3.trans e3.symm
      iexact H3
    iexists _; isplitr
    swap
    · iexists f4; isplitr; swap
      · iexact H4
      · ipureintro; rfl
    ipureintro; exact h4

/-! ## The run -/

theorem hmainD (𝒱 : Variants) : Pipeline.HMain (Ix := Unit) (Name := ℕ) (U := Pipeline.UD sig nD τ) (Lvl := ℕ) cfgs 0 defs₀ 𝒱 m (main (F := F)) (V m) :=
  Pipeline.hmain_region cfgs 0 defs₀ 𝒱 m main fun c => (main_chain c).trans rfl

set_option backward.isDefEq.respectTransparency.types false in
/-- The run: it ends, every cell at zero, the arrays as the proof data say. -/
theorem run_main (hg : ∀ c, Words.Parts (gm m c)) : θ_run defs (onTc (τ := τ) (main (F := F))) (s₀ m ρ)
    (fun r => Pipeline.RDat.FramePost cfg0 (rdat m) (V m) r ∧ r.2.sem = fun _ => 0) :=
  Pipeline.RDat.θ_run_frame_dma (Q' := _) cfgs (0 : Fin 1) launch0 osem0 defs₀ 𝒱₀ (rdat m) ownSemFacts0 H0 H0_sub m ρ main
    (hbody := fun c => body_obligation m c (hg c)) (hshare := fun c w => by unfold RDat.share; split <;> rfl)
    (howed := fun _ _ => rfl) (V := V m) (hmain := hmainD m 𝒱₀) (hA := fun _ _ => rfl)
    (hin := phi_in m) (hout := fun c => phi_out m c (hg c))

/-- The frame claim: the arguments are unchanged and every cell ends at zero. -/
theorem frame (hg : ∀ c, Words.Parts (gm m c)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨h.1.arr_in c 2 rfl, h.1.arr_in c 0 rfl, h.1.arr_in c 1 rfl,
    (h.1 c).2 main_arg3 (Pipeline.mem_restRefs_of main_arg3 (by decide) (by decide)), h.1.arr_in c 3 rfl⟩, h.2⟩) (run_main m ρ hg)

end Cert.KernelIdeal.Hand
end
-- ==== Proof.Reference.Run.lean ====
/- The reference's result array as one function of the argument arrays. The reference is one store of its whole result, whose
   payload reads the rows whole, the four sizes, the four scales, the four weight matrices and the four rows of weight
   scales. At the one grid point each window's block is its whole array, so the array after the run is that function. -/
module

public import proofs.«01_k».proof.Proof.Gen.ReferenceIdeal.Value

@[expose] public section

noncomputable section

namespace Cert.ReferenceIdeal.Hand

open Cert.ReferenceIdeal Cert.ReferenceIdeal.Gen Cert.ReferenceIdeal.Value Idealize.ShloMosaic Idealize.ShloMosaic.TcCoe Idealize.SL.Sem

variable {F : FTy → Type} [FloatOps F]

/-- Place `e` of an array of four. -/
def at4 (e : Fin 4) : S4.Idx := fun a => match a with | ⟨0, _⟩ => e

/-- The offset of matrix `e` and of row `e` lies inside its array. -/
theorem mat_inb : ∀ (e : Fin 4) a, (![e.val, 0, 0] : Fin 3 → Nat) a + S1x1024x5120.size a ≤ S4x1024x5120.size a := by decide
theorem row_inb : ∀ (e : Fin 4) a, (![e.val, 0] : Fin 2 → Nat) a + S1x5120.size a ≤ S4x5120.size a := by decide

/-- Weight matrix `e`. -/
def mat (w : Vec F S4x1024x5120 .fp8e4m3) (e : Fin 4) : Vec F S1x1024x5120 .fp8e4m3 :=
  View.ld (Val := Elt F) (e' := .fp8e4m3) w (Rect.unit (s := S4x1024x5120) ![e.val, 0, 0] S1x1024x5120.size (mat_inb e))

/-- Row `e` of the weight scales. -/
def row (ws : Vec F S4x5120 .f32) (e : Fin 4) : Vec F S1x5120 .f32 :=
  View.ld (Val := Elt F) (e' := .f32) ws (Rect.unit (s := S4x5120) ![e.val, 0] S1x5120.size (row_inb e))

/-- Each row's group. -/
def grp (g : Vec F S4 .i32) : IVec S12288x1 32 :=
  k0_pay2 (F := F) (g (at4 0)) (g (at4 1)) (g (at4 2)) (g (at4 3))

/-- Each row's activation scale. -/
def scl (g : Vec F S4 .i32) (s : Vec F S4 .f32) : FVec F S12288x1 .f32 :=
  k0_pay3 (g (at4 0)) (g (at4 1)) (g (at4 2)) (g (at4 3)) (s (at4 0)) (s (at4 1)) (s (at4 2)) (s (at4 3))

/-- The result array as one function of the argument arrays. -/
def G (x : Vec F S12288x1024 .bf16) (g : Vec F S4 .i32) (s : Vec F S4 .f32) (w : Vec F S4x1024x5120 .fp8e4m3)
    (ws : Vec F S4x5120 .f32) : Vec F S12288x5120 .bf16 :=
  k0_pay1 (grp g) (scl g s) (k0_pay6 (grp g) (scl g s) (k0_pay4 x) (mat w 0) (mat w 1) (mat w 2)) (k0_pay7 (grp g))
    (k0_pay8 (scl g s) (k0_pay4 x) (mat w 3)) (row ws 0) (row ws 1) (row ws 2) (row ws 3)

theorem hz : (![0, 0] : Fin 2 → Nat) = fun _ => 0 := funext fun a => by fin_cases a <;> rfl

/-- The single word a scalar load reads is its place of the array. -/
theorem ld_word {α : Type} (Y : S4.Idx → α) (e : Fin 4) {o : Fin 1 → Nat} (ho : o = ![e.val]) (h : ∀ a, o a + S1.size a ≤ S4.size a)
    (y : (Rect.unit (s := S4) o S1.size h).shape.Idx) : Y ((Rect.unit (s := S4) o S1.size h).toLoadRect.idx y) = Y (at4 e) := by
  subst ho
  refine congrArg Y (funext fun a => ?_)
  match a with
  | ⟨0, _⟩ =>
    have hy : (y 0).val = 0 := by have h1 : (y 0).val < 1 := (y 0).isLt; omega
    apply Fin.ext; show e.val + 1 * (y 0).val = e.val; omega

/-- What the run leaves in the result's buffer is the function of the arguments' buffers: its one piece is a store through
    the whole rectangle. -/
theorem out_eq (c : Dev nD) (arg0 : Memref sig .tc .vmem S12288x1024 .bf16) (h0 : arg0.IsWhole) (arg1 : Memref sig .tc .smem S4 .i32) (h1 : arg1.IsWhole)
    (arg2 : Memref sig .tc .smem S4 .f32) (h2 : arg2.IsWhole) (arg3 : Memref sig .tc .vmem S4x1024x5120 .fp8e4m3) (h3 : arg3.IsWhole)
    (arg4 : Memref sig .tc .vmem S4x5120 .f32) (h4 : arg4.IsWhole) (arg5 : Memref sig .tc .vmem S12288x5120 .bf16) (h5 : arg5.IsWhole)
    (x0 : Vec F S12288x1024 .bf16) (x1 : Vec F S4 .i32) (x2 : Vec F S4 .f32) (x3 : Vec F S4x1024x5120 .fp8e4m3) (x4 : Vec F S4x5120 .f32) :
    out0_A_5 c arg0 h0 arg1 h1 arg2 h2 arg3 h3 arg4 h4 arg5 h5 x0 x1 x2 x3 x4 = G x0 x1 x2 x3 x4 := by
  unfold out0_A_5
  rw [View.read_writes_junk_eq_canon]
  let W1 (o : Fin 1 → Nat) (i : ∀ a, o a + S1.size a ≤ S4.size a) : BitVec 32 :=
    View.readAt (Elt F) arg1.view (Rect.unit (s := S4) o S1.size i).toLoadRect (h1.unread x1) (Shape.Idx.first (show 0 < S1.numel by decide))
  let W2 (o : Fin 1 → Nat) (i : ∀ a, o a + S1.size a ≤ S4.size a) : F .f32 :=
    View.readAt (Elt F) arg2.view (Rect.unit (s := S4) o S1.size i).toLoadRect (h2.unread x2) (Shape.Idx.first (show 0 < S1.numel by decide))
  let W3 (o : Fin 3 → Nat) (i : ∀ a, o a + S1x1024x5120.size a ≤ S4x1024x5120.size a) : Vec F S1x1024x5120 .fp8e4m3 :=
    View.readAt (Elt F) arg3.view (Rect.unit (s := S4x1024x5120) o S1x1024x5120.size i).toLoadRect (h3.unread x3)
  let W4 (o : Fin 2 → Nat) (i : ∀ a, o a + S1x5120.size a ≤ S4x5120.size a) : Vec F S1x5120 .f32 :=
    View.readAt (Elt F) arg4.view (Rect.unit (s := S4x5120) o S1x5120.size i).toLoadRect (h4.unread x4)
  let X0 : Vec F S12288x1024 .bf16 :=
    View.readAt (Elt F) arg0.view (Rect.unit (s := S12288x1024) ![0, 0] S12288x1024.size inb_S12288x1024_S12288x1024_0_0).toLoadRect (h0.unread x0)
  let A : IVec S12288x1 32 := k0_pay2 (F := F) (W1 ![0] inb_S4_S1_0) (W1 ![1] inb_S4_S1_1) (W1 ![2] inb_S4_S1_2) (W1 ![3] inb_S4_S1_3)
  let B : FVec F S12288x1 .f32 := k0_pay3 (W1 ![0] inb_S4_S1_0) (W1 ![1] inb_S4_S1_1) (W1 ![2] inb_S4_S1_2) (W1 ![3] inb_S4_S1_3)
    (W2 ![0] inb_S4_S1_0) (W2 ![1] inb_S4_S1_1) (W2 ![2] inb_S4_S1_2) (W2 ![3] inb_S4_S1_3)
  show View.canon ([⟨Rect.unit ![0, 0] S12288x5120.size inb_S12288x5120_S12288x5120_0_0,
      k0_pay1 A B (k0_pay6 A B (k0_pay4 X0) (W3 ![0, 0, 0] inb_S4x1024x5120_S1x1024x5120_0_0_0) (W3 ![1, 0, 0] inb_S4x1024x5120_S1x1024x5120_1_0_0)
          (W3 ![2, 0, 0] inb_S4x1024x5120_S1x1024x5120_2_0_0)) (k0_pay7 A) (k0_pay8 B (k0_pay4 X0) (W3 ![3, 0, 0] inb_S4x1024x5120_S1x1024x5120_3_0_0))
        (W4 ![0, 0] inb_S4x5120_S1x5120_0_0) (W4 ![1, 0] inb_S4x5120_S1x5120_1_0) (W4 ![2, 0] inb_S4x5120_S1x5120_2_0) (W4 ![3, 0] inb_S4x5120_S1x5120_3_0)⟩] :
      List (View.Piece (Elt F) S12288x5120 .bf16)) = _
  rw [View.canon_unit_zero hz]
  have w1 : ∀ (e : Fin 4) {o : Fin 1 → Nat} (i : ∀ a, o a + S1.size a ≤ S4.size a), o = ![e.val] → W1 o i = x1 (at4 e) := fun e o i ho => by
    show View.ld (arg1.view.read (Elt F) (h1.unread x1)) _ _ = _
    rw [h1.read_unread]; exact ld_word x1 e ho i _
  have w2 : ∀ (e : Fin 4) {o : Fin 1 → Nat} (i : ∀ a, o a + S1.size a ≤ S4.size a), o = ![e.val] → W2 o i = x2 (at4 e) := fun e o i ho => by
    show View.ld (arg2.view.read (Elt F) (h2.unread x2)) _ _ = _
    rw [h2.read_unread]; exact ld_word x2 e ho i _
  have w3 : ∀ (e : Fin 4) {o : Fin 3 → Nat} (i : ∀ a, o a + S1x1024x5120.size a ≤ S4x1024x5120.size a), o = ![e.val, 0, 0] → W3 o i = mat x3 e := fun e o i ho => by
    subst ho
    show View.ld (arg3.view.read (Elt F) (h3.unread x3)) _ = _
    rw [h3.read_unread]; rfl
  have w4 : ∀ (e : Fin 4) {o : Fin 2 → Nat} (i : ∀ a, o a + S1x5120.size a ≤ S4x5120.size a), o = ![e.val, 0] → W4 o i = row x4 e := fun e o i ho => by
    subst ho
    show View.ld (arg4.view.read (Elt F) (h4.unread x4)) _ = _
    rw [h4.read_unread]; rfl
  have w0 : X0 = x0 := by
    show View.ld (arg0.view.read (Elt F) (h0.unread x0)) _ = _
    rw [h0.read_unread]; exact View.ld_unit_zero hz _ _
  have hA : A = grp x1 := by
    show k0_pay2 (F := F) (W1 ![0] inb_S4_S1_0) (W1 ![1] inb_S4_S1_1) (W1 ![2] inb_S4_S1_2) (W1 ![3] inb_S4_S1_3) = _
    rw [w1 0 (o := ![0]) inb_S4_S1_0 rfl, w1 1 (o := ![1]) inb_S4_S1_1 rfl, w1 2 (o := ![2]) inb_S4_S1_2 rfl, w1 3 (o := ![3]) inb_S4_S1_3 rfl]; rfl
  have hB : B = scl x1 x2 := by
    show k0_pay3 (W1 ![0] inb_S4_S1_0) (W1 ![1] inb_S4_S1_1) (W1 ![2] inb_S4_S1_2) (W1 ![3] inb_S4_S1_3)
      (W2 ![0] inb_S4_S1_0) (W2 ![1] inb_S4_S1_1) (W2 ![2] inb_S4_S1_2) (W2 ![3] inb_S4_S1_3) = _
    rw [w1 0 (o := ![0]) inb_S4_S1_0 rfl, w1 1 (o := ![1]) inb_S4_S1_1 rfl, w1 2 (o := ![2]) inb_S4_S1_2 rfl, w1 3 (o := ![3]) inb_S4_S1_3 rfl, w2 0 (o := ![0]) inb_S4_S1_0 rfl, w2 1 (o := ![1]) inb_S4_S1_1 rfl, w2 2 (o := ![2]) inb_S4_S1_2 rfl, w2 3 (o := ![3]) inb_S4_S1_3 rfl]; rfl
  rw [hA, hB, w0, w3 0 (o := ![0, 0, 0]) inb_S4x1024x5120_S1x1024x5120_0_0_0 rfl, w3 1 (o := ![1, 0, 0]) inb_S4x1024x5120_S1x1024x5120_1_0_0 rfl, w3 2 (o := ![2, 0, 0]) inb_S4x1024x5120_S1x1024x5120_2_0_0 rfl, w3 3 (o := ![3, 0, 0]) inb_S4x1024x5120_S1x1024x5120_3_0_0 rfl, w4 0 (o := ![0, 0]) inb_S4x5120_S1x5120_0_0 rfl, w4 1 (o := ![1, 0]) inb_S4x5120_S1x5120_1_0 rfl, w4 2 (o := ![2, 0]) inb_S4x5120_S1x5120_2_0 rfl, w4 3 (o := ![3, 0]) inb_S4x5120_S1x5120_3_0 rfl]; rfl

variable (m : (ℓ : Loc nD τ sig) → Buf (Elt F) ℓ) (ρ : Dev nD → PrngReg)

/-- Each window's block index at the one grid point is zero on every axis. -/
theorem idx_zero : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) :=
  (by decide +kernel : ∀ t : Fin grid0.N, _)

/-- So an input window's block is its array as the region finds it. -/
theorem iblk0_eq (c : Dev nD) (t : Fin cfg0.N) : iblk m c 0 t = V m c main_arg0 := by
  have e := (idx_zero t).1
  funext j; refine congrArg (V m c main_arg0) (funext fun a => Fin.ext ?_)
  show win0_0.index t a * _ + 1 * (j a).val = (j a).val; rw [e a]; omega
theorem iblk1_eq (c : Dev nD) (t : Fin cfg0.N) : iblk m c 1 t = V m c main_arg1 := by
  have e := (idx_zero t).2.1
  funext j; refine congrArg (V m c main_arg1) (funext fun a => Fin.ext ?_)
  show win0_1.index t a * _ + 1 * (j a).val = (j a).val; rw [e a]; omega
theorem iblk2_eq (c : Dev nD) (t : Fin cfg0.N) : iblk m c 2 t = V m c main_arg2 := by
  have e := (idx_zero t).2.2.1
  funext j; refine congrArg (V m c main_arg2) (funext fun a => Fin.ext ?_)
  show win0_2.index t a * _ + 1 * (j a).val = (j a).val; rw [e a]; omega
theorem iblk3_eq (c : Dev nD) (t : Fin cfg0.N) : iblk m c 3 t = V m c main_arg3 := by
  have e := (idx_zero t).2.2.2.1
  funext j; refine congrArg (V m c main_arg3) (funext fun a => Fin.ext ?_)
  show win0_3.index t a * _ + 1 * (j a).val = (j a).val; rw [e a]; omega
theorem iblk4_eq (c : Dev nD) (t : Fin cfg0.N) : iblk m c 4 t = V m c main_arg4 := by
  have e := (idx_zero t).2.2.2.2.1
  funext j; refine congrArg (V m c main_arg4) (funext fun a => Fin.ext ?_)
  show win0_4.index t a * _ + 1 * (j a).val = (j a).val; rw [e a]; omega

/-- An index of the result's block is the same index of its array. -/
theorem emb5 (t : Fin cfg0.N) (j : S12288x5120.Idx) : ((cfg0.win 5).blk t).view.emb j = j := by
  have e := (idx_zero t).2.2.2.2.2
  funext a; apply Fin.ext
  show win0_5.index t a * _ + 1 * (j a).val = (j a).val; rw [e a]; omega

/-- What the point writes back is its block of `G` of the argument arrays as the region finds them. -/
theorem flushed5_eq (c : Dev nD) (t : Fin cfg0.N) :
    (dats m 0 c).flushed 5 t = ((cfg0.win 5).blk t).view.read (Elt F)
      (G (V m c main_arg0) (V m c main_arg1) (V m c main_arg2) (V m c main_arg3) (V m c main_arg4)) := by
  rw [flushed5_A, out_eq, iblk0_eq, iblk1_eq, iblk2_eq, iblk3_eq, iblk4_eq]
  funext j
  show G _ _ _ _ _ j = G _ _ _ _ _ (((cfg0.win 5).blk t).view.emb j)
  rw [emb5]

/-- Every index of the result array is in the point's block. -/
theorem covered5 (i : S12288x5120.Idx) :
    ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

/-- The result array after the run: `G` of the argument arrays as launched. -/
theorem final5 (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 (G (V m c main_arg0) (V m c main_arg1) (V m c main_arg2) (V m c main_arg3) (V m c main_arg4))
    (fun t _ => flushed5_eq m c t) covered5).trans
    (by rw [V_main_arg0, V_main_arg1, V_main_arg2, V_main_arg3, V_main_arg4])

/-- The generated run with the result array at its function of the arguments. -/
theorem run : θ_run defs (onTc (τ := τ) (main (F := F))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.ReferenceIdeal.Hand

end
-- ==== Proof.Reference.Value.lean ====
/- The reference's result at one element, over the extended reals: a row's group is the number of groups that end at or
   before it, and the element is that group's product of the row's codes with the weights' column, times the two scales. -/
module

public import proofs.«01_k».proof.Proof.Reference.Run
public import proofs.«01_k».proof.Proof.Words
public import Idealize.ShloMosaic.Lib.Pointwise

@[expose] public section

noncomputable section

namespace Cert.ReferenceIdeal.Hand

open Cert.ReferenceIdeal Cert.ReferenceIdeal.Gen Idealize.ShloMosaic Idealize.ShloMosaic.TcCoe Idealize.SL.Sem

/-- One element of the result, of row `r` in group `e` and column `n`: the row divided by its group's scale and clipped to
    the format's range, times the column of the group's weights, times the product of the two scales. -/
def val (x : S12288x1024.Idx → Ideal .bf16) (s : Ideal .f32) (w : S4x1024x5120.Idx → Ideal .fp8e4m3)
    (ws : S4x5120.Idx → Ideal .f32) (e : Fin 4) (r : Fin 12288) (n : Fin 5120) : Ideal .bf16 :=
  (∑ k : Fin 1024, min (Ideal.ofBits .f32 1138753536#32) (max (Ideal.ofBits .f32 3286237184#32) (Ideal.div (x (ix2 r k)) s))
      * w (ix3 e k n)) * (s * ws (ix2 e n))

/-- A row's group, as the reference counts it. -/
theorem grp_apply (g : Vec Ideal S4 .i32) (h : Words.Parts fun e => g (at4 e)) (r : Fin 12288) :
    grp (F := Ideal) g (ix2 r 0) = BitVec.ofNat 32 (Words.before (fun e => g (at4 e)) r.val) := by
  have hr : (BitVec.ofNat 32 r.val).toNat = r.val := by
    rw [BitVec.toNat_ofNat]; exact Nat.mod_eq_of_lt (by have := r.isLt; omega)
  refine Eq.trans ?_ ((Words.cnt_eq h (r := BitVec.ofNat 32 r.val) (by rw [hr]; have := r.isLt; omega)).trans (by rw [hr]))
  unfold grp k0_pay2
  pointwise
  rfl

/-- A row's activation scale is its group's. -/
theorem scl_apply (g : Vec Ideal S4 .i32) (s : Vec Ideal S4 .f32) (r : Fin 12288) (e : Fin 4)
    (hA : grp (F := Ideal) g (ix2 r 0) = BitVec.ofNat 32 e.val) : scl g s (ix2 r 0) = s (at4 e) := by
  unfold grp at hA
  unfold scl k0_pay3
  generalize k0_pay2 (F := Ideal) (g (at4 0)) (g (at4 1)) (g (at4 2)) (g (at4 3)) = A at *
  pointwise
  rw [hA]
  rcases Words.four e with rfl | rfl | rfl | rfl <;> rfl

/-- The reference at one element. -/
theorem G_apply (x : Vec Ideal S12288x1024 .bf16) (g : Vec Ideal S4 .i32) (s : Vec Ideal S4 .f32) (w : Vec Ideal S4x1024x5120 .fp8e4m3)
    (ws : Vec Ideal S4x5120 .f32) (h : Words.Parts fun e => g (at4 e)) (r : Fin 12288) (n : Fin 5120) (e : Fin 4)
    (he : Words.before (fun e => g (at4 e)) r.val = e.val) :
    G x g s w ws (ix2 r n) = val x (s (at4 e)) w ws e r n := by
  have hA : grp (F := Ideal) g (ix2 r 0) = BitVec.ofNat 32 e.val := by rw [grp_apply g h, he]
  have hB := scl_apply g s r e hA
  unfold G val
  generalize grp (F := Ideal) g = A at *
  generalize scl (F := Ideal) g s = B at *
  unfold k0_pay1 k0_pay6 k0_pay7 k0_pay8 k0_pay5 k0_pay4 mat row
  pointwise
  rw [hA, hB]
  rcases Words.four e with rfl | rfl | rfl | rfl <;> rfl

end Cert.ReferenceIdeal.Hand

end
-- ==== Proof.Ideal.Result.lean ====
/- The kernel's result array over the extended reals. Every element of a tile's block is its row's group's product, the same
   element that the reference computes; the blocks cover the array, so the array after the run is the reference's function
   of the argument arrays. -/
module

public import proofs.«01_k».proof.Proof.Ideal.Launch
public import proofs.«01_k».proof.Proof.Reference.Value
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.SL.Sem
open Idealize.ShloMosaic.Pipeline (RDat Cfg Window cellOf)

variable (m : (ℓ : Loc nD τ sig) → Buf (Elt Ideal) ℓ) (ρ : Dev nD → PrngReg)

/-- Over the extended reals a change of format changes nothing. -/
theorem law : Law Ideal := fun _ => rfl

/-- The place a scalar load reads is its place of the array of four. -/
theorem idx4 (e : Fin 4) : (Rect.unit (s := S4) (semOff e) S1.size (semOff_inb e)).toLoadRect.idx (Shape.Idx.first (show 0 < S1.numel by decide))
    = ReferenceIdeal.Hand.at4 e := by
  funext a
  match a with
  | ⟨0, _⟩ => apply Fin.ext; show e.val + 1 * 0 = e.val; omega

theorem gm_eq (c : Dev nD) : gm m c = fun e => m ((c : Thread nD τ).loc main_arg1) (ReferenceIdeal.Hand.at4 e) :=
  funext fun e => congrArg (m ((c : Thread nD τ).loc main_arg1)) (idx4 e)

/-- Row `y` of tile `t` is row `512 t + y` of the array. -/
theorem row_lt (t : Fin cfg0.N) (a : Fin 512) : 512 * t.val + a.val < 12288 := by
  have h : t.val < 24 := t.isLt
  have := a.isLt; omega
/-- Column `y` of chunk `n` is column `512 n + y` of the array. -/
theorem col_lt (n : Fin 10) (b : Fin 512) : 512 * n.val + b.val < 5120 := by have := n.isLt; have := b.isLt; omega

theorem index2 : ∀ t : Fin grid0.N, win0_2.index t 0 = t.val ∧ win0_2.index t 1 = 0 := by decide +kernel
theorem index4 : ∀ t : Fin grid0.N, win0_4.index t 0 = t.val ∧ win0_4.index t 1 = 0 := by decide +kernel

theorem iblk_2 (c : Dev nD) (t : Fin cfg0.N) (a : Fin 512) (k : Fin 1024) :
    iblk m c 2 t (ix2 a k) = m ((c : Thread nD τ).loc main_arg0) (ix2 ⟨512 * t.val + a.val, row_lt t a⟩ k) := by
  obtain ⟨e0, e1⟩ := index2 t
  refine congrArg (m ((c : Thread nD τ).loc main_arg0)) (funext fun d => Fin.ext ?_)
  match d with
  | ⟨0, _⟩ => show win0_2.index t 0 * 512 + 1 * a.val = 512 * t.val + a.val; rw [e0]; omega
  | ⟨1, _⟩ => show win0_2.index t 1 * 1024 + 1 * k.val = k.val; rw [e1]; omega

/-- A tile's element, as the kernel computes it, is the reference's element. -/
theorem pay_apply (s : Ideal .f32) (X : S512x1024.Idx → Ideal .bf16) (x : S12288x1024.Idx → Ideal .bf16) (W : S4x1024x5120.Idx → Ideal .fp8e4m3)
    (S : S4x5120.Idx → Ideal .f32) (e : Fin 4) (n : Fin 10) (y : S512x512.Idx) (r : Fin 12288)
    (hX : ∀ k : Fin 1024, X (ix2 (y 0) k) = x (ix2 r k)) :
    k0_pay7 (F := Ideal) s (xR X) (wR W e n) (wsR S e n) y = ReferenceIdeal.Hand.val x s W S e r ⟨512 * n.val + (y 1).val, col_lt n (y 1)⟩ := by
  unfold k0_pay7 k0_pay6 xR wR wsR ReferenceIdeal.Hand.val
  pointwise
  simp only [hX]

/-- The reference's function of the argument arrays. -/
abbrev Gm (c : Dev nD) : S12288x5120.Idx → Ideal .bf16 :=
  ReferenceIdeal.Hand.G (m ((c : Thread nD τ).loc main_arg0)) (m ((c : Thread nD τ).loc main_arg1)) (m ((c : Thread nD τ).loc main_arg2))
    (m ((c : Thread nD τ).loc main_arg3)) (m ((c : Thread nD τ).loc main_arg4))

/-- The array's place under place `j` of tile `t`'s block. -/
theorem emb4 (t : Fin cfg0.N) (j : S512x5120.Idx) : ((cfg0.win 4).blk t).view.emb j = ix2 ⟨512 * t.val + (j 0).val, row_lt t (j 0)⟩ (j 1) := by
  obtain ⟨e0, e1⟩ := index4 t
  funext d; apply Fin.ext
  match d with
  | ⟨0, _⟩ => show win0_4.index t 0 * 512 + 1 * (j 0).val = 512 * t.val + (j 0).val; rw [e0]; omega
  | ⟨1, _⟩ => show win0_4.index t 1 * 5120 + 1 * (j 1).val = (j 1).val; rw [e1]; omega

/-- What a tile's block holds is its rows of the reference's result. -/
theorem tile_eq (c : Dev nD) (hg : Words.Parts (gm m c)) (t : Fin cfg0.N) (X : S512x5120.Idx → Ideal .bf16) (h : Tile m c t X) (j : S512x5120.Idx) :
    X j = Gm m c (((cfg0.win 4).blk t).view.emb j) := by
  have hj : (j 1).val < 5120 := (j 1).isLt
  have hb := Words.before_le hg (row_lt t (j 0))
  obtain ⟨e, he⟩ : ∃ e : Fin 4, Words.before (gm m c) (512 * t.val + (j 0).val) = e.val := ⟨⟨_, Nat.lt_succ_of_le hb⟩, rfl⟩
  let n : Fin 10 := ⟨(j 1).val / 512, by omega⟩
  let y : S512x512.Idx := ix2 (j 0) ⟨(j 1).val % 512, Nat.mod_lt _ (by decide)⟩
  have hx := h law n y e he
  have hl : oR X n y = X j := congrArg X (funext fun d => Fin.ext (by
    match d with
    | ⟨0, _⟩ => show 0 + 1 * (j 0).val = (j 0).val; omega
    | ⟨1, _⟩ => show 512 * ((j 1).val / 512) + 1 * ((j 1).val % 512) = (j 1).val; omega))
  rw [emb4, ← hl, hx]
  refine (pay_apply _ _ (m ((c : Thread nD τ).loc main_arg0)) _ _ e n y ⟨512 * t.val + (j 0).val, row_lt t (j 0)⟩ fun k => iblk_2 m c t (j 0) k).trans ?_
  have hp := gm_eq m c
  have hn : (⟨512 * n.val + (y 1).val, col_lt n (y 1)⟩ : Fin 5120) = j 1 := Fin.ext (by
    show 512 * ((j 1).val / 512) + (j 1).val % 512 = (j 1).val; omega)
  rw [hn]
  refine Eq.trans ?_ (ReferenceIdeal.Hand.G_apply _ _ _ _ _ (hp ▸ hg) ⟨512 * t.val + (j 0).val, row_lt t (j 0)⟩ (j 1) e (hp ▸ he)).symm
  exact congrArg (fun s => ReferenceIdeal.Hand.val _ s _ _ _ _ _) (congrArg (m ((c : Thread nD τ).loc main_arg2)) (idx4 e))

/-- Every element of the result array is in some tile's block. -/
theorem covered4 (i : S12288x5120.Idx) : ∃ t : Fin cfg0.N, (cfg0.win 4).flush t = true ∧ i ∈ ((cfg0.win 4).blk t).view.set := by
  have hi : (i 0).val < 12288 := (i 0).isLt
  let t : Fin cfg0.N := ⟨(i 0).val / 512, by show _ < 24; omega⟩
  let j : S512x5120.Idx := ix2 ⟨(i 0).val % 512, Nat.mod_lt _ (by decide)⟩ (i 1)
  have h := ((cfg0.win 4).blk t).view.emb_mem_set j
  rw [emb4] at h
  have hi' : (ix2 ⟨512 * t.val + (j 0).val, row_lt t (j 0)⟩ (j 1) : S12288x5120.Idx) = i := funext fun d => Fin.ext (by
    match d with
    | ⟨0, _⟩ => show 512 * ((i 0).val / 512) + (i 0).val % 512 = (i 0).val; omega
    | ⟨1, _⟩ => rfl)
  exact ⟨t, flush0_4 t, hi' ▸ h⟩

/-- The result array after the run is the reference's function of the argument arrays. -/
theorem result (r : PUnit × MemSt nD τ sig (Elt Ideal)) (c : Dev nD) (hg : Words.Parts (gm m c)) (h : RDat.FramePost cfg0 (rdat m) (V m) r) :
    r.2.mem ((c : Thread nD τ).loc main_v0) = Gm m c := by
  obtain ⟨after, hL, hA⟩ := RDat.FramePost.exists_exact h c
  refine (hA 4).trans (((rdat m c).withAfter after).arrAt_eq_of_cover 4 (Gm m c) (fun t hf => ?_) covered4)
  obtain ⟨Y, -, hX⟩ := hL 4 t hf
  funext j
  exact tile_eq m c hg t _ hX j

/-- The run of the program with its result array at the reference's function of the arguments. -/
theorem run (hg : ∀ c, Words.Parts (gm m c)) :
    θ_run defs (onTc (τ := τ) (main (F := Ideal))) ⟨m, fun _ => 0, ρ⟩ fun r => ∀ c : Dev nD,
      r.2.mem ((c : Thread nD τ).loc main_v0) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨result m r c (hg c) h.2.1, h.1.1 c⟩) (θ_run_and (frame m ρ hg) (run_main m ρ hg))

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Gen.ReferenceIdeal.Frame
public import proofs.«01_k».proof.Proof.Gen.Pre_sizes_partition_rows
public import proofs.«01_k».proof.Proof.Sizes
public import proofs.«01_k».proof.Proof.Launch
public import proofs.«01_k».proof.Proof.Ideal.Result
public import Idealize.ShloMosaic.Adequacy
public import Idealize.ShloMosaic.Init

@[expose] public section

namespace Cert.Proof

open Idealize.ShloMosaic Idealize.ShloMosaic.TcCoe Idealize.SL.Sem

/-- The place a scalar load of a size reads is its place of the array of four. -/
theorem idx4 (e : Fin 4) : (Rect.unit (s := Cert.Kernel.S4) (Cert.Kernel.Hand.semOff e) Cert.Kernel.S1.size (Cert.Kernel.Hand.semOff_inb e)).toLoadRect.idx
    (Shape.Idx.first (show 0 < Cert.Kernel.S1.numel by decide)) = Cert.Sizes.at4 e := by
  funext a
  match a with
  | ⟨0, _⟩ => apply Fin.ext; show e.val + 1 * 0 = e.val; omega

/-- The precondition at a launch's memory: on every device the four sizes split the rows. -/
theorem parts_Kernel (m : (ℓ : Loc Cert.Kernel.nD Cert.Kernel.τ Cert.Kernel.sig) → Buf (Elt Bits) ℓ) (h : Pre_Kernel m) (c : Dev Cert.Kernel.nD) :
    Words.Parts (Cert.Kernel.Hand.gm m c) :=
  (funext fun e => congrArg (m ((c : Thread Cert.Kernel.nD Cert.Kernel.τ).loc Cert.Kernel.main_arg1)) (idx4 e) :
    Cert.Kernel.Hand.gm m c = fun e => m ((c : Thread Cert.Kernel.nD Cert.Kernel.τ).loc Cert.Kernel.main_arg1) (Cert.Sizes.at4 e)) ▸
    Cert.Sizes.parts_of_pre _ _ _ _ _ (h c)

/-- The same over the extended reals. -/
theorem parts_KernelIdeal (m : (ℓ : Loc Cert.KernelIdeal.nD Cert.KernelIdeal.τ Cert.KernelIdeal.sig) → Buf (Elt Ideal) ℓ) (h : Pre_KernelIdeal m)
    (c : Dev Cert.KernelIdeal.nD) : Words.Parts (Cert.KernelIdeal.Hand.gm m c) :=
  (funext fun e => congrArg (m ((c : Thread Cert.KernelIdeal.nD Cert.KernelIdeal.τ).loc Cert.KernelIdeal.main_arg1)) (idx4 e) :
    Cert.KernelIdeal.Hand.gm m c = fun e => m ((c : Thread Cert.KernelIdeal.nD Cert.KernelIdeal.τ).loc Cert.KernelIdeal.main_arg1) (Cert.Sizes.at4 e)) ▸
    Cert.Sizes.parts_of_pre _ _ _ _ _ (h c)

/-- Kernel and reference compute the same function of the argument arrays over the extended reals. -/
theorem algebraic : algebraic_KernelIdeal_ReferenceIdeal := fun m g m' g' hpre hargs =>
  ⟨fun c => Cert.KernelIdeal.Hand.Gm m c, Cert.KernelIdeal.Hand.run m g (parts_KernelIdeal m hpre),
    (θ_run _ _ _).mono (fun r h c => ⟨(h c).1.trans (by
      obtain ⟨h0, h1, h2, h3, h4⟩ := hargs c
      rw [h0, h1, h2, h3, h4]), (h c).2⟩) (Cert.ReferenceIdeal.Hand.run m' g')⟩

/-- The certificate's claim: under the precondition the kernel runs, ends, and changes no argument, on bits and over the
    extended reals; so does the reference, under no precondition; and over the extended reals their results are equal. -/
theorem claim : Cert.Claim :=
  ⟨Cert.Kernel.Gen.facts, Cert.KernelIdeal.Gen.facts, Cert.ReferenceIdeal.Gen.facts, Cert.Pre_sizes_partition_rows.Gen.facts,
    fun m g h => Cert.Kernel.Hand.frame m g (parts_Kernel m h),
    fun m g h => Cert.KernelIdeal.Hand.frame m g (parts_KernelIdeal m h),
    fun m g _ => Cert.ReferenceIdeal.Gen.frame m g,
    fun m g _ => Cert.ReferenceIdeal.Gen.frame m g,
    trivial, algebraic⟩

end Cert.Proof

end
